-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![49152, 768]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S32 : Shape := ⟨1, ![32]⟩
abbrev S_ : Shape := ⟨0, ![]⟩
abbrev S1 : Shape := ⟨1, ![1]⟩
abbrev S16 : Shape := ⟨1, ![16]⟩
abbrev S16x1 : Shape := ⟨2, ![16, 1]⟩
abbrev S15 : Shape := ⟨1, ![15]⟩
abbrev S15x1 : Shape := ⟨2, ![15, 1]⟩
abbrev S33 : Shape := ⟨1, ![33]⟩
abbrev S49152x1536 : Shape := ⟨2, ![49152, 1536]⟩
abbrev S3x1536x768 : Shape := ⟨3, ![3, 1536, 768]⟩
abbrev S1536x1536 : Shape := ⟨2, ![1536, 1536]⟩
abbrev S3x2 : Shape := ⟨2, ![3, 2]⟩
abbrev S1x1536x768 : Shape := ⟨3, ![1, 1536, 768]⟩
abbrev S1x1 : Shape := ⟨2, ![1, 1]⟩
abbrev S1x768x768 : Shape := ⟨3, ![1, 768, 768]⟩
abbrev S768x768 : Shape := ⟨2, ![768, 768]⟩

abbrev nBuf : Space → Nat
  | .hbm => 149
  | .vmem => 6
  | .smem => 1
  | _ => 0

abbrev hbmTy0_0 (i : Nat) : BufTy := match i % 128 with
  | 0 => ⟨S1536x768, .bf16⟩
  | 1 => ⟨S768x1536, .bf16⟩
  | 2 => ⟨S32, .i32⟩
  | 3 => ⟨S32, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i1⟩
  | 32 => ⟨S_, .i32⟩
  | 33 => ⟨S_, .i1⟩
  | 34 => ⟨S_, .i1⟩
  | 35 => ⟨S_, .i1⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S1, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i1⟩
  | 58 => ⟨S_, .i32⟩
  | 59 => ⟨S_, .i1⟩
  | 60 => ⟨S_, .i1⟩
  | 61 => ⟨S_, .i1⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S1, .i32⟩
  | 70 => ⟨S_, .i32⟩
  | 71 => ⟨S_, .i32⟩
  | 72 => ⟨S_, .i32⟩
  | 73 => ⟨S_, .i32⟩
  | 74 => ⟨S_, .i32⟩
  | 75 => ⟨S16, .i32⟩
  | 76 => ⟨S16, .i32⟩
  | 77 => ⟨S16, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S16, .i32⟩
  | 85 => ⟨S16, .i32⟩
  | 86 => ⟨S_, .i32⟩
  | 87 => ⟨S16, .i32⟩
  | 88 => ⟨S16, .i1⟩
  | 89 => ⟨S_, .i32⟩
  | 90 => ⟨S16, .i32⟩
  | 91 => ⟨S16, .i1⟩
  | 92 => ⟨S_, .i32⟩
  | 93 => ⟨S_, .i1⟩
  | 94 => ⟨S16, .i1⟩
  | 95 => ⟨S16, .i1⟩
  | 96 => ⟨S16, .i1⟩
  | 97 => ⟨S16, .i32⟩
  | 98 => ⟨S16, .i32⟩
  | 99 => ⟨S16, .i32⟩
  | 100 => ⟨S_, .i32⟩
  | 101 => ⟨S16, .i32⟩
  | 102 => ⟨S16, .i1⟩
  | 103 => ⟨S_, .i32⟩
  | 104 => ⟨S16, .i32⟩
  | 105 => ⟨S16, .i32⟩
  | 106 => ⟨S16, .i32⟩
  | 107 => ⟨S16x1, .i32⟩
  | 108 => ⟨S16, .i32⟩
  | 109 => ⟨S_, .i32⟩
  | 110 => ⟨S_, .i32⟩
  | 111 => ⟨S15, .i32⟩
  | 112 => ⟨S15, .i32⟩
  | 113 => ⟨S15, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S15, .i32⟩
  | 121 => ⟨S15, .i32⟩
  | 122 => ⟨S_, .i32⟩
  | 123 => ⟨S15, .i32⟩
  | 124 => ⟨S15, .i1⟩
  | 125 => ⟨S_, .i32⟩
  | 126 => ⟨S15, .i32⟩
  | 127 => ⟨S15, .i1⟩
  | _ => ⟨S1536x768, .bf16⟩

abbrev hbmTy0_1 (i : Nat) : BufTy := match i % 128 with
  | 0 => ⟨S_, .i32⟩
  | 1 => ⟨S_, .i1⟩
  | 2 => ⟨S15, .i1⟩
  | 3 => ⟨S15, .i1⟩
  | 4 => ⟨S15, .i1⟩
  | 5 => ⟨S15, .i32⟩
  | 6 => ⟨S15, .i32⟩
  | 7 => ⟨S15, .i32⟩
  | 8 => ⟨S_, .i32⟩
  | 9 => ⟨S15, .i32⟩
  | 10 => ⟨S15, .i1⟩
  | 11 => ⟨S_, .i32⟩
  | 12 => ⟨S15, .i32⟩
  | 13 => ⟨S15, .i32⟩
  | 14 => ⟨S15, .i32⟩
  | 15 => ⟨S15x1, .i32⟩
  | 16 => ⟨S15, .i32⟩
  | 17 => ⟨S1, .i32⟩
  | 18 => ⟨S1, .i32⟩
  | 19 => ⟨S33, .i32⟩
  | 20 => ⟨S49152x1536, .bf16⟩
  | _ => ⟨S1536x768, .bf16⟩

abbrev hbmTy (i : Nat) : BufTy := match i / 128 with
  | 0 => hbmTy0_0 i
  | 1 => hbmTy0_1 i
  | _ => ⟨S1536x768, .bf16⟩

abbrev bufTy : (tb : Table) → Fin (tcTables nBuf tb) → BufTy
  | .hbm, ⟨i, _⟩ => hbmTy i
  | .local _ .vmem, ⟨0, _⟩ => ⟨S1536x768, .bf16⟩
  | .local _ .vmem, ⟨1, _⟩ => ⟨S768x1536, .bf16⟩
  | .local _ .vmem, ⟨2, _⟩ => ⟨S3x1536x768, .bf16⟩
  | .local _ .vmem, ⟨3, _⟩ => ⟨S3x1536x768, .bf16⟩
  | .local _ .vmem, ⟨4, _⟩ => ⟨S1536x1536, .bf16⟩
  | .local _ .vmem, ⟨5, _⟩ => ⟨S1536x1536, .bf16⟩
  | .local _ .smem, ⟨0, _⟩ => ⟨S33, .i32⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 3 29 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_v11 : Ref sig .tc := ⟨.hbm, 20, rfl⟩
abbrev main_c_7 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_c_1 : Ref sig .tc := ⟨.hbm, 28, rfl⟩
abbrev main_call0_v4 : Ref sig .tc := ⟨.hbm, 29, rfl⟩
abbrev main_call0_c_2 : Ref sig .tc := ⟨.hbm, 30, rfl⟩
abbrev main_call0_v5 : Ref sig .tc := ⟨.hbm, 31, rfl⟩
abbrev main_call0_c_3 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_c_9 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_10 : Ref sig .tc := ⟨.hbm, 45, rfl⟩
abbrev main_v18 : Ref sig .tc := ⟨.hbm, 46, rfl⟩
abbrev main_c_11 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_c_1 : Ref sig .tc := ⟨.hbm, 54, rfl⟩
abbrev main_call1_v4 : Ref sig .tc := ⟨.hbm, 55, rfl⟩
abbrev main_call1_c_2 : Ref sig .tc := ⟨.hbm, 56, rfl⟩
abbrev main_call1_v5 : Ref sig .tc := ⟨.hbm, 57, rfl⟩
abbrev main_call1_c_3 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_c_13 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_14 : Ref sig .tc := ⟨.hbm, 71, rfl⟩
abbrev main_v25 : Ref sig .tc := ⟨.hbm, 72, rfl⟩
abbrev main_c_15 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_16 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_1 : Ref sig .tc := ⟨.hbm, 86, rfl⟩
abbrev main_call2_v5 : Ref sig .tc := ⟨.hbm, 87, rfl⟩
abbrev main_call2_v6 : Ref sig .tc := ⟨.hbm, 88, rfl⟩
abbrev main_call2_c_2 : Ref sig .tc := ⟨.hbm, 89, rfl⟩
abbrev main_call2_v7 : Ref sig .tc := ⟨.hbm, 90, rfl⟩
abbrev main_call2_v8 : Ref sig .tc := ⟨.hbm, 91, rfl⟩
abbrev main_call2_c_3 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_v30 : Ref sig .tc := ⟨.hbm, 99, rfl⟩
abbrev main_c_17 : Ref sig .tc := ⟨.hbm, 100, rfl⟩
abbrev main_v31 : Ref sig .tc := ⟨.hbm, 101, rfl⟩
abbrev main_v32 : Ref sig .tc := ⟨.hbm, 102, rfl⟩
abbrev main_c_18 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_c_19 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_c_20 : Ref sig .tc := ⟨.hbm, 114, rfl⟩
abbrev main_call3_v0 : Ref sig .tc := ⟨.hbm, 115, rfl⟩
abbrev main_call3_c : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_c_1 : Ref sig .tc := ⟨.hbm, 122, rfl⟩
abbrev main_call3_v5 : Ref sig .tc := ⟨.hbm, 123, rfl⟩
abbrev main_call3_v6 : Ref sig .tc := ⟨.hbm, 124, rfl⟩
abbrev main_call3_c_2 : Ref sig .tc := ⟨.hbm, 125, rfl⟩
abbrev main_call3_v7 : Ref sig .tc := ⟨.hbm, 126, rfl⟩
abbrev main_call3_v8 : Ref sig .tc := ⟨.hbm, 127, rfl⟩
abbrev main_call3_c_3 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_v42 : Ref sig .tc := ⟨.hbm, 135, rfl⟩
abbrev main_c_21 : Ref sig .tc := ⟨.hbm, 136, rfl⟩
abbrev main_v43 : Ref sig .tc := ⟨.hbm, 137, rfl⟩
abbrev main_v44 : Ref sig .tc := ⟨.hbm, 138, rfl⟩
abbrev main_c_22 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (v3 : BitVec 32) : Nat :=
  let c0_i32 : BitVec 32 := 0#32
  let c1_i32_1 : BitVec 32 := 1#32
  let v6 : BitVec 32 := Scalar.muli v3 c1_i32_1
  let v7 : BitVec 32 := Scalar.addi c0_i32 v6
  v7.toNat

def k0_dev2 (v4 : BitVec 32) : Nat :=
  let c0_i32_4 : BitVec 32 := 0#32
  let c1_i32_3 : BitVec 32 := 1#32
  let v8 : BitVec 32 := Scalar.muli v4 c1_i32_3
  let v9 : BitVec 32 := Scalar.addi c0_i32_4 v8
  v9.toNat

def k0_dev3 (v3 : BitVec 32) : Nat :=
  let c0_i32_7 : BitVec 32 := 0#32
  let c1_i32_6 : BitVec 32 := 1#32
  let v10 : BitVec 32 := Scalar.muli v3 c1_i32_6
  let v11 : BitVec 32 := Scalar.addi c0_i32_7 v10
  v11.toNat
def k0_dev4 (v3 : BitVec 32) : Nat :=
  let c0_i32_10 : BitVec 32 := 0#32
  let c1_i32_9 : BitVec 32 := 1#32
  let v12 : BitVec 32 := Scalar.muli v3 c1_i32_9
  let v13 : BitVec 32 := Scalar.addi c0_i32_10 v12
  v13.toNat
def k0_dev5 (v4 : BitVec 32) : Nat :=
  let c0_i32_13 : BitVec 32 := 0#32
  let c1_i32_12 : BitVec 32 := 1#32
  let v14 : BitVec 32 := Scalar.muli v4 c1_i32_12
  let v15 : BitVec 32 := Scalar.addi c0_i32_13 v14
  v15.toNat
def k0_dev6 (v4 : BitVec 32) : Nat :=
  let c0_i32_16 : BitVec 32 := 0#32
  let c1_i32_15 : BitVec 32 := 1#32
  let v16 : BitVec 32 := Scalar.muli v4 c1_i32_15
  let v17 : BitVec 32 := Scalar.addi c0_i32_16 v16
  v17.toNat
def k0_dev7 (v4 : BitVec 32) : Nat :=
  let c0_i32_36 : BitVec 32 := 0#32
  let c1_i32_35 : BitVec 32 := 1#32
  let v28 : BitVec 32 := Scalar.muli v4 c1_i32_35
  let v29 : BitVec 32 := Scalar.addi c0_i32_36 v28
  v29.toNat
def k0_dev8 (v3 : BitVec 32) : Nat :=
  let c0_i32_50 : BitVec 32 := 0#32
  let c1_i32_49 : BitVec 32 := 1#32
  let v38 : BitVec 32 := Scalar.muli v3 c1_i32_49
  let v39 : BitVec 32 := Scalar.addi c0_i32_50 v38
  v39.toNat
def k0_dev9 (v4 : BitVec 32) : Nat :=
  let c0_i32_62 : BitVec 32 := 0#32
  let c1_i32_61 : BitVec 32 := 1#32
  let v48 : BitVec 32 := Scalar.muli v4 c1_i32_61
  let v49 : BitVec 32 := Scalar.addi c0_i32_62 v48
  v49.toNat
def k0_dev10 (v3 : BitVec 32) : Nat :=
  let c0_i32_73 : BitVec 32 := 0#32
  let c1_i32_72 : BitVec 32 := 1#32
  let v58 : BitVec 32 := Scalar.muli v3 c1_i32_72
  let v59 : BitVec 32 := Scalar.addi c0_i32_73 v58
  v59.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1536_i32 : BitVec 32 := 1536#32
  let v73 : BitVec 32 := Scalar.muli v2 c1536_i32
  let c0_i32_80 : BitVec 32 := 0#32
  ![v73.toNat, 0]
def k0_dev11 (v3 : BitVec 32) : Nat :=
  let c0_i32_105 : BitVec 32 := 0#32
  let c1_i32_104 : BitVec 32 := 1#32
  let v87 : BitVec 32 := Scalar.muli v3 c1_i32_104
  let v88 : BitVec 32 := Scalar.addi c0_i32_105 v87
  v88.toNat
def k0_dev12 (v4 : BitVec 32) : Nat :=
  let c0_i32_130 : BitVec 32 := 0#32
  let c1_i32_129 : BitVec 32 := 1#32
  let v101 : BitVec 32 := Scalar.muli v4 c1_i32_129
  let v102 : BitVec 32 := Scalar.addi c0_i32_130 v101
  v102.toNat
@[reducible] def k0_t1_loop : Scf.Loop 32 :=
  let c0_i32_131 : BitVec 32 := 0#32
  let c16_i32 : BitVec 32 := 16#32
  let v103 : BitVec 32 := Scalar.addi c0_i32_131 c16_i32
  let c1_i32_132 : BitVec 32 := 1#32
  ⟨c0_i32_131, v103, c1_i32_132⟩
def k0_off2 (k0_t1 : Fin k0_t1_loop.trips) : Fin 2 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let c0_i32_141 : BitVec 32 := 0#32
  ![v111.toNat, 0]
def k0_off3 (k0_t1 : Fin k0_t1_loop.trips) : Fin 3 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let c0_i32_145 : BitVec 32 := 0#32
  let c0_i32_146 : BitVec 32 := 0#32
  ![v111.toNat, 0, 0]
def k0_cond1 (k0_t1 : Fin k0_t1_loop.trips) : BitVec 1 :=
  let c0_i32_131 : BitVec 32 := 0#32
  let c1_i32_132 : BitVec 32 := 1#32
  let arg16 : BitVec 32 := Scf.iv c0_i32_131 c1_i32_132 k0_t1
  let c1_i32_149 : BitVec 32 := 1#32
  let v122 : BitVec 32 := Scalar.addi arg16 c1_i32_149
  let c16_i32_150 : BitVec 32 := 16#32
  let v123 : BitVec 1 := Scalar.cmpi .slt v122 c16_i32_150
  let v124 : BitVec 32 := Scalar.extui v123
  let c0_i32_151 : BitVec 32 := 0#32
  let v125 : BitVec 1 := Scalar.cmpi .ne v124 c0_i32_151
  v125

def k0_off4 (k0_t1 : Fin k0_t1_loop.trips) (c1_i32_138 : BitVec 32) : Fin 2 → Nat :=
  let c0_i32_131 : BitVec 32 := 0#32
  let c1_i32_132 : BitVec 32 := 1#32
  let arg16 : BitVec 32 := Scf.iv c0_i32_131 c1_i32_132 k0_t1
  let v110 : BitVec 32 := Scalar.addi arg16 c1_i32_138
  let c3_i32 : BitVec 32 := 3#32
  let v111 : BitVec 32 := Scalar.remsi v110 c3_i32
  let c0_i32_196 : BitVec 32 := 0#32
  ![v111.toNat, 0]
def k0_off5 (k0_t1 : Fin k0_t1_loop.trips) (c2_i32_139 : BitVec 32) : Fin 3 → Nat :=
  let c0_i32_131 : BitVec 32 := 0#32
  let c1_i32_132 : BitVec 32 := 1#32
  let arg16 : BitVec 32 := Scf.iv c0_i32_131 c1_i32_132 k0_t1
  let v112 : BitVec 32 := Scalar.addi arg16 c2_i32_139
  let c3_i32_140 : BitVec 32 := 3#32
  let v113 : BitVec 32 := Scalar.remsi v112 c3_i32_140
  let c0_i32_199 : BitVec 32 := 0#32
  let c0_i32_200 : BitVec 32 := 0#32
  ![v113.toNat, 0, 0]
def k0_dev13 (v4 : BitVec 32) : Nat :=
  let c0_i32_198 : BitVec 32 := 0#32
  let c1_i32_197 : BitVec 32 := 1#32
  let v184 : BitVec 32 := Scalar.muli v4 c1_i32_197
  let v185 : BitVec 32 := Scalar.addi c0_i32_198 v184
  v185.toNat
def k0_cond2 (k0_t1 : Fin k0_t1_loop.trips) : BitVec 1 :=
  let c0_i32_131 : BitVec 32 := 0#32
  let c1_i32_132 : BitVec 32 := 1#32
  let arg16 : BitVec 32 := Scf.iv c0_i32_131 c1_i32_132 k0_t1
  let c15_i32 : BitVec 32 := 15#32
  let v126 : BitVec 1 := Scalar.cmpi .slt arg16 c15_i32
  let v127 : BitVec 32 := Scalar.extui v126
  let c0_i32_152 : BitVec 32 := 0#32
  let v128 : BitVec 1 := Scalar.cmpi .ne v127 c0_i32_152
  v128

def k0_off6 (k0_t1 : Fin k0_t1_loop.trips) : Fin 2 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let c0_i32_193 : BitVec 32 := 0#32
  ![v111.toNat, 0]
def k0_off7 (k0_t1 : Fin k0_t1_loop.trips) : Fin 3 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let c0_i32_197 : BitVec 32 := 0#32
  let c0_i32_198 : BitVec 32 := 0#32
  ![v111.toNat, 0, 0]
def k0_cond3 (k0_t1 : Fin k0_t1_loop.trips) : BitVec 1 :=
  let c0_i32_131 : BitVec 32 := 0#32
  let c1_i32_132 : BitVec 32 := 1#32
  let arg16 : BitVec 32 := Scf.iv c0_i32_131 c1_i32_132 k0_t1
  let c1_i32_153 : BitVec 32 := 1#32
  let v129 : BitVec 32 := Scalar.addi arg16 c1_i32_153
  let c15_i32_154 : BitVec 32 := 15#32
  let v130 : BitVec 1 := Scalar.cmpi .slt v129 c15_i32_154
  let v131 : BitVec 32 := Scalar.extui v130
  let c0_i32_155 : BitVec 32 := 0#32
  let v132 : BitVec 1 := Scalar.cmpi .ne v131 c0_i32_155
  v132

def k0_off8 (k0_t1 : Fin k0_t1_loop.trips) (c1_i32_138 : BitVec 32) : Fin 2 → Nat :=
  let c0_i32_131 : BitVec 32 := 0#32
  let c1_i32_132 : BitVec 32 := 1#32
  let arg16 : BitVec 32 := Scf.iv c0_i32_131 c1_i32_132 k0_t1
  let v110 : BitVec 32 := Scalar.addi arg16 c1_i32_138
  let c3_i32 : BitVec 32 := 3#32
  let v111 : BitVec 32 := Scalar.remsi v110 c3_i32
  let c0_i32_196 : BitVec 32 := 0#32
  ![v111.toNat, 0]
def k0_off9 (k0_t1 : Fin k0_t1_loop.trips) (c2_i32_139 : BitVec 32) : Fin 3 → Nat :=
  let c0_i32_131 : BitVec 32 := 0#32
  let c1_i32_132 : BitVec 32 := 1#32
  let arg16 : BitVec 32 := Scf.iv c0_i32_131 c1_i32_132 k0_t1
  let v112 : BitVec 32 := Scalar.addi arg16 c2_i32_139
  let c3_i32_140 : BitVec 32 := 3#32
  let v113 : BitVec 32 := Scalar.remsi v112 c3_i32_140
  let c0_i32_199 : BitVec 32 := 0#32
  let c0_i32_200 : BitVec 32 := 0#32
  ![v113.toNat, 0, 0]
def k0_dev14 (v3 : BitVec 32) : Nat :=
  let c0_i32_198 : BitVec 32 := 0#32
  let c1_i32_197 : BitVec 32 := 1#32
  let v184 : BitVec 32 := Scalar.muli v3 c1_i32_197
  let v185 : BitVec 32 := Scalar.addi c0_i32_198 v184
  v185.toNat
def k0_off10 (k0_t1 : Fin k0_t1_loop.trips) : Fin 2 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let c1_i32_156 : BitVec 32 := 1#32
  ![v111.toNat, 1]
def k0_off11 (k0_t1 : Fin k0_t1_loop.trips) : Fin 3 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let c768_i32_160 : BitVec 32 := 768#32
  let c0_i32_161 : BitVec 32 := 0#32
  ![v111.toNat, 768, 0]
def k0_cond4 (k0_t1 : Fin k0_t1_loop.trips) : BitVec 1 :=
  let c0_i32_131 : BitVec 32 := 0#32
  let c1_i32_132 : BitVec 32 := 1#32
  let arg16 : BitVec 32 := Scf.iv c0_i32_131 c1_i32_132 k0_t1
  let c1_i32_164 : BitVec 32 := 1#32
  let v141 : BitVec 32 := Scalar.addi arg16 c1_i32_164
  let c16_i32_165 : BitVec 32 := 16#32
  let v142 : BitVec 1 := Scalar.cmpi .slt v141 c16_i32_165
  let v143 : BitVec 32 := Scalar.extui v142
  let c0_i32_166 : BitVec 32 := 0#32
  let v144 : BitVec 1 := Scalar.cmpi .ne v143 c0_i32_166
  v144

def k0_off12 (k0_t1 : Fin k0_t1_loop.trips) (c1_i32_138 : BitVec 32) : Fin 2 → Nat :=
  let c0_i32_131 : BitVec 32 := 0#32
  let c1_i32_132 : BitVec 32 := 1#32
  let arg16 : BitVec 32 := Scf.iv c0_i32_131 c1_i32_132 k0_t1
  let v110 : BitVec 32 := Scalar.addi arg16 c1_i32_138
  let c3_i32 : BitVec 32 := 3#32
  let v111 : BitVec 32 := Scalar.remsi v110 c3_i32
  let c1_i32_194 : BitVec 32 := 1#32
  ![v111.toNat, 1]
def k0_off13 (k0_t1 : Fin k0_t1_loop.trips) (c2_i32_139 : BitVec 32) : Fin 3 → Nat :=
  let c0_i32_131 : BitVec 32 := 0#32
  let c1_i32_132 : BitVec 32 := 1#32
  let arg16 : BitVec 32 := Scf.iv c0_i32_131 c1_i32_132 k0_t1
  let v112 : BitVec 32 := Scalar.addi arg16 c2_i32_139
  let c3_i32_140 : BitVec 32 := 3#32
  let v113 : BitVec 32 := Scalar.remsi v112 c3_i32_140
  let c768_i32_197 : BitVec 32 := 768#32
  let c0_i32_198 : BitVec 32 := 0#32
  ![v113.toNat, 768, 0]
def k0_dev15 (v4 : BitVec 32) : Nat :=
  let c0_i32_196 : BitVec 32 := 0#32
  let c1_i32_195 : BitVec 32 := 1#32
  let v184 : BitVec 32 := Scalar.muli v4 c1_i32_195
  let v185 : BitVec 32 := Scalar.addi c0_i32_196 v184
  v185.toNat
def k0_cond5 (k0_t1 : Fin k0_t1_loop.trips) : BitVec 1 :=
  let c0_i32_131 : BitVec 32 := 0#32
  let c1_i32_132 : BitVec 32 := 1#32
  let arg16 : BitVec 32 := Scf.iv c0_i32_131 c1_i32_132 k0_t1
  let c15_i32_167 : BitVec 32 := 15#32
  let v145 : BitVec 1 := Scalar.cmpi .slt arg16 c15_i32_167
  let v146 : BitVec 32 := Scalar.extui v145
  let c0_i32_168 : BitVec 32 := 0#32
  let v147 : BitVec 1 := Scalar.cmpi .ne v146 c0_i32_168
  v147

def k0_off14 (k0_t1 : Fin k0_t1_loop.trips) : Fin 2 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let c1_i32_193 : BitVec 32 := 1#32
  ![v111.toNat, 1]
def k0_off15 (k0_t1 : Fin k0_t1_loop.trips) : Fin 3 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let c768_i32_197 : BitVec 32 := 768#32
  let c0_i32_198 : BitVec 32 := 0#32
  ![v111.toNat, 768, 0]
def k0_cond6 (k0_t1 : Fin k0_t1_loop.trips) : BitVec 1 :=
  let c0_i32_131 : BitVec 32 := 0#32
  let c1_i32_132 : BitVec 32 := 1#32
  let arg16 : BitVec 32 := Scf.iv c0_i32_131 c1_i32_132 k0_t1
  let c1_i32_169 : BitVec 32 := 1#32
  let v148 : BitVec 32 := Scalar.addi arg16 c1_i32_169
  let c15_i32_170 : BitVec 32 := 15#32
  let v149 : BitVec 1 := Scalar.cmpi .slt v148 c15_i32_170
  let v150 : BitVec 32 := Scalar.extui v149
  let c0_i32_171 : BitVec 32 := 0#32
  let v151 : BitVec 1 := Scalar.cmpi .ne v150 c0_i32_171
  v151

def k0_off16 (k0_t1 : Fin k0_t1_loop.trips) (c1_i32_138 : BitVec 32) : Fin 2 → Nat :=
  let c0_i32_131 : BitVec 32 := 0#32
  let c1_i32_132 : BitVec 32 := 1#32
  let arg16 : BitVec 32 := Scf.iv c0_i32_131 c1_i32_132 k0_t1
  let v110 : BitVec 32 := Scalar.addi arg16 c1_i32_138
  let c3_i32 : BitVec 32 := 3#32
  let v111 : BitVec 32 := Scalar.remsi v110 c3_i32
  let c1_i32_194 : BitVec 32 := 1#32
  ![v111.toNat, 1]
def k0_off17 (k0_t1 : Fin k0_t1_loop.trips) (c2_i32_139 : BitVec 32) : Fin 3 → Nat :=
  let c0_i32_131 : BitVec 32 := 0#32
  let c1_i32_132 : BitVec 32 := 1#32
  let arg16 : BitVec 32 := Scf.iv c0_i32_131 c1_i32_132 k0_t1
  let v112 : BitVec 32 := Scalar.addi arg16 c2_i32_139
  let c3_i32_140 : BitVec 32 := 3#32
  let v113 : BitVec 32 := Scalar.remsi v112 c3_i32_140
  let c768_i32_197 : BitVec 32 := 768#32
  let c0_i32_198 : BitVec 32 := 0#32
  ![v113.toNat, 768, 0]
def k0_dev16 (v3 : BitVec 32) : Nat :=
  let c0_i32_196 : BitVec 32 := 0#32
  let c1_i32_195 : BitVec 32 := 1#32
  let v184 : BitVec 32 := Scalar.muli v3 c1_i32_195
  let v185 : BitVec 32 := Scalar.addi c0_i32_196 v184
  v185.toNat
def k0_off18 (k0_t1 : Fin k0_t1_loop.trips) : Fin 1 → Nat :=
  let c2_i32_173 : BitVec 32 := 2#32
  let c0_i32_131 : BitVec 32 := 0#32
  let c1_i32_132 : BitVec 32 := 1#32
  let arg16 : BitVec 32 := Scf.iv c0_i32_131 c1_i32_132 k0_t1
  let v153 : BitVec 32 := Scalar.addi c2_i32_173 arg16
  let c1_i32_174 : BitVec 32 := 1#32
  let v154 : BitVec 32 := Scalar.subi v153 c1_i32_174
  let v155 : Index := Scalar.indexCast v154
  ![v155.toNat]
def k0_off19 (d0 : Dev nD) (k0_t1 : Fin k0_t1_loop.trips) (v156 : BitVec 32) : Fin 2 → Nat :=
  let c0_i32_131 : BitVec 32 := 0#32
  let c1_i32_132 : BitVec 32 := 1#32
  let arg16 : BitVec 32 := Scf.iv c0_i32_131 c1_i32_132 k0_t1
  let c0_i32_172 : BitVec 32 := 0#32
  let v152 : BitVec 1 := Scalar.cmpi .eq arg16 c0_i32_172
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v157 : BitVec 32 := Scalar.select v152 v2 v156
  let c1536_i32_175 : BitVec 32 := 1536#32
  let v158 : BitVec 32 := Scalar.muli v157 c1536_i32_175
  let c0_i32_176 : BitVec 32 := 0#32
  ![v158.toNat, 0]

def k0_chk3 (d0 : Dev nD) (k0_t1 : Fin k0_t1_loop.trips) (v156 : BitVec 32) : Prop :=
  (∀ a, (k0_off19 d0 k0_t1 v156) a + S1536x1536.size a ≤ S49152x1536.size a) ∧
  (∀ (hinb : ∀ a, (k0_off19 d0 k0_t1 v156) a + S1536x1536.size a ≤ S49152x1536.size a), (Rect.unit (s := S49152x1536) (k0_off19 d0 k0_t1 v156) S1536x1536.size hinb).WholeWords (EltTy.packing .bf16))
theorem k0_off19_inb : ∀ (d0 : Dev nD) (k0_t1 : Fin k0_t1_loop.trips) (v156 : BitVec 32) (k0_hw3 : k0_chk3 d0 k0_t1 v156), ∀ a, (k0_off19 d0 k0_t1 v156) a + S1536x1536.size a ≤ S49152x1536.size a := fun d0 k0_t1 v156 k0_hw3 => k0_hw3.1
theorem k0_off19_wordsbf16 : ∀ (d0 : Dev nD) (k0_t1 : Fin k0_t1_loop.trips) (v156 : BitVec 32) (k0_hw3 : k0_chk3 d0 k0_t1 v156), (Rect.unit (s := S49152x1536) (k0_off19 d0 k0_t1 v156) S1536x1536.size (k0_off19_inb d0 k0_t1 v156 k0_hw3)).WholeWords (EltTy.packing .bf16) := fun d0 k0_t1 v156 k0_hw3 => k0_hw3.2 (k0_off19_inb d0 k0_t1 v156 k0_hw3)

def k0_off20 (k0_t1 : Fin k0_t1_loop.trips) : Fin 3 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let v160 : Index := Scalar.indexCast v111
  let c0_177 : Index := 0#32
  let c0_178 : Index := 0#32
  ![v160.toNat, 0, 0]
def k0_off21 (k0_t1 : Fin k0_t1_loop.trips) : Fin 1 → Nat :=
  let c2_i32_182 : BitVec 32 := 2#32
  let c0_i32_131 : BitVec 32 := 0#32
  let c1_i32_132 : BitVec 32 := 1#32
  let arg16 : BitVec 32 := Scf.iv c0_i32_131 c1_i32_132 k0_t1
  let v168 : BitVec 32 := Scalar.addi c2_i32_182 arg16
  let v169 : Index := Scalar.indexCast v168
  ![v169.toNat]
def k0_off22 (v170 : BitVec 32) : Fin 2 → Nat :=
  let c1536_i32_183 : BitVec 32 := 1536#32
  let v171 : BitVec 32 := Scalar.muli v170 c1536_i32_183
  let c0_i32_184 : BitVec 32 := 0#32
  ![v171.toNat, 0]

def k0_chk4 (v170 : BitVec 32) : Prop :=
  (∀ a, (k0_off22 v170) a + S1536x1536.size a ≤ S49152x1536.size a) ∧
  (∀ (hinb : ∀ a, (k0_off22 v170) a + S1536x1536.size a ≤ S49152x1536.size a), (Rect.unit (s := S49152x1536) (k0_off22 v170) S1536x1536.size hinb).WholeWords (EltTy.packing .bf16))
theorem k0_off22_inb : ∀ (v170 : BitVec 32) (k0_hw4 : k0_chk4 v170), ∀ a, (k0_off22 v170) a + S1536x1536.size a ≤ S49152x1536.size a := fun v170 k0_hw4 => k0_hw4.1
theorem k0_off22_wordsbf16 : ∀ (v170 : BitVec 32) (k0_hw4 : k0_chk4 v170), (Rect.unit (s := S49152x1536) (k0_off22 v170) S1536x1536.size (k0_off22_inb v170 k0_hw4)).WholeWords (EltTy.packing .bf16) := fun v170 k0_hw4 => k0_hw4.2 (k0_off22_inb v170 k0_hw4)

def k0_cond7 (k0_t1 : Fin k0_t1_loop.trips) : BitVec 1 :=
  let c0_i32_131 : BitVec 32 := 0#32
  let c1_i32_132 : BitVec 32 := 1#32
  let arg16 : BitVec 32 := Scf.iv c0_i32_131 c1_i32_132 k0_t1
  let c15_i32_185 : BitVec 32 := 15#32
  let v173 : BitVec 1 := Scalar.cmpi .slt arg16 c15_i32_185
  let v174 : BitVec 32 := Scalar.extui v173
  let c0_i32_186 : BitVec 32 := 0#32
  let v175 : BitVec 1 := Scalar.cmpi .ne v174 c0_i32_186
  v175

def k0_cond8 (k0_t1 : Fin k0_t1_loop.trips) : BitVec 1 :=
  let c0_i32_131 : BitVec 32 := 0#32
  let c1_i32_132 : BitVec 32 := 1#32
  let arg16 : BitVec 32 := Scf.iv c0_i32_131 c1_i32_132 k0_t1
  let c0_i32_193 : BitVec 32 := 0#32
  let v184 : BitVec 1 := Scalar.cmpi .sgt arg16 c0_i32_193
  let v185 : BitVec 32 := Scalar.extui v184
  let c0_i32_194 : BitVec 32 := 0#32
  let v186 : BitVec 1 := Scalar.cmpi .ne v185 c0_i32_194
  v186

def k0_off23 (k0_t1 : Fin k0_t1_loop.trips) : Fin 1 → Nat :=
  let c18_i32_202 : BitVec 32 := 18#32
  let c0_i32_131 : BitVec 32 := 0#32
  let c1_i32_132 : BitVec 32 := 1#32
  let arg16 : BitVec 32 := Scf.iv c0_i32_131 c1_i32_132 k0_t1
  let v200 : BitVec 32 := Scalar.addi c18_i32_202 arg16
  let c1_i32_203 : BitVec 32 := 1#32
  let v201 : BitVec 32 := Scalar.subi v200 c1_i32_203
  let v202 : Index := Scalar.indexCast v201
  ![v202.toNat]
def k0_off24 (v203 : BitVec 32) : Fin 2 → Nat :=
  let c1536_i32_204 : BitVec 32 := 1536#32
  let v204 : BitVec 32 := Scalar.muli v203 c1536_i32_204
  let c0_i32_205 : BitVec 32 := 0#32
  ![v204.toNat, 0]

def k0_chk5 (k0_t1 : Fin k0_t1_loop.trips) (v203 : BitVec 32) : Prop :=
  (∀ (k0_h7 : k0_cond7 k0_t1 = 1#1), ∀ (k0_h8 : k0_cond8 k0_t1 = 1#1), ∀ a, (k0_off24 v203) a + S1536x1536.size a ≤ S49152x1536.size a) ∧
  (∀ (k0_h7 : k0_cond7 k0_t1 = 1#1), ∀ (k0_h8 : k0_cond8 k0_t1 = 1#1), ∀ (hinb : ∀ a, (k0_off24 v203) a + S1536x1536.size a ≤ S49152x1536.size a), (Rect.unit (s := S49152x1536) (k0_off24 v203) S1536x1536.size hinb).WholeWords (EltTy.packing .bf16))
theorem k0_off24_inb : ∀ (k0_t1 : Fin k0_t1_loop.trips) (v203 : BitVec 32) (k0_hw5 : k0_chk5 k0_t1 v203), ∀ (k0_h7 : k0_cond7 k0_t1 = 1#1), ∀ (k0_h8 : k0_cond8 k0_t1 = 1#1), ∀ a, (k0_off24 v203) a + S1536x1536.size a ≤ S49152x1536.size a := fun k0_t1 v203 k0_hw5 k0_h7 k0_h8 => k0_hw5.1 k0_h7 k0_h8
theorem k0_off24_wordsbf16 : ∀ (k0_t1 : Fin k0_t1_loop.trips) (v203 : BitVec 32) (k0_hw5 : k0_chk5 k0_t1 v203), ∀ (k0_h7 : k0_cond7 k0_t1 = 1#1), ∀ (k0_h8 : k0_cond8 k0_t1 = 1#1), (Rect.unit (s := S49152x1536) (k0_off24 v203) S1536x1536.size (k0_off24_inb k0_t1 v203 k0_hw5 k0_h7 k0_h8)).WholeWords (EltTy.packing .bf16) := fun k0_t1 v203 k0_hw5 k0_h7 k0_h8 => k0_hw5.2 k0_h7 k0_h8 (k0_off24_inb k0_t1 v203 k0_hw5 k0_h7 k0_h8)

def k0_off25 (k0_t1 : Fin k0_t1_loop.trips) : Fin 3 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let v187 : Index := Scalar.indexCast v111
  let c0_195 : Index := 0#32
  let c0_196 : Index := 0#32
  ![v187.toNat, 0, 0]
def k0_off26 (k0_t1 : Fin k0_t1_loop.trips) : Fin 1 → Nat :=
  let c18_i32 : BitVec 32 := 18#32
  let c0_i32_131 : BitVec 32 := 0#32
  let c1_i32_132 : BitVec 32 := 1#32
  let arg16 : BitVec 32 := Scf.iv c0_i32_131 c1_i32_132 k0_t1
  let v195 : BitVec 32 := Scalar.addi c18_i32 arg16
  let v196 : Index := Scalar.indexCast v195
  ![v196.toNat]
def k0_off27 (v197 : BitVec 32) : Fin 2 → Nat :=
  let c1536_i32_200 : BitVec 32 := 1536#32
  let v198 : BitVec 32 := Scalar.muli v197 c1536_i32_200
  let c0_i32_201 : BitVec 32 := 0#32
  ![v198.toNat, 0]

def k0_chk6 (k0_t1 : Fin k0_t1_loop.trips) (v197 : BitVec 32) : Prop :=
  (∀ (k0_h7 : k0_cond7 k0_t1 = 1#1), ∀ a, (k0_off27 v197) a + S1536x1536.size a ≤ S49152x1536.size a) ∧
  (∀ (k0_h7 : k0_cond7 k0_t1 = 1#1), ∀ (hinb : ∀ a, (k0_off27 v197) a + S1536x1536.size a ≤ S49152x1536.size a), (Rect.unit (s := S49152x1536) (k0_off27 v197) S1536x1536.size hinb).WholeWords (EltTy.packing .bf16))
theorem k0_off27_inb : ∀ (k0_t1 : Fin k0_t1_loop.trips) (v197 : BitVec 32) (k0_hw6 : k0_chk6 k0_t1 v197), ∀ (k0_h7 : k0_cond7 k0_t1 = 1#1), ∀ a, (k0_off27 v197) a + S1536x1536.size a ≤ S49152x1536.size a := fun k0_t1 v197 k0_hw6 k0_h7 => k0_hw6.1 k0_h7
theorem k0_off27_wordsbf16 : ∀ (k0_t1 : Fin k0_t1_loop.trips) (v197 : BitVec 32) (k0_hw6 : k0_chk6 k0_t1 v197), ∀ (k0_h7 : k0_cond7 k0_t1 = 1#1), (Rect.unit (s := S49152x1536) (k0_off27 v197) S1536x1536.size (k0_off27_inb k0_t1 v197 k0_hw6 k0_h7)).WholeWords (EltTy.packing .bf16) := fun k0_t1 v197 k0_hw6 k0_h7 => k0_hw6.2 k0_h7 (k0_off27_inb k0_t1 v197 k0_hw6 k0_h7)

def k0_cond9 (k0_t1 : Fin k0_t1_loop.trips) : BitVec 1 :=
  let c0_i32_131 : BitVec 32 := 0#32
  let c1_i32_132 : BitVec 32 := 1#32
  let arg16 : BitVec 32 := Scf.iv c0_i32_131 c1_i32_132 k0_t1
  let c1_i32_187 : BitVec 32 := 1#32
  let v176 : BitVec 32 := Scalar.addi arg16 c1_i32_187
  let c16_i32_188 : BitVec 32 := 16#32
  let v177 : BitVec 1 := Scalar.cmpi .slt v176 c16_i32_188
  let v178 : BitVec 32 := Scalar.extui v177
  let c0_i32_189 : BitVec 32 := 0#32
  let v179 : BitVec 1 := Scalar.cmpi .ne v178 c0_i32_189
  v179

def k0_off28 (k0_t1 : Fin k0_t1_loop.trips) : Fin 2 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let c0_i32_193 : BitVec 32 := 0#32
  ![v111.toNat, 0]
def k0_off29 (k0_t1 : Fin k0_t1_loop.trips) (c1_i32_138 : BitVec 32) : Fin 3 → Nat :=
  let c0_i32_131 : BitVec 32 := 0#32
  let c1_i32_132 : BitVec 32 := 1#32
  let arg16 : BitVec 32 := Scf.iv c0_i32_131 c1_i32_132 k0_t1
  let v110 : BitVec 32 := Scalar.addi arg16 c1_i32_138
  let c3_i32 : BitVec 32 := 3#32
  let v111 : BitVec 32 := Scalar.remsi v110 c3_i32
  let c0_i32_196 : BitVec 32 := 0#32
  let c0_i32_197 : BitVec 32 := 0#32
  ![v111.toNat, 0, 0]
def k0_off30 (k0_t1 : Fin k0_t1_loop.trips) : Fin 2 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let c1_i32_200 : BitVec 32 := 1#32
  ![v111.toNat, 1]
def k0_off31 (k0_t1 : Fin k0_t1_loop.trips) (c1_i32_138 : BitVec 32) : Fin 3 → Nat :=
  let c0_i32_131 : BitVec 32 := 0#32
  let c1_i32_132 : BitVec 32 := 1#32
  let arg16 : BitVec 32 := Scf.iv c0_i32_131 c1_i32_132 k0_t1
  let v110 : BitVec 32 := Scalar.addi arg16 c1_i32_138
  let c3_i32 : BitVec 32 := 3#32
  let v111 : BitVec 32 := Scalar.remsi v110 c3_i32
  let c768_i32_203 : BitVec 32 := 768#32
  let c0_i32_204 : BitVec 32 := 0#32
  ![v111.toNat, 768, 0]
def k0_cond10 (k0_t1 : Fin k0_t1_loop.trips) : BitVec 1 :=
  let c0_i32_131 : BitVec 32 := 0#32
  let c1_i32_132 : BitVec 32 := 1#32
  let arg16 : BitVec 32 := Scf.iv c0_i32_131 c1_i32_132 k0_t1
  let c1_i32_207 : BitVec 32 := 1#32
  let v196 : BitVec 32 := Scalar.addi arg16 c1_i32_207
  let c14_i32 : BitVec 32 := 14#32
  let v197 : BitVec 1 := Scalar.cmpi .slt v196 c14_i32
  let v198 : BitVec 32 := Scalar.extui v197
  let c0_i32_208 : BitVec 32 := 0#32
  let v199 : BitVec 1 := Scalar.cmpi .ne v198 c0_i32_208
  v199

def k0_dev17 (v3 : BitVec 32) : Nat :=
  let c0_i32_211 : BitVec 32 := 0#32
  let c1_i32_210 : BitVec 32 := 1#32
  let v200 : BitVec 32 := Scalar.muli v3 c1_i32_210
  let v201 : BitVec 32 := Scalar.addi c0_i32_211 v200
  v201.toNat

def k0_chk1 (v3 : BitVec 32) : Prop :=
  ((k0_dev1 v3) < nD) ∧
  ((k0_dev3 v3) < nD) ∧
  ((k0_dev4 v3) < nD) ∧
  ((k0_dev8 v3) < nD) ∧
  ((k0_dev10 v3) < nD) ∧
  ((k0_dev11 v3) < nD) ∧
  (∀ k0_t1 : Fin k0_t1_loop.trips, ∀ (k0_h3 : k0_cond3 k0_t1 = 1#1), (k0_dev14 v3) < nD) ∧
  (∀ k0_t1 : Fin k0_t1_loop.trips, ∀ (k0_h6 : k0_cond6 k0_t1 = 1#1), (k0_dev16 v3) < nD) ∧
  (∀ k0_t1 : Fin k0_t1_loop.trips, ∀ (k0_h9 : k0_cond9 k0_t1 = 1#1), ∀ (k0_h10 : k0_cond10 k0_t1 = 1#1), (k0_dev17 v3) < nD)
theorem k0_dev1_lt : ∀ (v3 : BitVec 32) (k0_hw1 : k0_chk1 v3), (k0_dev1 v3) < nD := fun v3 k0_hw1 => k0_hw1.1
theorem k0_dev3_lt : ∀ (v3 : BitVec 32) (k0_hw1 : k0_chk1 v3), (k0_dev3 v3) < nD := fun v3 k0_hw1 => k0_hw1.2.1
theorem k0_dev4_lt : ∀ (v3 : BitVec 32) (k0_hw1 : k0_chk1 v3), (k0_dev4 v3) < nD := fun v3 k0_hw1 => k0_hw1.2.2.1
theorem k0_dev8_lt : ∀ (v3 : BitVec 32) (k0_hw1 : k0_chk1 v3), (k0_dev8 v3) < nD := fun v3 k0_hw1 => k0_hw1.2.2.2.1
theorem k0_dev10_lt : ∀ (v3 : BitVec 32) (k0_hw1 : k0_chk1 v3), (k0_dev10 v3) < nD := fun v3 k0_hw1 => k0_hw1.2.2.2.2.1
theorem k0_dev11_lt : ∀ (v3 : BitVec 32) (k0_hw1 : k0_chk1 v3), (k0_dev11 v3) < nD := fun v3 k0_hw1 => k0_hw1.2.2.2.2.2.1
theorem k0_dev14_lt : ∀ (v3 : BitVec 32) (k0_hw1 : k0_chk1 v3) (k0_t1 : Fin k0_t1_loop.trips), ∀ (k0_h3 : k0_cond3 k0_t1 = 1#1), (k0_dev14 v3) < nD := fun v3 k0_hw1 k0_t1 k0_h3 => k0_hw1.2.2.2.2.2.2.1 k0_t1 k0_h3
theorem k0_dev16_lt : ∀ (v3 : BitVec 32) (k0_hw1 : k0_chk1 v3) (k0_t1 : Fin k0_t1_loop.trips), ∀ (k0_h6 : k0_cond6 k0_t1 = 1#1), (k0_dev16 v3) < nD := fun v3 k0_hw1 k0_t1 k0_h6 => k0_hw1.2.2.2.2.2.2.2.1 k0_t1 k0_h6
theorem k0_dev17_lt : ∀ (v3 : BitVec 32) (k0_hw1 : k0_chk1 v3) (k0_t1 : Fin k0_t1_loop.trips), ∀ (k0_h9 : k0_cond9 k0_t1 = 1#1), ∀ (k0_h10 : k0_cond10 k0_t1 = 1#1), (k0_dev17 v3) < nD := fun v3 k0_hw1 k0_t1 k0_h9 k0_h10 => k0_hw1.2.2.2.2.2.2.2.2 k0_t1 k0_h9 k0_h10

def k0_cond11 (k0_t1 : Fin k0_t1_loop.trips) : BitVec 1 :=
  let c0_i32_131 : BitVec 32 := 0#32
  let c1_i32_132 : BitVec 32 := 1#32
  let arg16 : BitVec 32 := Scf.iv c0_i32_131 c1_i32_132 k0_t1
  let c1_i32_190 : BitVec 32 := 1#32
  let v180 : BitVec 32 := Scalar.addi arg16 c1_i32_190
  let c15_i32_191 : BitVec 32 := 15#32
  let v181 : BitVec 1 := Scalar.cmpi .slt v180 c15_i32_191
  let v182 : BitVec 32 := Scalar.extui v181
  let c0_i32_192 : BitVec 32 := 0#32
  let v183 : BitVec 1 := Scalar.cmpi .ne v182 c0_i32_192
  v183

def k0_off32 (k0_t1 : Fin k0_t1_loop.trips) : Fin 2 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let c0_i32_193 : BitVec 32 := 0#32
  ![v111.toNat, 0]
def k0_off33 (k0_t1 : Fin k0_t1_loop.trips) (c1_i32_138 : BitVec 32) : Fin 3 → Nat :=
  let c0_i32_131 : BitVec 32 := 0#32
  let c1_i32_132 : BitVec 32 := 1#32
  let arg16 : BitVec 32 := Scf.iv c0_i32_131 c1_i32_132 k0_t1
  let v110 : BitVec 32 := Scalar.addi arg16 c1_i32_138
  let c3_i32 : BitVec 32 := 3#32
  let v111 : BitVec 32 := Scalar.remsi v110 c3_i32
  let c0_i32_196 : BitVec 32 := 0#32
  let c0_i32_197 : BitVec 32 := 0#32
  ![v111.toNat, 0, 0]
def k0_off34 (k0_t1 : Fin k0_t1_loop.trips) : Fin 2 → Nat :=
  let c0_i32_131 : BitVec 32 := 0#32
  let c1_i32_132 : BitVec 32 := 1#32
  let arg16 : BitVec 32 := Scf.iv c0_i32_131 c1_i32_132 k0_t1
  let c1_i32_138 : BitVec 32 := 1#32
  let v110 : BitVec 32 := Scalar.addi arg16 c1_i32_138
  let c3_i32 : BitVec 32 := 3#32
  let v111 : BitVec 32 := Scalar.remsi v110 c3_i32
  let c1_i32_200 : BitVec 32 := 1#32
  ![v111.toNat, 1]
def k0_off35 (k0_t1 : Fin k0_t1_loop.trips) (c1_i32_138 : BitVec 32) : Fin 3 → Nat :=
  let c0_i32_131 : BitVec 32 := 0#32
  let c1_i32_132 : BitVec 32 := 1#32
  let arg16 : BitVec 32 := Scf.iv c0_i32_131 c1_i32_132 k0_t1
  let v110 : BitVec 32 := Scalar.addi arg16 c1_i32_138
  let c3_i32 : BitVec 32 := 3#32
  let v111 : BitVec 32 := Scalar.remsi v110 c3_i32
  let c768_i32_203 : BitVec 32 := 768#32
  let c0_i32_204 : BitVec 32 := 0#32
  ![v111.toNat, 768, 0]
def k0_cond12 (k0_t1 : Fin k0_t1_loop.trips) : BitVec 1 :=
  let c0_i32_131 : BitVec 32 := 0#32
  let c1_i32_132 : BitVec 32 := 1#32
  let arg16 : BitVec 32 := Scf.iv c0_i32_131 c1_i32_132 k0_t1
  let c1_i32_207 : BitVec 32 := 1#32
  let v196 : BitVec 32 := Scalar.addi arg16 c1_i32_207
  let c13_i32 : BitVec 32 := 13#32
  let v197 : BitVec 1 := Scalar.cmpi .slt v196 c13_i32
  let v198 : BitVec 32 := Scalar.extui v197
  let c0_i32_208 : BitVec 32 := 0#32
  let v199 : BitVec 1 := Scalar.cmpi .ne v198 c0_i32_208
  v199

def k0_dev18 (v4 : BitVec 32) : Nat :=
  let c0_i32_211 : BitVec 32 := 0#32
  let c1_i32_210 : BitVec 32 := 1#32
  let v200 : BitVec 32 := Scalar.muli v4 c1_i32_210
  let v201 : BitVec 32 := Scalar.addi c0_i32_211 v200
  v201.toNat

def k0_chk2 (v4 : BitVec 32) : Prop :=
  ((k0_dev2 v4) < nD) ∧
  ((k0_dev5 v4) < nD) ∧
  ((k0_dev6 v4) < nD) ∧
  ((k0_dev7 v4) < nD) ∧
  ((k0_dev9 v4) < nD) ∧
  ((k0_dev12 v4) < nD) ∧
  (∀ k0_t1 : Fin k0_t1_loop.trips, ∀ (k0_h1 : k0_cond1 k0_t1 = 1#1), (k0_dev13 v4) < nD) ∧
  (∀ k0_t1 : Fin k0_t1_loop.trips, ∀ (k0_h4 : k0_cond4 k0_t1 = 1#1), (k0_dev15 v4) < nD) ∧
  (∀ k0_t1 : Fin k0_t1_loop.trips, ∀ (k0_h11 : k0_cond11 k0_t1 = 1#1), ∀ (k0_h12 : k0_cond12 k0_t1 = 1#1), (k0_dev18 v4) < nD)
theorem k0_dev2_lt : ∀ (v4 : BitVec 32) (k0_hw2 : k0_chk2 v4), (k0_dev2 v4) < nD := fun v4 k0_hw2 => k0_hw2.1
theorem k0_dev5_lt : ∀ (v4 : BitVec 32) (k0_hw2 : k0_chk2 v4), (k0_dev5 v4) < nD := fun v4 k0_hw2 => k0_hw2.2.1
theorem k0_dev6_lt : ∀ (v4 : BitVec 32) (k0_hw2 : k0_chk2 v4), (k0_dev6 v4) < nD := fun v4 k0_hw2 => k0_hw2.2.2.1
theorem k0_dev7_lt : ∀ (v4 : BitVec 32) (k0_hw2 : k0_chk2 v4), (k0_dev7 v4) < nD := fun v4 k0_hw2 => k0_hw2.2.2.2.1
theorem k0_dev9_lt : ∀ (v4 : BitVec 32) (k0_hw2 : k0_chk2 v4), (k0_dev9 v4) < nD := fun v4 k0_hw2 => k0_hw2.2.2.2.2.1
theorem k0_dev12_lt : ∀ (v4 : BitVec 32) (k0_hw2 : k0_chk2 v4), (k0_dev12 v4) < nD := fun v4 k0_hw2 => k0_hw2.2.2.2.2.2.1
theorem k0_dev13_lt : ∀ (v4 : BitVec 32) (k0_hw2 : k0_chk2 v4) (k0_t1 : Fin k0_t1_loop.trips), ∀ (k0_h1 : k0_cond1 k0_t1 = 1#1), (k0_dev13 v4) < nD := fun v4 k0_hw2 k0_t1 k0_h1 => k0_hw2.2.2.2.2.2.2.1 k0_t1 k0_h1
theorem k0_dev15_lt : ∀ (v4 : BitVec 32) (k0_hw2 : k0_chk2 v4) (k0_t1 : Fin k0_t1_loop.trips), ∀ (k0_h4 : k0_cond4 k0_t1 = 1#1), (k0_dev15 v4) < nD := fun v4 k0_hw2 k0_t1 k0_h4 => k0_hw2.2.2.2.2.2.2.2.1 k0_t1 k0_h4
theorem k0_dev18_lt : ∀ (v4 : BitVec 32) (k0_hw2 : k0_chk2 v4) (k0_t1 : Fin k0_t1_loop.trips), ∀ (k0_h11 : k0_cond11 k0_t1 = 1#1), ∀ (k0_h12 : k0_cond12 k0_t1 = 1#1), (k0_dev18 v4) < nD := fun v4 k0_hw2 k0_t1 k0_h11 k0_h12 => k0_hw2.2.2.2.2.2.2.2.2 k0_t1 k0_h11 k0_h12

def k0_off36 (v104 : BitVec 32) : Fin 2 → Nat :=
  let c1536_i32_134 : BitVec 32 := 1536#32
  let v105 : BitVec 32 := Scalar.muli v104 c1536_i32_134
  let c0_i32_135 : BitVec 32 := 0#32
  ![v105.toNat, 0]

def k0_chk7 (v104 : BitVec 32) : Prop :=
  (∀ a, (k0_off36 v104) a + S1536x1536.size a ≤ S49152x1536.size a) ∧
  (∀ (hinb : ∀ a, (k0_off36 v104) a + S1536x1536.size a ≤ S49152x1536.size a), (Rect.unit (s := S49152x1536) (k0_off36 v104) S1536x1536.size hinb).WholeWords (EltTy.packing .bf16))
theorem k0_off36_inb : ∀ (v104 : BitVec 32) (k0_hw7 : k0_chk7 v104), ∀ a, (k0_off36 v104) a + S1536x1536.size a ≤ S49152x1536.size a := fun v104 k0_hw7 => k0_hw7.1
theorem k0_off36_wordsbf16 : ∀ (v104 : BitVec 32) (k0_hw7 : k0_chk7 v104), (Rect.unit (s := S49152x1536) (k0_off36 v104) S1536x1536.size (k0_off36_inb v104 k0_hw7)).WholeWords (EltTy.packing .bf16) := fun v104 k0_hw7 => k0_hw7.2 (k0_off36_inb v104 k0_hw7)

def k0_off37 (v107 : BitVec 32) : Fin 2 → Nat :=
  let c1536_i32_136 : BitVec 32 := 1536#32
  let v108 : BitVec 32 := Scalar.muli v107 c1536_i32_136
  let c0_i32_137 : BitVec 32 := 0#32
  ![v108.toNat, 0]

def k0_chk8 (v107 : BitVec 32) : Prop :=
  (∀ a, (k0_off37 v107) a + S1536x1536.size a ≤ S49152x1536.size a) ∧
  (∀ (hinb : ∀ a, (k0_off37 v107) a + S1536x1536.size a ≤ S49152x1536.size a), (Rect.unit (s := S49152x1536) (k0_off37 v107) S1536x1536.size hinb).WholeWords (EltTy.packing .bf16))
theorem k0_off37_inb : ∀ (v107 : BitVec 32) (k0_hw8 : k0_chk8 v107), ∀ a, (k0_off37 v107) a + S1536x1536.size a ≤ S49152x1536.size a := fun v107 k0_hw8 => k0_hw8.1
theorem k0_off37_wordsbf16 : ∀ (v107 : BitVec 32) (k0_hw8 : k0_chk8 v107), (Rect.unit (s := S49152x1536) (k0_off37 v107) S1536x1536.size (k0_off37_inb v107 k0_hw8)).WholeWords (EltTy.packing .bf16) := fun v107 k0_hw8 => k0_hw8.2 (k0_off37_inb v107 k0_hw8)

abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S33 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S49152x768 : Shape := ⟨2, ![49152, 768]⟩
abbrev S768x1536 : Shape := ⟨2, ![768, 1536]⟩
abbrev S49152x1536 : Shape := ⟨2, ![49152, 1536]⟩

abbrev nBuf : Space → Nat
  | .hbm => 4
  | .vmem => 0
  | .smem => 0
  | _ => 0

abbrev bufTy : (tb : Table) → Fin (tcTables nBuf tb) → BufTy
  | .hbm, ⟨0, _⟩ => ⟨S49152x768, .bf16⟩
  | .hbm, ⟨1, _⟩ => ⟨S768x1536, .bf16⟩
  | .hbm, ⟨2, _⟩ => ⟨S49152x1536, .f32⟩
  | .hbm, ⟨3, _⟩ => ⟨S49152x1536, .bf16⟩
  | _, _ => ⟨S49152x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ring.lean ====
/-
  The ring the 32 devices form and what the kernel computes of it: who is next in either direction, whose block
  travels where, and the closed forms of the kernel's own offset and condition chains.

  Directions: `false` is the stream that runs to the right (buffers comm_r, 16 transfers), `true` the one that
  runs to the left (comm_l, 15 transfers). `nx d c` is the device to which device `c` sends in direction `d`;
  `og d k c` the device whose block device `c` holds after `k` transfers of that direction.
-/
module

public import proofs.«01_k».proof.Proof.Gen.KernelIdeal

@[expose] public section

namespace Cert.KernelIdeal.RingMM

open Idealize.ShloMosaic Idealize.SL.Sem

/-- The position of each device on the ring. -/
def pos (c : Dev nD) : Fin 32 :=
  (![0, 31, 24, 7, 8, 23, 16, 15, 1, 30, 25, 6, 9, 22, 17, 14, 2, 29, 26, 5, 10, 21, 18, 13, 3, 28, 27, 4, 11, 20, 19, 12]
    : Fin 32 → Fin 32) c
/-- The device at each position of the ring. -/
def dev (i : Fin 32) : Dev nD :=
  (![0, 8, 16, 24, 27, 19, 11, 3, 4, 12, 20, 28, 31, 23, 15, 7, 6, 14, 22, 30, 29, 21, 13, 5, 2, 10, 18, 26, 25, 17, 9, 1]
    : Fin 32 → Fin 32) i

/-- The device that `c` sends to in direction `d`. -/
def nx (d : Bool) (c : Dev nD) : Dev nD := if d then dev (pos c + 31) else dev (pos c + 1)

/-- The number of transfers of direction `d`. -/
def NT (d : Bool) : ℕ := if d then 15 else 16

/-- The device whose block `c` holds after `k` transfers of direction `d`: `k` steps against that direction. -/
def og (d : Bool) : ℕ → Dev nD → Dev nD
  | 0, c => c
  | k + 1, c => nx (!d) (og d k c)

@[simp] theorem NT_false : NT false = 16 := rfl
@[simp] theorem NT_true : NT true = 15 := rfl
theorem NT_le (d : Bool) : NT d ≤ 16 := by cases d <;> decide
theorem NT_ge (d : Bool) : 15 ≤ NT d := by cases d <;> decide

theorem nx_nx (d : Bool) (c : Dev nD) : nx d (nx (!d) c) = c := by revert c; cases d <;> decide +kernel
theorem nx_nx' (d : Bool) (c : Dev nD) : nx (!d) (nx d c) = c := by revert c; cases d <;> decide +kernel
theorem nx_ne (d : Bool) (c : Dev nD) : nx d c ≠ c := by revert c; cases d <;> decide +kernel

@[simp] theorem og_zero (d : Bool) (c : Dev nD) : og d 0 c = c := rfl
theorem og_succ (d : Bool) (k : ℕ) (c : Dev nD) : og d (k + 1) c = nx (!d) (og d k c) := rfl
theorem og_succ' (d : Bool) (k : ℕ) (c : Dev nD) : og d (k + 1) c = og d k (nx (!d) c) := by
  induction k with
  | zero => rfl
  | succ k ih => rw [og_succ, ih, og_succ]
/-- What the next device holds after one more transfer is what this one holds now. -/
theorem og_nx (d : Bool) (k : ℕ) (c : Dev nD) : og d (k + 1) (nx d c) = og d k c := by
  rw [og_succ', nx_nx']

/-- Every device's block is at some device's after some number of transfers, exactly one of the two directions'. -/
theorem og_cover (c : Dev nD) : ∀ x : Dev nD, (∃ k ∈ Finset.Ico 0 17, og false k c = x) ∨ (∃ k ∈ Finset.Ico 1 16, og true k c = x) := by
  revert c; decide +kernel
theorem og_inj (c : Dev nD) (d : Bool) : ∀ j ∈ Finset.Ico 0 17, ∀ k ∈ Finset.Ico 0 17, og d j c = og d k c → j = k := by
  revert c; cases d <;> decide +kernel
theorem og_disj (c : Dev nD) : ∀ j ∈ Finset.Ico 0 17, ∀ k ∈ Finset.Ico 1 16, og false j c ≠ og true k c := by
  revert c; decide +kernel

/-! ## The table of neighbours and origins the host hands each device -/

/-- The table of device `c`: its left and right neighbours, then the origins of what it receives, in order. -/
def tab (c : Dev nD) (i : ℕ) : Dev nD :=
  if i = 0 then nx true c else if i = 1 then nx false c
    else if i < 18 then og false (i - 1) c else og true (i - 17) c
/-- A device's number as a word. -/
def wd (c : Dev nD) : BitVec 32 := BitVec.ofNat 32 c.val

theorem tab_r (c : Dev nD) (k : ℕ) (h : 1 ≤ k) (h' : k ≤ 16) : tab c (k + 1) = og false k c := by
  unfold tab; rw [if_neg (by omega), if_neg (by omega), if_pos (by omega)]; rfl
theorem tab_l (c : Dev nD) (k : ℕ) (h : 1 ≤ k) : tab c (k + 17) = og true k c := by
  unfold tab; rw [if_neg (by omega), if_neg (by omega), if_neg (by omega)]; rfl

/-! ## The kernel's chains in closed form -/

section Chains

theorem trips_eq : k0_t1_loop.trips = 16 := by decide +kernel

local notation "TT" => Fin k0_t1_loop.trips

theorem lt16 (t : TT) : t.val < 16 := lt_of_lt_of_eq t.isLt trips_eq

theorem cond1_iff (t : TT) : k0_cond1 t = 1#1 ↔ t.val + 1 < 16 := by revert t; decide +kernel
theorem cond2_iff (t : TT) : k0_cond2 t = 1#1 ↔ t.val < 15 := by revert t; decide +kernel
theorem cond3_iff (t : TT) : k0_cond3 t = 1#1 ↔ t.val + 1 < 15 := by revert t; decide +kernel
theorem cond4_iff (t : TT) : k0_cond4 t = 1#1 ↔ t.val + 1 < 16 := by revert t; decide +kernel
theorem cond5_iff (t : TT) : k0_cond5 t = 1#1 ↔ t.val < 15 := by revert t; decide +kernel
theorem cond6_iff (t : TT) : k0_cond6 t = 1#1 ↔ t.val + 1 < 15 := by revert t; decide +kernel
theorem cond7_iff (t : TT) : k0_cond7 t = 1#1 ↔ t.val < 15 := by revert t; decide +kernel
theorem cond8_iff (t : TT) : k0_cond8 t = 1#1 ↔ 0 < t.val := by revert t; decide +kernel
theorem cond9_iff (t : TT) : k0_cond9 t = 1#1 ↔ t.val + 1 < 16 := by revert t; decide +kernel
theorem cond10_iff (t : TT) : k0_cond10 t = 1#1 ↔ t.val + 3 < 16 := by revert t; decide +kernel
theorem cond11_iff (t : TT) : k0_cond11 t = 1#1 ↔ t.val + 1 < 15 := by revert t; decide +kernel
theorem cond12_iff (t : TT) : k0_cond12 t = 1#1 ↔ t.val + 3 < 15 := by revert t; decide +kernel

theorem off2_eq (t : TT) : k0_off2 t = ![(t.val + 1) % 3, 0] := by revert t; decide +kernel
theorem off3_eq (t : TT) : k0_off3 t = ![(t.val + 1) % 3, 0, 0] := by revert t; decide +kernel
theorem off4_eq₁ (t : TT) : k0_off4 t 1#32 = ![(t.val + 1) % 3, 0] := by revert t; decide +kernel
theorem off4_eq₂ (t : TT) : k0_off4 t 2#32 = ![(t.val + 2) % 3, 0] := by revert t; decide +kernel
theorem off5_eq₁ (t : TT) : k0_off5 t 1#32 = ![(t.val + 1) % 3, 0, 0] := by revert t; decide +kernel
theorem off5_eq₂ (t : TT) : k0_off5 t 2#32 = ![(t.val + 2) % 3, 0, 0] := by revert t; decide +kernel
theorem off6_eq (t : TT) : k0_off6 t = ![(t.val + 1) % 3, 0] := by revert t; decide +kernel
theorem off8_eq₁ (t : TT) : k0_off8 t 1#32 = ![(t.val + 1) % 3, 0] := by revert t; decide +kernel
theorem off8_eq₂ (t : TT) : k0_off8 t 2#32 = ![(t.val + 2) % 3, 0] := by revert t; decide +kernel
theorem off9_eq₁ (t : TT) : k0_off9 t 1#32 = ![(t.val + 1) % 3, 0, 0] := by revert t; decide +kernel
theorem off9_eq₂ (t : TT) : k0_off9 t 2#32 = ![(t.val + 2) % 3, 0, 0] := by revert t; decide +kernel
theorem off10_eq (t : TT) : k0_off10 t = ![(t.val + 1) % 3, 1] := by revert t; decide +kernel
theorem off12_eq₁ (t : TT) : k0_off12 t 1#32 = ![(t.val + 1) % 3, 1] := by revert t; decide +kernel
theorem off12_eq₂ (t : TT) : k0_off12 t 2#32 = ![(t.val + 2) % 3, 1] := by revert t; decide +kernel
theorem off13_eq₁ (t : TT) : k0_off13 t 1#32 = ![(t.val + 1) % 3, 768, 0] := by revert t; decide +kernel
theorem off13_eq₂ (t : TT) : k0_off13 t 2#32 = ![(t.val + 2) % 3, 768, 0] := by revert t; decide +kernel
theorem off14_eq (t : TT) : k0_off14 t = ![(t.val + 1) % 3, 1] := by revert t; decide +kernel
theorem off16_eq₁ (t : TT) : k0_off16 t 1#32 = ![(t.val + 1) % 3, 1] := by revert t; decide +kernel
theorem off16_eq₂ (t : TT) : k0_off16 t 2#32 = ![(t.val + 2) % 3, 1] := by revert t; decide +kernel
theorem off17_eq₁ (t : TT) : k0_off17 t 1#32 = ![(t.val + 1) % 3, 768, 0] := by revert t; decide +kernel
theorem off17_eq₂ (t : TT) : k0_off17 t 2#32 = ![(t.val + 2) % 3, 768, 0] := by revert t; decide +kernel
theorem off18_eq (t : TT) : k0_off18 t = ![t.val + 1] := by revert t; decide +kernel
theorem off20_eq (t : TT) : k0_off20 t = ![(t.val + 1) % 3, 0, 0] := by revert t; decide +kernel
theorem off21_eq (t : TT) : k0_off21 t = ![t.val + 2] := by revert t; decide +kernel
theorem off23_eq (t : TT) : k0_cond8 t = 1#1 → k0_off23 t = ![t.val + 17] := by revert t; decide +kernel
theorem off25_eq (t : TT) : k0_off25 t = ![(t.val + 1) % 3, 0, 0] := by revert t; decide +kernel
theorem off26_eq (t : TT) : k0_off26 t = ![t.val + 18] := by revert t; decide +kernel
theorem off28_eq (t : TT) : k0_off28 t = ![(t.val + 1) % 3, 0] := by revert t; decide +kernel
theorem off30_eq (t : TT) : k0_off30 t = ![(t.val + 1) % 3, 1] := by revert t; decide +kernel
theorem off32_eq (t : TT) : k0_off32 t = ![(t.val + 1) % 3, 0] := by revert t; decide +kernel
theorem off34_eq (t : TT) : k0_off34 t = ![(t.val + 1) % 3, 1] := by revert t; decide +kernel

/-- The kernel computes the device it addresses from the table's word: the device whose number the word is. -/
theorem dev_wd (c : Dev nD) : (Scalar.addi (0#32) (Scalar.muli (wd c) 1#32)).toNat = c.val := by revert c; decide +kernel

/-- The row at which device `c`'s block of the result starts. -/
theorem row_wd (c : Dev nD) : (Scalar.muli (wd c) 1536#32).toNat = 1536 * c.val := by revert c; decide +kernel
theorem off1_eq (c : Dev nD) : k0_off1 c = ![1536 * c.val, 0] := by revert c; decide +kernel

end Chains

end Cert.KernelIdeal.RingMM

end
-- ==== Proof.Mem.lean ====
/-
  The two communication buffers, slot by slot and half by half, and what a block of the first argument looks like
  while it lies in a slot.
-/
module

public import proofs.«01_k».proof.Proof.Ring
public import Idealize.ShloMosaic.Lib.Rounds
public import Idealize.ShloMosaic.Lib.Tactic
public import Idealize.ShloMosaic.Lib.ValueLayout
public import Idealize.ShloMosaic.PureOps

@[expose] public section

noncomputable section

namespace Cert.KernelIdeal.RingMM

open Idealize.ShloMosaic Idealize.ShloMosaic.TcCoe Idealize.ShloMosaic.Tactic Idealize.ShloMosaic.ValueIdx
open Idealize.ShloMosaic.RefSig (tileCredit tileCredit_pos)
open Facts₀ Facts
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Views -/

/-- The communication buffer of a direction. -/
@[reducible] def commM : Bool → Memref sig .tc .vmem S3x1536x768 .bf16
  | false => Memref.whole cc0_scratch0
  | true => Memref.whole cc0_scratch1

/-- The slot that transfer `k` reads from. -/
def sl (k : ℕ) : Fin 3 := ⟨k % 3, Nat.mod_lt _ (by norm_num)⟩

theorem half_inb (s : Fin 3) (b : Fin 2) : ∀ a, (![s.val, 768 * b.val, 0] : Fin 3 → ℕ) a + S1x768x768.size a ≤ S3x1536x768.size a := by
  revert s b; decide
theorem slot_inb (s : Fin 3) : ∀ a, (![s.val, 0, 0] : Fin 3 → ℕ) a + S1x1536x768.size a ≤ S3x1536x768.size a := by
  revert s; decide

@[reducible] def halfR (s : Fin 3) (b : Fin 2) : Rect S3x1536x768 := Rect.unit (s := S3x1536x768) ![s.val, 768 * b.val, 0] S1x768x768.size (half_inb s b)
@[reducible] def slotR (s : Fin 3) : Rect S3x1536x768 := Rect.unit (s := S3x1536x768) ![s.val, 0, 0] S1x1536x768.size (slot_inb s)

/-- Half `b` of slot `s`: what one remote copy moves. -/
@[reducible] def half (d : Bool) (s : Fin 3) (b : Fin 2) : Memref sig .tc .vmem S768x768 .bf16 :=
  ((commM d).slice (halfR s b) (fun _ => rfl)).squeeze S768x768 squeezes_S1x768x768_S768x768

@[reducible] def comL (d : Bool) (c : Dev nD) : Loc nD τ sig := (commM d).view.loc (c : Thread nD τ)

/-- The elements of half `b` of slot `s`. -/
def hS (d : Bool) (c : Dev nD) (s : Fin 3) (b : Fin 2) : Finset (Idx (comL d c)) := (half d s b).view.set
/-- The elements of slot `s`. -/
def sS (d : Bool) (c : Dev nD) (s : Fin 3) : Finset (Idx (comL d c)) := ((commM d).access (slotR s)).set

section Sets

theorem mem_half (d : Bool) (s : Fin 3) (b : Fin 2) (j : (commM d).view.ty.shape.Idx) :
    j ∈ (half d s b).view.set ↔ ∃ i ∈ (halfR s b).set, (commM d).view.emb i = j := by
  have e : (half d s b).view.set = (halfR s b).set.map (commM d).view.emb :=
    (View.set_reshape _ _).trans (View.set_slice _ _)
  exact (Finset.ext_iff.1 e j).trans Finset.mem_map

theorem mem_slot (d : Bool) (s : Fin 3) (j : (commM d).view.ty.shape.Idx) :
    j ∈ ((commM d).access (slotR s)).set ↔ ∃ i ∈ (slotR s).set, (commM d).view.emb i = j := by
  have e : ((commM d).access (slotR s)).set = (slotR s).set.map (commM d).view.emb := View.set_slice _ _
  exact (Finset.ext_iff.1 e j).trans Finset.mem_map

theorem mem_halfR (s : Fin 3) (b : Fin 2) (i : S3x1536x768.Idx) :
    i ∈ (halfR s b).set ↔ (i 0).val = s.val ∧ (i 1).val / 768 = b.val := by
  rw [Rect.mem_set_unit]
  have h0 : (i 0).val < 3 := (i 0).isLt
  have h1 : (i 1).val < 1536 := (i 1).isLt
  have h2 : (i 2).val < 768 := (i 2).isLt
  constructor
  · intro h
    have a0 := h 0; have a1 := h 1
    simp at a0 a1
    omega
  · rintro ⟨e0, e1⟩ a
    fin_cases a <;> simp <;> omega

theorem mem_slotR (s : Fin 3) (i : S3x1536x768.Idx) : i ∈ (slotR s).set ↔ (i 0).val = s.val := by
  rw [Rect.mem_set_unit]
  have h0 : (i 0).val < 3 := (i 0).isLt
  have h1 : (i 1).val < 1536 := (i 1).isLt
  have h2 : (i 2).val < 768 := (i 2).isLt
  constructor
  · intro h
    have a0 := h 0
    simp at a0
    omega
  · rintro e0 a
    fin_cases a <;> simp <;> omega

theorem sS_eq (d : Bool) (c : Dev nD) (s : Fin 3) : sS d c s = hS d c s 0 ∪ hS d c s 1 := by
  ext j
  unfold sS hS
  rw [Finset.mem_union, mem_half, mem_half, mem_slot]
  constructor
  · rintro ⟨i, hi, rfl⟩
    rw [mem_slotR] at hi
    have h1 : (i 1).val < 1536 := (i 1).isLt
    by_cases hb : (i 1).val < 768
    · exact .inl ⟨i, (mem_halfR s 0 i).2 ⟨hi, by simp; omega⟩, rfl⟩
    · exact .inr ⟨i, (mem_halfR s 1 i).2 ⟨hi, by simp; omega⟩, rfl⟩
  · rintro (⟨i, hi, rfl⟩ | ⟨i, hi, rfl⟩) <;> exact ⟨i, (mem_slotR s i).2 ((mem_halfR s _ i).1 hi).1, rfl⟩

theorem hS_disj (d : Bool) (c : Dev nD) (s : Fin 3) : Disjoint (hS d c s 0) (hS d c s 1) := by
  rw [Finset.disjoint_left]
  intro j h0 h1
  obtain ⟨i, hi, rfl⟩ := (mem_half d s 0 _).1 h0
  obtain ⟨i', hi', e⟩ := (mem_half d s 1 _).1 h1
  obtain rfl := (commM d).view.emb.injective e
  have := ((mem_halfR s 0 _).1 hi).2; have := ((mem_halfR s 1 _).1 hi').2
  simp_all

theorem sS_disj (d : Bool) (c : Dev nD) {s s' : Fin 3} (h : s ≠ s') : Disjoint (sS d c s) (sS d c s') := by
  rw [Finset.disjoint_left]
  intro j h0 h1
  obtain ⟨i, hi, rfl⟩ := (mem_slot d s _).1 h0
  obtain ⟨i', hi', e⟩ := (mem_slot d s' _).1 h1
  obtain rfl := (commM d).view.emb.injective e
  have := (mem_slotR s _).1 hi; have := (mem_slotR s' _).1 hi'
  exact h (Fin.ext (by omega))

theorem sS_univ (d : Bool) (c : Dev nD) : (Finset.univ : Finset (Fin 3)).biUnion (sS d c) = Finset.univ := by
  ext j
  simp only [Finset.mem_biUnion, Finset.mem_univ, true_and, iff_true]
  cases d
  · exact ⟨⟨(j 0).val, (j 0).isLt⟩, (mem_slot false _ j).2 ⟨j, (mem_slotR _ j).2 rfl, rfl⟩⟩
  · exact ⟨⟨(j 0).val, (j 0).isLt⟩, (mem_slot true _ j).2 ⟨j, (mem_slotR _ j).2 rfl, rfl⟩⟩

end Sets

/-! ## Contents -/

/-- A block of the first argument as a whole buffer of the ring: the same in each slot. -/
def Fb (c : Dev nD) (A : S1536x768.Idx → Elt F .bf16) : (d : Bool) → Buf (Elt F) (comL d c)
  | false => fun j => A (ix2 ⟨(j 1).val, (j 1).isLt⟩ ⟨(j 2).val, (j 2).isLt⟩)
  | true => fun j => A (ix2 ⟨(j 1).val, (j 1).isLt⟩ ⟨(j 2).val, (j 2).isLt⟩)

/-- A block as a load of a slot sees it. -/
def slotVal (A : S1536x768.Idx → Elt F .bf16) : S1x1536x768.Idx → Elt F .bf16 :=
  fun j => A (ix2 ⟨(j 1).val, (j 1).isLt⟩ ⟨(j 2).val, (j 2).isLt⟩)

theorem load_slot (c : Dev nD) (A : S1536x768.Idx → Elt F .bf16) (d : Bool) (s : Fin 3) :
    ((commM d).access (slotR s)).read (Elt F) (Fb c A d) = slotVal A := by
  funext j
  cases d
  all_goals
    show A _ = A _
    congr 1
    funext a
    fin_cases a
    · exact Fin.ext (by show 0 + 1 * (j 1).val = _; simp)
    · exact Fin.ext (by show 0 + 1 * (j 2).val = _; simp)

theorem store_slot (c : Dev nD) (A : S1536x768.Idx → Elt F .bf16) (d : Bool) (s : Fin 3) (f : Buf (Elt F) (comL d c)) :
    ∀ i ∈ sS d c s, ((commM d).access (slotR s)).write (Elt F) f (slotVal A) Finset.univ i = Fb c A d i := by
  intro i hi
  unfold sS at hi
  rw [← load_slot c A d s, View.write_read_eq_piecewise, View.setOn_univ]
  exact Finset.piecewise_eq_of_mem _ _ _ hi

theorem land_half (c c' : Dev nD) (A : S1536x768.Idx → Elt F .bf16) (d : Bool) (s s' : Fin 3) (b : Fin 2) (f : Buf (Elt F) (comL d c')) :
    ∀ i ∈ hS d c' s' b, (half d s' b).view.write (Elt F) f ((half d s b).view.read (Elt F) (Fb c A d)) Finset.univ i = Fb c' A d i := by
  intro i hi
  unfold hS at hi
  have e : (half d s b).view.read (Elt F) (Fb c A d) = (half d s' b).view.read (Elt F) (Fb c' A d) := by
    funext j
    cases d <;> rfl
  rw [e, View.write_read_eq_piecewise, View.setOn_univ]
  exact Finset.piecewise_eq_of_mem _ _ _ hi

/-- What a half's copy leaves in the buffer it writes, as contents of the whole buffer. -/
def landB (c c' : Dev nD) (A : S1536x768.Idx → Elt F .bf16) (d : Bool) (s s' : Fin 3) (b : Fin 2) (f : Buf (Elt F) (comL d c')) : Buf (Elt F) (comL d c') :=
  fun i => (half d s' b).view.write (Elt F) f ((half d s b).view.read (Elt F) (Fb c A d)) Finset.univ i

/-- The units one half's copy adds to a semaphore. -/
def NH : ℕ := tileCredit S768x768 .bf16
theorem half_amount (d : Bool) (s : Fin 3) (b : Fin 2) (sm : DmaSem sig) : (half d s b).view.amount (.dma sm) = NH := by
  cases d <;> rfl
theorem half_credit (d : Bool) (s : Fin 3) (b : Fin 2) : (half d s b).view.dmaCredit = NH := by
  cases d <;> rfl
theorem NH_pos : 0 < NH := tileCredit_pos _ _ (by decide)

end Cert.KernelIdeal.RingMM

end
-- ==== Proof.Sched.lean ====
/-
  The cells of the two rings, who pays each of them what and in which round, and the order in which cores may wait.

  Transfer `k` of direction `d` moves a block from slot `k % 3` of its sender to slot `(k + 1) % 3` of the next device,
  in two halves; it uses the send semaphores of the first slot and the receive semaphores of the second, for the
  `k / 3`-th time. Before it starts, its sender has consumed a unit of its credit semaphore; the unit says that the
  receiver has let go of the slot for that write.
-/
module

public import proofs.«01_k».proof.Proof.Mem
public import Idealize.ShloMosaic.Lib.Pipeline.Regions
public import Idealize.ShloMosaic.Lib.Pipeline.Kit
public import Idealize.ShloMosaic.Lib.Pipeline.RegionTalk
public import Idealize.ShloMosaic.Lib.Release
public import Idealize.ShloMosaic.Lib.Transfers
public import Mathlib.Tactic.Abel
public import Mathlib.Algebra.BigOperators.Intervals

@[expose] public section

noncomputable section

namespace Cert.KernelIdeal.RingMM

open Idealize.ShloMosaic Idealize.ShloMosaic.TcCoe Idealize.ShloMosaic.Tactic Idealize.ShloMosaic.ValueIdx
open Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

/-- A slot of a direction's buffer on a device: what one writer and one reader share. -/
abbrev Key : Type := Dev nD × Bool × Fin 3
/-- The user algebras: the pipeline's cells, the rings' cells, the slots, the local copies' counters. -/
abbrev UX : Type := URounds (GSem nD τ sig) ℕ × (USlots Key × Counters)
abbrev UU : Type := UR sig nD τ × UX

local notation "𝕄" => MT nD τ sig ℕ (Elt F) ℕ UU ℕ

abbrev EP : Emb (UR sig nD τ) (MT nD τ sig ℕ (Elt F) ℕ UU ℕ) := embL
abbrev EX : Emb UX (MT nD τ sig ℕ (Elt F) ℕ UU ℕ) := embR
abbrev ER : Emb (URounds (GSem nD τ sig) ℕ) (MT nD τ sig ℕ (Elt F) ℕ UU ℕ) := (Emb.inl : Emb _ UX).trans EX
abbrev ES : Emb (USlots Key) (MT nD τ sig ℕ (Elt F) ℕ UU ℕ) :=
  ((Emb.inl : Emb _ (USlots Key × Counters)).trans (Emb.inr : Emb _ UX)).trans EX
abbrev EC : UEmb Counters (MT nD τ sig ℕ (Elt F) ℕ UU ℕ) := countersEmb

/-! ## The cells -/

theorem sendN_lt (d : Bool) (k : ℕ) (b : Fin 2) : 3 + 12 * d.toNat + 2 * (k % 3) + b.val < 29 := by
  have := Nat.mod_lt k (show 0 < 3 by norm_num); have := b.isLt; cases d <;> simp [Bool.toNat] <;> omega
theorem recvN_lt (d : Bool) (k : ℕ) (b : Fin 2) : 9 + 12 * d.toNat + 2 * ((k + 1) % 3) + b.val < 29 := by
  have := Nat.mod_lt (k + 1) (show 0 < 3 by norm_num); have := b.isLt; cases d <;> simp [Bool.toNat] <;> omega

/-- The semaphore on which transfer `k`'s half `b` says it has read its source. -/
def sendS (d : Bool) (k : ℕ) (b : Fin 2) : DmaSem sig := ⟨3 + 12 * d.toNat + 2 * (k % 3) + b.val, sendN_lt d k b⟩
/-- The semaphore on which it says it has arrived. -/
def recvS (d : Bool) (k : ℕ) (b : Fin 2) : DmaSem sig := ⟨9 + 12 * d.toNat + 2 * ((k + 1) % 3) + b.val, recvN_lt d k b⟩
def credS (d : Bool) : Sem sig := if d then (1 : Fin 3) else (0 : Fin 3)
def barS : Sem sig := (2 : Fin 3)

abbrev sendC (c : Dev nD) (d : Bool) (k : ℕ) (b : Fin 2) : GSem nD τ sig := ((c : Thread nD τ), .dma (sendS d k b))
abbrev recvC (c : Dev nD) (d : Bool) (k : ℕ) (b : Fin 2) : GSem nD τ sig := ((c : Thread nD τ), .dma (recvS d k b))
abbrev credC (c : Dev nD) (d : Bool) : GSem nD τ sig := ((c : Thread nD τ), .reg (credS d))
abbrev barC (c : Dev nD) : GSem nD τ sig := ((c : Thread nD τ), .reg barS)

/-- The cells of the rings among the transfer semaphores. -/
abbrev isRing (v : ℕ) : Prop := 3 ≤ v ∧ v < 27
def dirOf (v : ℕ) : Bool := decide (15 ≤ v)
def isRecv (v : ℕ) : Bool := decide ((v - 3) / 6 % 2 = 1)
def slotOf (v : ℕ) : ℕ := (v - 3) % 6 / 2
def halfOf (v : ℕ) : Fin 2 := ⟨(v - 3) % 2, Nat.mod_lt _ (by norm_num)⟩
/-- The transfer that uses semaphore `v` in round `r`. -/
def trOf (v r : ℕ) : ℕ := 3 * r + if isRecv v then (slotOf v + 2) % 3 else slotOf v

theorem send_decode (d : Bool) (k : ℕ) (b : Fin 2) (r : ℕ) :
    isRing (sendS d k b).val ∧ dirOf (sendS d k b).val = d ∧ isRecv (sendS d k b).val = false ∧ halfOf (sendS d k b).val = b
      ∧ trOf (sendS d k b).val r = 3 * r + k % 3 := by
  have h := Nat.mod_lt k (show 0 < 3 by norm_num)
  show isRing (3 + 12 * d.toNat + 2 * (k % 3) + b.val) ∧ dirOf (3 + 12 * d.toNat + 2 * (k % 3) + b.val) = d
    ∧ isRecv (3 + 12 * d.toNat + 2 * (k % 3) + b.val) = false ∧ halfOf (3 + 12 * d.toNat + 2 * (k % 3) + b.val) = b
    ∧ trOf (3 + 12 * d.toNat + 2 * (k % 3) + b.val) r = 3 * r + k % 3
  generalize k % 3 = s at h ⊢
  have : ∀ (d : Bool) (b : Fin 2) (s : Fin 3), isRing (3 + 12 * d.toNat + 2 * s.val + b.val) ∧ dirOf (3 + 12 * d.toNat + 2 * s.val + b.val) = d
    ∧ isRecv (3 + 12 * d.toNat + 2 * s.val + b.val) = false ∧ halfOf (3 + 12 * d.toNat + 2 * s.val + b.val) = b
    ∧ slotOf (3 + 12 * d.toNat + 2 * s.val + b.val) = s.val := by decide
  obtain ⟨h1, h2, h3, h4, h5⟩ := this d b ⟨s, h⟩
  refine ⟨h1, h2, h3, h4, ?_⟩
  unfold trOf
  simp only at h3 h5 ⊢
  rw [h3, h5]; rfl

theorem recv_decode (d : Bool) (k : ℕ) (b : Fin 2) (r : ℕ) :
    isRing (recvS d k b).val ∧ dirOf (recvS d k b).val = d ∧ isRecv (recvS d k b).val = true ∧ halfOf (recvS d k b).val = b
      ∧ trOf (recvS d k b).val r = 3 * r + k % 3 := by
  have h := Nat.mod_lt (k + 1) (show 0 < 3 by norm_num)
  have hk : k % 3 = ((k + 1) % 3 + 2) % 3 := by omega
  rw [hk]
  show isRing (9 + 12 * d.toNat + 2 * ((k + 1) % 3) + b.val) ∧ dirOf (9 + 12 * d.toNat + 2 * ((k + 1) % 3) + b.val) = d
    ∧ isRecv (9 + 12 * d.toNat + 2 * ((k + 1) % 3) + b.val) = true ∧ halfOf (9 + 12 * d.toNat + 2 * ((k + 1) % 3) + b.val) = b
    ∧ trOf (9 + 12 * d.toNat + 2 * ((k + 1) % 3) + b.val) r = 3 * r + ((k + 1) % 3 + 2) % 3
  generalize (k + 1) % 3 = s at h ⊢
  have : ∀ (d : Bool) (b : Fin 2) (s : Fin 3), isRing (9 + 12 * d.toNat + 2 * s.val + b.val) ∧ dirOf (9 + 12 * d.toNat + 2 * s.val + b.val) = d
    ∧ isRecv (9 + 12 * d.toNat + 2 * s.val + b.val) = true ∧ halfOf (9 + 12 * d.toNat + 2 * s.val + b.val) = b
    ∧ slotOf (9 + 12 * d.toNat + 2 * s.val + b.val) = s.val := by decide
  obtain ⟨h1, h2, h3, h4, h5⟩ := this d b ⟨s, h⟩
  refine ⟨h1, h2, h3, h4, ?_⟩
  unfold trOf
  simp only at h3 h5 ⊢
  rw [h3, h5]; rfl

theorem sendS_add (d : Bool) (k : ℕ) (b : Fin 2) : sendS d (k + 3) b = sendS d k b := by
  unfold sendS; ext; simp
theorem recvS_add (d : Bool) (k : ℕ) (b : Fin 2) : recvS d (k + 3) b = recvS d k b := by
  unfold recvS; ext; show _ + 2 * ((k + 3 + 1) % 3) + _ = _ + 2 * ((k + 1) % 3) + _
  rw [show (k + 3 + 1) % 3 = (k + 1) % 3 by omega]
theorem sl_add (k : ℕ) : sl (k + 3) = sl k := by unfold sl; ext; simp

/-! ## The schedule -/

variable (A : Dev nD → S1536x768.Idx → Elt F .bf16)

/-- Half `b` of slot `s` on device `c`, at share `q`, at device `x`'s block. -/
def hPt (d : Bool) (c : Dev nD) (s : Fin 3) (b : Fin 2) (q : PosShare TreeShare) (x : Dev nD) : sProp 𝕄 :=
  comL d c ↦[hS d c s b]{q} Fb c (A x) d
/-- A whole slot at device `x`'s block. -/
def sPt (d : Bool) (c : Dev nD) (s : Fin 3) (q : PosShare TreeShare) (x : Dev nD) : sProp 𝕄 :=
  comL d c ↦[sS d c s]{q} Fb c (A x) d

/-- Device `c` lets go of the slot that transfer `k` writes, and its receive cells are ready for it. -/
def relFact (c : Dev nD) (d : Bool) (k : ℕ) : sProp 𝕄 :=
  iprop(released ES (c, d, sl (k + 1)) (k / 3 + 1) ∗ reached ER (recvC c d k 0) (k / 3) ∗ reached ER (recvC c d k 1) (k / 3))
/-- The first `n` of them. -/
def facts (c : Dev nD) (d : Bool) (n : ℕ) : sProp 𝕄 := bigSep (Finset.range n) (relFact c d)

instance relFact_persistent (c : Dev nD) (d : Bool) (k : ℕ) : BI.Persistent (relFact (F := F) c d k) := by unfold relFact; infer_instance
instance facts_persistent (c : Dev nD) (d : Bool) (n : ℕ) : BI.Persistent (facts (F := F) c d n) := by unfold facts; infer_instance
instance relFact_storable (c : Dev nD) (d : Bool) (k : ℕ) : BI.Storable (upEmb : UEmb _ 𝕄) (relFact (F := F) c d k) := by
  unfold relFact; infer_instance
instance facts_storable (c : Dev nD) (d : Bool) (n : ℕ) : BI.Storable (upEmb : UEmb _ 𝕄) (facts (F := F) c d n) := by
  unfold facts; infer_instance

def slotA (k : Key) : sProp 𝕄 := Release.slot (comL k.2.1 k.1) (sS k.2.1 k.1 k.2.2)
instance slotA_storable (k : Key) : BI.Storable (upEmb : UEmb _ 𝕄) (slotA (F := F) k) := by unfold slotA; infer_instance

/-- The entry handshake: the payer's credit cell is open. Duty 0 is paid by the right neighbour, whose credit cell of the
    direction that leads to the left this device raises; duty 1 by the left one. -/
def barPay (c : Dev nD) (u : ℕ) : sProp 𝕄 :=
  if u = 0 then reached ER (credC (nx false c) true) 0 else reached ER (credC (nx true c) false) 0

def recvPay (c : Dev nD) (d : Bool) (k : ℕ) (b : Fin 2) : sProp 𝕄 := hPt A d c (sl (k + 1)) b fullShare (og d (k + 1) c)
def sendPay (c : Dev nD) (d : Bool) (k : ℕ) (b : Fin 2) : sProp 𝕄 := hPt A d c (sl k) b fullShare.left (og d k c)

instance hPt_storable (d : Bool) (c : Dev nD) (s : Fin 3) (b : Fin 2) (q : PosShare TreeShare) (x : Dev nD) :
    BI.Storable (upEmb : UEmb _ 𝕄) (hPt A d c s b q x) := by unfold hPt; infer_instance
instance barPay_storable (c : Dev nD) (u : ℕ) : BI.Storable (upEmb : UEmb _ 𝕄) (barPay (F := F) c u) := by
  unfold barPay; split <;> infer_instance
instance recvPay_storable (c : Dev nD) (d : Bool) (k : ℕ) (b : Fin 2) : BI.Storable (upEmb : UEmb _ 𝕄) (recvPay A c d k b) := by
  unfold recvPay; infer_instance
instance sendPay_storable (c : Dev nD) (d : Bool) (k : ℕ) (b : Fin 2) : BI.Storable (upEmb : UEmb _ 𝕄) (sendPay A c d k b) := by
  unfold sendPay; infer_instance

def dutiesOf : SemLoc sig → ℕ → Finset ℕ
  | .reg s, r => if r = 0 then (if s = barS then {0, 1} else Finset.range (NT (decide (s = credS true)))) else ∅
  | .dma s, r => if isRing s.val ∧ trOf s.val r < NT (dirOf s.val) then {0} else ∅
def amountAt : SemLoc sig → ℕ
  | .reg _ => 1
  | .dma _ => NH
def payOf (c : Dev nD) : SemLoc sig → ℕ → ℕ → sProp 𝕄
  | .reg s, _, u => if s = barS then barPay c u else facts (nx (decide (s = credS true)) c) (decide (s = credS true)) (u + 1)
  | .dma s, r, _ => if isRecv s.val then recvPay A c (dirOf s.val) (trOf s.val r) (halfOf s.val)
      else sendPay A c (dirOf s.val) (trOf s.val r) (halfOf s.val)

def sched : Rounds.Schedule (GSem nD τ sig) ℕ 𝕄 where
  duties g r := if g.1.2 = .tc then dutiesOf g.2 r else ∅
  amount g _ _ := amountAt g.2
  payload g r u := payOf A g.1.1 g.2 r u
  unitless _ := False
  amount_pos g _ _ _ := by
    rcases g with ⟨t, s | s⟩
    · exact Nat.one_pos
    · exact NH_pos

instance payOf_storable (c : Dev nD) (s : SemLoc sig) (r u : ℕ) : BI.Storable (upEmb : UEmb _ 𝕄) (payOf A c s r u) := by
  rcases s with s | s
  · show BI.Storable upEmb (if s = barS then barPay c u else facts (nx (decide (s = credS true)) c) (decide (s = credS true)) (u + 1))
    split <;> infer_instance
  · show BI.Storable upEmb (if isRecv s.val then recvPay A c (dirOf s.val) (trOf s.val r) (halfOf s.val)
      else sendPay A c (dirOf s.val) (trOf s.val r) (halfOf s.val))
    split <;> infer_instance
instance sched_storable (g : GSem nD τ sig) (r u : ℕ) : BI.Storable (upEmb : UEmb _ 𝕄) ((sched A).payload g r u) :=
  payOf_storable A g.1.1 g.2 r u

section Facts
variable (c : Dev nD) (d : Bool) (k : ℕ) (b : Fin 2) (u : ℕ)

theorem duties_send : (sched A).duties (sendC c d k b) (k / 3) = if k < NT d then {0} else ∅ := by
  obtain ⟨h1, h2, -, -, h5⟩ := send_decode d k b (k / 3)
  show (if isRing (sendS d k b).val ∧ trOf (sendS d k b).val (k / 3) < NT (dirOf (sendS d k b).val) then ({0} : Finset ℕ) else ∅) = _
  rw [h2, h5, show 3 * (k / 3) + k % 3 = k by omega]
  by_cases h : k < NT d
  · rw [if_pos ⟨h1, h⟩, if_pos h]
  · rw [if_neg (fun e => h e.2), if_neg h]
theorem duties_recv : (sched A).duties (recvC c d k b) (k / 3) = if k < NT d then {0} else ∅ := by
  obtain ⟨h1, h2, -, -, h5⟩ := recv_decode d k b (k / 3)
  show (if isRing (recvS d k b).val ∧ trOf (recvS d k b).val (k / 3) < NT (dirOf (recvS d k b).val) then ({0} : Finset ℕ) else ∅) = _
  rw [h2, h5, show 3 * (k / 3) + k % 3 = k by omega]
  by_cases h : k < NT d
  · rw [if_pos ⟨h1, h⟩, if_pos h]
  · rw [if_neg (fun e => h e.2), if_neg h]
theorem duties_send_later (h : NT d ≤ k) : ∀ r, k / 3 ≤ r → (sched A).duties (sendC c d k b) r = ∅ := by
  intro r hr
  obtain ⟨h1, h2, -, -, h5⟩ := send_decode d k b r
  show (if isRing (sendS d k b).val ∧ trOf (sendS d k b).val r < NT (dirOf (sendS d k b).val) then ({0} : Finset ℕ) else ∅) = _
  rw [h2, h5, if_neg (fun e => by have := e.2; omega)]
theorem duties_recv_later (h : NT d ≤ k) : ∀ r, k / 3 ≤ r → (sched A).duties (recvC c d k b) r = ∅ := by
  intro r hr
  obtain ⟨h1, h2, -, -, h5⟩ := recv_decode d k b r
  show (if isRing (recvS d k b).val ∧ trOf (recvS d k b).val r < NT (dirOf (recvS d k b).val) then ({0} : Finset ℕ) else ∅) = _
  rw [h2, h5, if_neg (fun e => by have := e.2; omega)]
theorem duties_bar : (sched A).duties (barC c) 0 = {0, 1} := rfl
theorem duties_bar_later : ∀ r, 1 ≤ r → (sched A).duties (barC c) r = ∅ := by
  intro r hr
  show (if r = 0 then _ else (∅ : Finset ℕ)) = _
  rw [if_neg (by omega)]
theorem credS_ne : credS d ≠ barS := by cases d <;> decide
theorem credS_dec : decide (credS d = credS true) = d := by cases d <;> decide
theorem duties_cred : (sched A).duties (credC c d) 0 = Finset.range (NT d) := by
  show (if 0 = 0 then (if credS d = barS then ({0, 1} : Finset ℕ) else Finset.range (NT (decide (credS d = credS true)))) else ∅) = _
  rw [if_pos rfl, if_neg (credS_ne d), credS_dec]
theorem duties_cred_later : ∀ r, 1 ≤ r → (sched A).duties (credC c d) r = ∅ := by
  intro r hr
  show (if r = 0 then _ else (∅ : Finset ℕ)) = _
  rw [if_neg (by omega)]

theorem payload_send : (sched A).payload (sendC c d k b) (k / 3) u = sendPay A c d k b := by
  obtain ⟨-, h2, h3, h4, h5⟩ := send_decode d k b (k / 3)
  show (if isRecv (sendS d k b).val then _ else sendPay A c (dirOf (sendS d k b).val) (trOf (sendS d k b).val (k / 3)) (halfOf (sendS d k b).val)) = _
  rw [h3, h2, h4, h5, show 3 * (k / 3) + k % 3 = k by omega]; rfl
theorem payload_recv : (sched A).payload (recvC c d k b) (k / 3) u = recvPay A c d k b := by
  obtain ⟨-, h2, h3, h4, h5⟩ := recv_decode d k b (k / 3)
  show (if isRecv (recvS d k b).val then recvPay A c (dirOf (recvS d k b).val) (trOf (recvS d k b).val (k / 3)) (halfOf (recvS d k b).val) else _) = _
  rw [h3, h2, h4, h5, show 3 * (k / 3) + k % 3 = k by omega]; rfl
theorem payload_bar : (sched A).payload (barC c) 0 u = barPay c u := rfl
theorem payload_cred : (sched A).payload (credC c d) 0 u = facts (nx d c) d (u + 1) := by
  show (if credS d = barS then _ else facts (nx (decide (credS d = credS true)) c) (decide (credS d = credS true)) (u + 1)) = _
  rw [if_neg (credS_ne d), credS_dec]

theorem expect_send (h : k < NT d) : (sched A).expect (sendC c d k b) (k / 3) = NH := by
  unfold Schedule.expect Schedule.amountOf
  rw [duties_send, if_pos h, Finset.sum_singleton]; rfl
theorem expect_recv (h : k < NT d) : (sched A).expect (recvC c d k b) (k / 3) = NH := by
  unfold Schedule.expect Schedule.amountOf
  rw [duties_recv, if_pos h, Finset.sum_singleton]; rfl
theorem expect_bar : (sched A).expect (barC c) 0 = 2 := rfl
theorem expect_cred : (sched A).expect (credC c d) 0 = NT d := by
  unfold Schedule.expect Schedule.amountOf
  rw [duties_cred]
  show (∑ _ ∈ Finset.range (NT d), 1) = _
  simp

end Facts

/-! ## The order of waits -/

def L (g : GSem nD τ sig) : Finset ℕ := if g.1.2 = .tc then Finset.range 17 else ∅
/-- The level of the `i`-th unit of a credit semaphore. -/
def lvC (i : ℕ) : ℕ := if i < 2 then 2 else i + 1
def lvOf : SemLoc sig → ℕ → ℕ
  | .reg s, i => if s = barS then 1 else lvC i
  | .dma s, i => if isRing s.val ∧ isRecv s.val then i + 3 else 0
def lv (g : GSem nD τ sig) (i : ℕ) : ℕ := lvOf g.2 i

theorem L_of_ne (g : GSem nD τ sig) (h : g.1.2 ≠ .tc) : L g = ∅ := if_neg h
theorem L_tc (c : Dev nD) (sm : SemLoc sig) : L ((c : Thread nD τ), sm) = Finset.range 17 := if_pos rfl
theorem lv_bar (c : Dev nD) (i : ℕ) : lv (barC c) i = 1 := rfl
theorem lv_cred (c : Dev nD) (d : Bool) (i : ℕ) : lv (credC c d) i = lvC i := by
  show (if credS d = barS then 1 else lvC i) = _
  rw [if_neg (credS_ne d)]
theorem lv_recv (c : Dev nD) (d : Bool) (k : ℕ) (b : Fin 2) (i : ℕ) : lv (recvC c d k b) i = i + 3 := by
  obtain ⟨h1, -, h3, -, -⟩ := recv_decode d k b 0
  show (if isRing (recvS d k b).val ∧ isRecv (recvS d k b).val then i + 3 else 0) = _
  rw [if_pos ⟨h1, h3⟩]
theorem lv_send (c : Dev nD) (d : Bool) (k : ℕ) (b : Fin 2) (i : ℕ) : lv (sendC c d k b) i = 0 := by
  obtain ⟨h1, -, h3, -, -⟩ := send_decode d k b 0
  show (if isRing (sendS d k b).val ∧ isRecv (sendS d k b).val then i + 3 else 0) = _
  rw [if_neg (fun e => by rw [h3] at e; exact absurd e.2 (by decide))]

/-- Everything owed is above level `l`. -/
def Above (l : ℕ) (O : CellTallies nD τ sig ℕ) : Prop := ∀ g u, 0 < O g u → u ∈ L g ∧ l < lv g u

theorem Above.zero (l : ℕ) : Above l 0 := fun g u h => absurd h (Nat.lt_irrefl 0)
theorem Above.add {l : ℕ} {O O' : CellTallies nD τ sig ℕ} (h : Above l O) (h' : Above l O') : Above l (O + O') := fun g u hg => by
  have hg : 0 < O g u + O' g u := hg
  rcases Nat.eq_zero_or_pos (O g u) with e | e
  · exact h' g u (by omega)
  · exact h g u e
theorem Above.tally {l : ℕ} {g : GSem nD τ sig} {i n : ℕ} (hL : i ∈ L g) (hl : l < lv g i) : Above l (tallyAt g i n) := fun g' u hg => by
  rw [tallyAt_apply] at hg
  by_cases h : g' = g ∧ u = i
  · rw [h.1, h.2]; exact ⟨hL, hl⟩
  · rw [if_neg h] at hg; exact absurd hg (Nat.lt_irrefl 0)
theorem Above.sum {l : ℕ} {ι : Type} [DecidableEq ι] (s : Finset ι) (f : ι → CellTallies nD τ sig ℕ) (h : ∀ j ∈ s, Above l (f j)) :
    Above l (∑ j ∈ s, f j) := by
  induction s using Finset.induction_on with
  | empty => rw [Finset.sum_empty]; exact Above.zero l
  | insert a s ha ih =>
    rw [Finset.sum_insert ha]
    exact (h a (Finset.mem_insert_self _ _)).add (ih fun j hj => h j (Finset.mem_insert_of_mem hj))

theorem Above.mayWait {l : ℕ} {O : CellTallies nD τ sig ℕ} (h : Above l O) (c : Dev nD) (sm : SemLoc sig) (i : ℕ) (hi : i < 17)
    (hl : lv ((c : Thread nD τ), sm) i ≤ l) : (levAts L lv : sProp 𝕄) ⊢ MayWait (c : Thread nD τ) sm i O :=
  MayOwe.of_cut (L := L) (lev := lv) l
    (fun p hp => by rw [Finset.mem_singleton.mp hp, L_tc]; exact Finset.mem_range.2 hi)
    (fun g u hg => (h g u hg).1)
    (fun p hp => by rw [Finset.mem_singleton.mp hp]; exact hl)
    (fun g u hg => (h g u hg).2)

/-- What device `c` owes of the transfers' half `b` from the `k`-th on, -/
def OT (d : Bool) (b : Fin 2) (c : Dev nD) (k : ℕ) : CellTallies nD τ sig ℕ := ∑ j ∈ Finset.Ico k (NT d), tallyAt (recvC (nx d c) d j b) j NH
/-- and of the units that let its neighbour send to it. -/
def OG (d : Bool) (c : Dev nD) (k : ℕ) : CellTallies nD τ sig ℕ := ∑ j ∈ Finset.Ico k (NT d), tallyAt (credC (nx (!d) c) d) j 1

theorem OT_peel (d : Bool) (b : Fin 2) (c : Dev nD) {k : ℕ} (h : k < NT d) : OT d b c k = OT d b c (k + 1) + tallyAt (recvC (nx d c) d k b) k NH := by
  unfold OT; rw [Finset.sum_eq_sum_Ico_succ_bot h, add_comm]
theorem OG_peel (d : Bool) (c : Dev nD) {k : ℕ} (h : k < NT d) : OG d c k = OG d c (k + 1) + tallyAt (credC (nx (!d) c) d) k 1 := by
  unfold OG; rw [Finset.sum_eq_sum_Ico_succ_bot h, add_comm]
theorem OT_done (d : Bool) (b : Fin 2) (c : Dev nD) {k : ℕ} (h : NT d ≤ k) : OT d b c k = 0 := by
  unfold OT; rw [Finset.Ico_eq_empty (by omega), Finset.sum_empty]
theorem OG_done (d : Bool) (c : Dev nD) {k : ℕ} (h : NT d ≤ k) : OG d c k = 0 := by
  unfold OG; rw [Finset.Ico_eq_empty (by omega), Finset.sum_empty]
theorem OT_above (d : Bool) (b : Fin 2) (c : Dev nD) (k l : ℕ) (h : k < NT d → l < k + 3) : Above l (OT d b c k) :=
  Above.sum _ _ fun j hj => by
    rw [Finset.mem_Ico] at hj
    have := NT_le d
    exact Above.tally (by rw [L_tc]; exact Finset.mem_range.2 (by omega)) (by rw [lv_recv]; have := h (by omega); omega)
theorem OG_above (d : Bool) (c : Dev nD) (k l : ℕ) (h : k < NT d → l < lvC k) : Above l (OG d c k) :=
  Above.sum _ _ fun j hj => by
    rw [Finset.mem_Ico] at hj
    have := NT_le d
    exact Above.tally (by rw [L_tc]; exact Finset.mem_range.2 (by omega)) (by
      rw [lv_cred]; have := h (by omega); unfold lvC at this ⊢; split at this <;> split <;> omega)

/-- All that device `c` owes once the entry handshake is done: units from `g₀`, `g₁` on, transfers from `t₀₀`, … on. -/
def OO (c : Dev nD) (g₀ g₁ t₀₀ t₀₁ t₁₀ t₁₁ : ℕ) : CellTallies nD τ sig ℕ :=
  OG false c g₀ + OG true c g₁ + OT false 0 c t₀₀ + OT false 1 c t₀₁ + OT true 0 c t₁₀ + OT true 1 c t₁₁

theorem OO_above (c : Dev nD) (l g₀ g₁ t₀₀ t₀₁ t₁₀ t₁₁ : ℕ) (hg₀ : g₀ < 16 → l < lvC g₀) (hg₁ : g₁ < 15 → l < lvC g₁)
    (h₀₀ : t₀₀ < 16 → l < t₀₀ + 3) (h₀₁ : t₀₁ < 16 → l < t₀₁ + 3) (h₁₀ : t₁₀ < 15 → l < t₁₀ + 3) (h₁₁ : t₁₁ < 15 → l < t₁₁ + 3) :
    Above l (OO c g₀ g₁ t₀₀ t₀₁ t₁₀ t₁₁) :=
  (((((OG_above false c g₀ l hg₀).add (OG_above true c g₁ l hg₁)).add (OT_above false 0 c t₀₀ l h₀₀)).add (OT_above false 1 c t₀₁ l h₀₁)).add
    (OT_above true 0 c t₁₀ l h₁₀)).add (OT_above true 1 c t₁₁ l h₁₁)
theorem OO_done (c : Dev nD) : OO c 16 15 16 16 15 15 = 0 := by
  unfold OO
  rw [OG_done false c (k := 16) le_rfl, OG_done true c (k := 15) le_rfl, OT_done false 0 c (k := 16) le_rfl, OT_done false 1 c (k := 16) le_rfl,
    OT_done true 0 c (k := 15) le_rfl, OT_done true 1 c (k := 15) le_rfl]
  simp

section Peel
variable (c : Dev nD) {g₀ g₁ t₀₀ t₀₁ t₁₀ t₁₁ : ℕ}
theorem OO_g₀ (h : g₀ < 16) : OO c g₀ g₁ t₀₀ t₀₁ t₁₀ t₁₁ = OO c (g₀ + 1) g₁ t₀₀ t₀₁ t₁₀ t₁₁ + tallyAt (credC (nx (!false) c) false) g₀ 1 := by
  unfold OO; rw [OG_peel false c (k := g₀) h]; abel
theorem OO_g₁ (h : g₁ < 15) : OO c g₀ g₁ t₀₀ t₀₁ t₁₀ t₁₁ = OO c g₀ (g₁ + 1) t₀₀ t₀₁ t₁₀ t₁₁ + tallyAt (credC (nx (!true) c) true) g₁ 1 := by
  unfold OO; rw [OG_peel true c (k := g₁) h]; abel
theorem OO_t₀₀ (h : t₀₀ < 16) : OO c g₀ g₁ t₀₀ t₀₁ t₁₀ t₁₁ = OO c g₀ g₁ (t₀₀ + 1) t₀₁ t₁₀ t₁₁ + tallyAt (recvC (nx false c) false t₀₀ 0) t₀₀ NH := by
  unfold OO; rw [OT_peel false 0 c (k := t₀₀) h]; abel
theorem OO_t₀₁ (h : t₀₁ < 16) : OO c g₀ g₁ t₀₀ t₀₁ t₁₀ t₁₁ = OO c g₀ g₁ t₀₀ (t₀₁ + 1) t₁₀ t₁₁ + tallyAt (recvC (nx false c) false t₀₁ 1) t₀₁ NH := by
  unfold OO; rw [OT_peel false 1 c (k := t₀₁) h]; abel
theorem OO_t₁₀ (h : t₁₀ < 15) : OO c g₀ g₁ t₀₀ t₀₁ t₁₀ t₁₁ = OO c g₀ g₁ t₀₀ t₀₁ (t₁₀ + 1) t₁₁ + tallyAt (recvC (nx true c) true t₁₀ 0) t₁₀ NH := by
  unfold OO; rw [OT_peel true 0 c (k := t₁₀) h]; abel
theorem OO_t₁₁ (h : t₁₁ < 15) : OO c g₀ g₁ t₀₀ t₀₁ t₁₀ t₁₁ = OO c g₀ g₁ t₀₀ t₀₁ t₁₀ (t₁₁ + 1) + tallyAt (recvC (nx true c) true t₁₁ 1) t₁₁ NH := by
  unfold OO; rw [OT_peel true 1 c (k := t₁₁) h]; abel
end Peel

end Cert.KernelIdeal.RingMM

end
-- ==== Proof.Table.lean ====
/-
  The table of devices as one computation on words: its entries are the ring's.
-/
module

public import proofs.«01_k».proof.Proof.Ring
public import proofs.«01_k».proof.Proof.Sched
public import proofs.«01_k».proof.Proof.Gen.KernelIdeal.Regions

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-- The device at each place of the ring. -/
def ringAt : IVec S32 32 := fun i => lit0 (S32.rowMajor i)

/-- The place of each device on the ring. -/
def placeOf : IVec S32 32 := fun i => lit1 (S32.rowMajor i)

/-- Each word, moved up by 32 where it is negative. -/
def wrap {s : Shape} (x : IVec s 32) : IVec s 32 := select (cmpi .slt x (constantI s 32 0#32)) (addi x (constantI s 32 32#32)) x

/-- The divisor 32, as the host's remainder function takes it. -/
def divisor (s : Shape) : IVec s 32 :=
  select (cmpi .eq (constantI s 32 32#32) (constantI s 32 0#32)) (constantI s 32 1#32) (constantI s 32 32#32)

/-- Each word's remainder by 32, between 0 and 31. -/
def mod32 {s : Shape} (x : IVec s 32) : IVec s 32 :=
  select
    (andi (cmpi .ne (cmpi .slt (Host.remsi x (divisor s)) (constantI s 32 0#32)) (cmpi .slt (divisor s) (constantI s 32 0#32)))
      (cmpi .ne (Host.remsi x (divisor s)) (constantI s 32 0#32)))
    (addi (Host.remsi x (divisor s)) (divisor s)) (Host.remsi x (divisor s))

/-- The entry of a table of 32 words at a word. -/
def entry (t : IVec S32 32) (k : IVec S_ 32) : IVec S_ 32 :=
  shapeCast S_ (Host.dynamicSlice S1 t (fun _ => (k (Shape.Idx.first Gen.h_S_)).toInt) Gen.sliceFits_S32_S1) Gen.shapeCasts_S1_S_

/-- The device's own place on the ring. -/
def place (c : Dev nD) : IVec S_ 32 :=
  entry placeOf (wrap (Host.remui (Host.divui (constantI S_ 32 (Dev.word c)) (constantI S_ 32 1#32)) (constantI S_ 32 32#32)))

/-- The place before a place, up to the remainder by 32. -/
def before (p : IVec S_ 32) : IVec S_ 32 := subi (addi p (constantI S_ 32 32#32)) (constantI S_ 32 1#32)

/-- The place after a place, up to the remainder by 32. -/
def behind (p : IVec S_ 32) : IVec S_ 32 := addi p (constantI S_ 32 1#32)

/-- The device at a place of the ring. -/
def devAt (p : IVec S_ 32) : IVec S_ 32 := entry ringAt (wrap (mod32 p))

/-- The sixteen places that lead down from a place. -/
def down (p : IVec S_ 32) : IVec S16 32 := subi (broadcastInDim S16 ![] Gen.bcast_S_S16 (before p)) (iotaInDim S16 32 0)

/-- The fifteen places that lead up from a place. -/
def up (p : IVec S_ 32) : IVec S15 32 := addi (broadcastInDim S15 ![] Gen.bcast_S_S15 (behind p)) (iotaInDim S15 32 0)

/-- The devices at sixteen places. -/
def devs16 (p : IVec S16 32) : IVec S16 32 :=
  Host.gather gather_S32_S16x1_S16_n_0_n_n_0_1_1 ringAt (broadcastInDim S16x1 ![0] Gen.bcast_S16_S16x1_0 (wrap (mod32 p)))

/-- The devices at fifteen places. -/
def devs15 (p : IVec S15 32) : IVec S15 32 :=
  Host.gather gather_S32_S15x1_S15_n_0_n_n_0_1_1 ringAt (broadcastInDim S15x1 ![0] Gen.bcast_S15_S15x1_0 (wrap (mod32 p)))

/-- The 33 words laid end to end: two neighbours, sixteen devices, fifteen devices. -/
def words (l r : IVec S_ 32) (a : IVec S16 32) (b : IVec S15 32) : IVec S33 32 :=
  concatenate S33 0 [⟨S1, broadcastInDim S1 ![] Gen.bcast_S_S1 l⟩, ⟨S1, broadcastInDim S1 ![] Gen.bcast_S_S1 r⟩, ⟨S16, a⟩, ⟨S15, b⟩]
    Gen.concatenates_S1_S1_S16_S15_S33_d0

/-- The table of a device from its place. -/
def tabFrom (p : IVec S_ 32) : IVec S33 32 := words (devAt (before p)) (devAt (behind p)) (devs16 (down p)) (devs15 (up p))

/-- A device's place is its place on the ring. -/
theorem place_eq : ∀ c : Dev nD, place c = fun _ => BitVec.ofNat 32 (pos c).val := by
  intro c; funext i
  rw [Subsingleton.elim i (Shape.Idx.first Gen.h_S_)]
  revert c
  decide +kernel

/-- The table of the device at each place. -/
theorem tabFrom_eq : ∀ (c : Dev nD) (i : Fin 33), tabFrom (fun _ => BitVec.ofNat 32 (pos c).val) (fun a => ⟨i.val, by fin_cases a; exact i.isLt⟩) = wd (tab c i.val) := by
  decide +kernel

end Cert.KernelIdeal.RingMM

end
-- ==== Proof.Steps.lean ====
/-
  The rings' steps: one theorem per kind of operation, over what a core holds of one direction.

  `c` is the device that runs, `d` the direction, `k` the number of the transfer (or of the unit) the step is about.
-/
module

public import proofs.«01_k».proof.Proof.Sched
public import Idealize.SL.BI.BigOpNat

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (A : Dev nD → S1536x768.Idx → Elt F .bf16)

/-! ## What every core knows -/

def isCell : SemLoc sig → Bool
  | .reg _ => true
  | .dma s => decide (isRing s.val)
/-- The rings' cells on all devices. -/
@[irreducible] def ringCells : Finset (GSem nD τ sig) := Finset.univ.filter fun g => g.1.2 = .tc ∧ isCell g.2 = true

/-- The levels of all cells. -/
@[irreducible] def Lev : sProp 𝕄 := levAts L lv
instance Lev_persistent : BI.Persistent (Lev (F := F)) := by unfold Lev; infer_instance
theorem Lev_eq : (Lev : sProp 𝕄) = levAts L lv := by unfold Lev; rfl
theorem Lev_wait {l : ℕ} {O : CellTallies nD τ sig ℕ} (h : Above l O) (c : Dev nD) (sm : SemLoc sig) (i : ℕ) (hi : i < 17)
    (hl : lv ((c : Thread nD τ), sm) i ≤ l) : (Lev : sProp 𝕄) ⊢ MayWait (c : Thread nD τ) sm i O := by
  rw [Lev_eq]; exact h.mayWait c sm i hi hl

/-- Every cell's invariant, every slot's, and the levels. Persistent. -/
def ctx (K : GSem nD τ sig → ℕ) (κ : Key → ℕ) : sProp 𝕄 :=
  iprop(bigSep ringCells (fun g => cellInv ER (sched A) (K g) g) ∗ bigSep Finset.univ (fun k : Key => slotInv ES (κ k) k (slotA k)) ∗ Lev)

instance ctx_persistent (K : GSem nD τ sig → ℕ) (κ : Key → ℕ) : BI.Persistent (ctx A K κ) := by unfold ctx; infer_instance

theorem bigSep_get {I : Type} [DecidableEq I] {s : Finset I} {i : I} (h : i ∈ s) (Φ : I → sProp 𝕄) : (bigSep s Φ : sProp 𝕄) ⊢ Φ i := BI.bigSep_elim h

theorem bigSep_join {I : Type} [DecidableEq I] {s t : Finset I} (h : t ⊆ s) (Φ : I → sProp 𝕄) : (iprop((bigSep t Φ : sProp 𝕄) ∗ (bigSep (s \ t) Φ : sProp 𝕄)) : sProp 𝕄) ⊢ bigSep s Φ :=
  Entails.of_eq (bigSep_sdiff_split h).symm

section Ctx
variable {K : GSem nD τ sig → ℕ} {κ : Key → ℕ}
theorem ctx_cell (g : GSem nD τ sig) (h : g ∈ ringCells) : ctx A K κ ⊢ cellInv ER (sched A) (K g) g := by
  unfold ctx
  iintro ⟨H, -, -⟩
  iapply (bigSep_get h (fun g => cellInv ER (sched A) (K g) g))
  iexact H
theorem ctx_slot (k : Key) : ctx A K κ ⊢ slotInv ES (κ k) k (slotA k) := by
  unfold ctx
  iintro ⟨-, H, -⟩
  iapply (bigSep_get (Finset.mem_univ k) (fun k : Key => slotInv ES (κ k) k (slotA k)))
  iexact H
theorem ctx_lev : ctx A K κ ⊢ Lev := by
  unfold ctx
  iintro ⟨-, -, H⟩
  iexact H
theorem mem_ringCells (g : GSem nD τ sig) (h : g.1.2 = .tc) (h' : isCell g.2 = true) : g ∈ ringCells := by
  unfold ringCells; simp [h, h']
theorem sendC_mem (c : Dev nD) (d : Bool) (k : ℕ) (b : Fin 2) : sendC c d k b ∈ ringCells :=
  mem_ringCells _ rfl (decide_eq_true (send_decode d k b 0).1)
theorem recvC_mem (c : Dev nD) (d : Bool) (k : ℕ) (b : Fin 2) : recvC c d k b ∈ ringCells :=
  mem_ringCells _ rfl (decide_eq_true (recv_decode d k b 0).1)
theorem reg_mem (c : Dev nD) (s : Sem sig) : ((c : Thread nD τ), SemLoc.reg s) ∈ ringCells :=
  mem_ringCells _ rfl rfl
end Ctx

/-! ## What a core holds of a direction -/

section St
variable (c : Dev nD) (d : Bool) (b : Fin 2) (k : ℕ)

def rcvAt : sProp 𝕄 := iprop(atPos ER (recvC c d k b) (k / 3) ∅ 0 ∗ reached ER (recvC c d k b) (k / 3))
def sndAt : sProp 𝕄 := iprop(atPos ER (sendC c d k b) (k / 3) ∅ 0 ∗ reached ER (sendC c d k b) (k / 3))
def rdAt : sProp 𝕄 := readerAt ES (c, d, sl (k + 1)) (k / 3)

/-- The receive cells of half `b`, transfer `k` the next to arrive. -/
def rcvSt : sProp 𝕄 :=
  iprop(rcvAt c d b k ∗ rcvAt c d b (k + 1) ∗ rcvAt c d b (k + 2) ∗ bigSep (Finset.Ico k (NT d)) (fun j => cred (tallyAt (recvC c d j b) j NH)))
/-- The send cells of half `b`, transfer `k` the next whose source comes back. -/
def sndSt : sProp 𝕄 := iprop(sndAt c d b k ∗ sndAt c d b (k + 1) ∗ sndAt c d b (k + 2))
/-- The right to make the transfers of half `b` from the `k`-th on. -/
def sndTk : sProp 𝕄 :=
  bigSep (Finset.Ico k (NT d)) (fun j => iprop(dutyTok ER (sendC c d j b) (j / 3) 0 ∗ dutyTok ER (recvC (nx d c) d j b) (j / 3) 0))
/-- The credit cell, `k` units consumed. -/
def crdSt : sProp 𝕄 :=
  iprop(∃ T : Finset ℕ, ⌜T ⊆ Finset.range (NT d) ∧ k ≤ T.card⌝ ∗ atPos ER (credC c d) 0 T k ∗ bigSep T (fun u => facts (nx d c) d (u + 1))
    ∗ bigSep (Finset.Ico k (NT d)) (fun j => cred (tallyAt (credC c d) j 1)))
/-- The right to take the next device's slots for the transfers from the `k`-th on. -/
def wrSt : sProp 𝕄 := bigSep (Finset.Ico k (NT d)) (fun j => writeTok ES (nx d c, d, sl (j + 1)) (j / 3 + 1))
/-- The units this core grants, the `k`-th the next. -/
def grSt : sProp 𝕄 :=
  iprop(rdAt c d k ∗ rdAt c d (k + 1) ∗ rdAt c d (k + 2) ∗ facts c d k ∗ reached ER (credC (nx (!d) c) d) 0
    ∗ bigSep (Finset.Ico k (NT d)) (fun j => dutyTok ER (credC (nx (!d) c) d) 0 j))
/-- The place on device `c` where transfer `k`'s half `b` lands, ready for it. -/
def dstH : sProp 𝕄 := iprop((∃ f, comL d c ↦[hS d c (sl (k + 1)) b]{fullShare} f) ∗ reached ER (recvC c d k b) (k / 3))
end St

/-- What the core owes, whatever waits it has recorded. -/
def owing (c : Dev nD) (O : CellTallies nD τ sig ℕ) : sProp 𝕄 := iprop(∃ W : Waits sig ℕ, owes (c : Thread nD τ) O W)

theorem rcvAt_def (c : Dev nD) (d : Bool) (b : Fin 2) (k : ℕ) :
    rcvAt (F := F) c d b k = iprop(atPos ER (recvC c d k b) (k / 3) ∅ 0 ∗ reached ER (recvC c d k b) (k / 3)) := rfl
theorem sndAt_def (c : Dev nD) (d : Bool) (b : Fin 2) (k : ℕ) :
    sndAt (F := F) c d b k = iprop(atPos ER (sendC c d k b) (k / 3) ∅ 0 ∗ reached ER (sendC c d k b) (k / 3)) := rfl
theorem rcvAt_add (c : Dev nD) (d : Bool) (b : Fin 2) (k : ℕ) :
    rcvAt (F := F) c d b (k + 3) = iprop(atPos ER (recvC c d k b) (k / 3 + 1) ∅ 0 ∗ reached ER (recvC c d k b) (k / 3 + 1)) := by
  unfold rcvAt
  rw [show recvC c d (k + 3) b = recvC c d k b by unfold recvC; rw [recvS_add], show (k + 3) / 3 = k / 3 + 1 by omega]
theorem sndAt_add (c : Dev nD) (d : Bool) (b : Fin 2) (k : ℕ) :
    sndAt (F := F) c d b (k + 3) = iprop(atPos ER (sendC c d k b) (k / 3 + 1) ∅ 0 ∗ reached ER (sendC c d k b) (k / 3 + 1)) := by
  unfold sndAt
  rw [show sendC c d (k + 3) b = sendC c d k b by unfold sendC; rw [sendS_add], show (k + 3) / 3 = k / 3 + 1 by omega]
theorem rdAt_add (c : Dev nD) (d : Bool) (k : ℕ) : rdAt (F := F) c d (k + 3) = readerAt ES (c, d, sl (k + 1)) (k / 3 + 1) := by
  unfold rdAt
  rw [show k + 3 + 1 = k + 1 + 3 by omega, sl_add, show (k + 3) / 3 = k / 3 + 1 by omega]

theorem rest_recv (c : Dev nD) (d : Bool) (b : Fin 2) {k : ℕ} (h : k < NT d) :
    bigSep ((sched A).duties (recvC c d k b) (k / 3) \ ∅) (fun u => (sched A).payload (recvC c d k b) (k / 3) u) = recvPay A c d k b := by
  rw [Finset.sdiff_empty, duties_recv, if_pos h, bigSep_singleton, payload_recv]
theorem rest_send (c : Dev nD) (d : Bool) (b : Fin 2) {k : ℕ} (h : k < NT d) :
    bigSep ((sched A).duties (sendC c d k b) (k / 3) \ ∅) (fun u => (sched A).payload (sendC c d k b) (k / 3) u) = sendPay A c d k b := by
  rw [Finset.sdiff_empty, duties_send, if_pos h, bigSep_singleton, payload_send]

/-! ## The steps -/

section Steps

variable {Λ : Labels} {defs : Defs nD τ sig (Elt F) Λ} (𝒱 : Variants) (c : Dev nD) (bd : Option 𝒱.V) (d : Bool) (b : Fin 2) (k : ℕ)
variable {K : GSem nD τ sig → ℕ} {κ : Key → ℕ} {Q : PUnit → sProp (MT nD τ sig ℕ (Elt F) ℕ UU ℕ)}

/-- WAIT for the arrival of transfer `k`'s half `b`: the half of the slot comes, at the block it carries. -/
theorem recv_wait (hk : k < NT d) {O : CellTallies nD τ sig ℕ} (hO : Above (k + 3) O)
    {sp sp' : Space} {s s' : Shape} {e e' : EltTy}
    {sem : DmaSem sig} {src : Memref sig (c : Thread nD τ).2.kind sp s e} {dst : Memref sig (c : Thread nD τ).2.kind sp' s' e'}
    {hs : src.view.WordExact} {hd : dst.view.WordExact} (hsem : sem = recvS d k b) (hcr : dst.view.dmaCredit = NH) :
    iprop(ctx A K κ ∗ rcvSt c d b k ∗ owing c O)
      ⊢ iprop(((rcvSt c d b (k + 1) ∗ recvPay A c d k b ∗ owing c O) -∗ Q ⟨⟩)
        -∗ wp frame (wpE defs 𝒱 (c : Thread nD τ) bd) Set.univ (Prog.lift (.waitDma2 sem src dst hs hd)) Q) := by
  subst hsem
  have hk17 := NT_le d
  unfold rcvSt owing
  rw [rcvAt_def c d b k, show rcvAt (F := F) c d b (k + 1 + 2) = _ from rcvAt_add c d b k, bigSep_Ico_succ_bot hk (fun j => cred (tallyAt (recvC c d j b) j NH))]
  iintro ⟨#Hc, ⟨⟨Hat, Hr⟩, H1, H2, Hcr, Hcrs⟩, %W, HO⟩ Hk
  ihave HI := (ctx_cell A (recvC c d k b) (recvC_mem c d k b)) $$ Hc
  ihave HL := (ctx_lev A) $$ Hc
  iapply (Rounds.wp_wait_rest_token 𝒱 ER (sched A) (c : Thread nD τ) bd (κ := K (recvC c d k b))
      (wpE_waitDma2_eq (src := src) (dst := dst) 𝒱 (c : Thread nD τ) bd Set.univ) (Set.mem_univ _) k (O := O) (W := W) (R := k / 3) (m := 0) (T := ∅)
      (by rw [hcr, expect_recv A c d k b hk, Nat.zero_add])) $$ [HI Hcr HO HL Hat]
  · isplitl [HI]; · iexact HI
    isplitl [Hcr]; · rw [hcr]; iexact Hcr
    isplitl [HO]; · iexact HO
    isplitl [HL]
    · iapply (Lev_wait hO c _ k (by omega) (by rw [lv_recv])); iexact HL
    iexact Hat
  iintro ⟨HO, Hat, #Hr1, Hpay⟩
  rw [wp_ret]
  imodintro
  iapply Hk
  ihave Hp := (Entails.of_eq (rest_recv A c d b hk)) $$ Hpay
  isplitl [H1 H2 Hat Hcrs]
  · isplitl [H1]; · iexact H1
    isplitl [H2]; · iexact H2
    isplitl [Hat]
    · isplitl [Hat]; · iexact Hat
      iexact Hr1
    iexact Hcrs
  isplitl [Hp]; · iexact Hp
  iexists _; iexact HO

/-- WAIT for the source of transfer `k`'s half `b`: the share lent comes back. -/
theorem send_wait (hk : k < NT d) {O : CellTallies nD τ sig ℕ} (hO : Above 0 O)
    {sp sp' : Space} {s s' : Shape} {e e' : EltTy}
    {sem : DmaSem sig} {src : Memref sig (c : Thread nD τ).2.kind sp s e} {dst : Memref sig (c : Thread nD τ).2.kind sp' s' e'}
    {hs : src.view.WordExact} {hd : dst.view.WordExact} (hsem : sem = sendS d k b) (hcr : dst.view.dmaCredit = NH) :
    iprop(ctx A K κ ∗ sndSt c d b k ∗ cred (tallyAt (sendC c d k b) 0 NH) ∗ owing c O)
      ⊢ iprop(((sndSt c d b (k + 1) ∗ sendPay A c d k b ∗ owing c O) -∗ Q ⟨⟩)
        -∗ wp frame (wpE defs 𝒱 (c : Thread nD τ) bd) Set.univ (Prog.lift (.waitDma2 sem src dst hs hd)) Q) := by
  subst hsem
  unfold sndSt owing
  rw [sndAt_def c d b k, show sndAt (F := F) c d b (k + 1 + 2) = _ from sndAt_add c d b k]
  iintro ⟨#Hc, ⟨⟨Hat, Hr⟩, H1, H2⟩, Hcr, %W, HO⟩ Hk
  ihave HI := (ctx_cell A (sendC c d k b) (sendC_mem c d k b)) $$ Hc
  ihave HL := (ctx_lev A) $$ Hc
  iapply (Rounds.wp_wait_rest_token 𝒱 ER (sched A) (c : Thread nD τ) bd (κ := K (sendC c d k b))
      (wpE_waitDma2_eq (src := src) (dst := dst) 𝒱 (c : Thread nD τ) bd Set.univ) (Set.mem_univ _) 0 (O := O) (W := W) (R := k / 3) (m := 0) (T := ∅)
      (by rw [hcr, expect_send A c d k b hk, Nat.zero_add])) $$ [HI Hcr HO HL Hat]
  · isplitl [HI]; · iexact HI
    isplitl [Hcr]; · rw [hcr]; iexact Hcr
    isplitl [HO]; · iexact HO
    isplitl [HL]
    · iapply (Lev_wait hO c _ 0 (by omega) (by rw [lv_send])); iexact HL
    iexact Hat
  iintro ⟨HO, Hat, #Hr1, Hpay⟩
  rw [wp_ret]
  imodintro
  iapply Hk
  ihave Hp := (Entails.of_eq (rest_send A c d b hk)) $$ Hpay
  isplitl [H1 H2 Hat]
  · isplitl [H1]; · iexact H1
    isplitl [H2]; · iexact H2
    isplitl [Hat]; · iexact Hat
    iexact Hr1
  isplitl [Hp]; · iexact Hp
  iexists _; iexact HO

theorem landed (z : Dev nD) (hz : z = nx d c) (f : Buf (Elt F) (comL d z)) :
    (comL d z ↦[hS d z (sl (k + 1)) b]{fullShare} landB c z (A (og d k c)) d (sl k) (sl (k + 1)) b f : sProp 𝕄)
      ⊢ recvPay A z d k b := by
  unfold recvPay hPt
  rw [show og d (k + 1) z = og d k c by rw [hz, og_nx]]
  exact Entails.of_eq (pointsTo_congr fun i hi => land_half c z (A (og d k c)) d (sl k) (sl (k + 1)) b f i hi)

/-- START transfer `k`'s half `b`: a share of the source and the place on the next device go with it. -/
theorem send_step (hk : k < NT d) {O₀ O : CellTallies nD τ sig ℕ} (hO : O₀ = O + tallyAt (recvC (nx d c) d k b) k NH)
    {z : Dev nD} {src dst : Memref sig .tc .vmem S768x768 .bf16} {sS sR : DmaSem sig}
    {hsc : dst.view.ref.isScScratch = false} {hs : src.view.WordExact} {hd : dst.view.WordExact}
    {hty : DmaTarget.Typed .vmem (.dma sR) (.remote (z : Thread nD τ) dst (.dma sS) hsc)}
    (hz : z = nx d c) (hsrc : src = half d (sl k) b) (hdst : dst = half d (sl (k + 1)) b) (hsS : sS = sendS d k b) (hsR : sR = recvS d k b) :
    iprop(ctx A K κ ∗ sndAt c d b k ∗ sndTk c d b k ∗ hPt A d c (sl k) b fullShare.left (og d k c) ∗ dstH (nx d c) d b k ∗ owing c O₀)
      ⊢ iprop(((sndAt c d b k ∗ sndTk c d b (k + 1) ∗ cred (tallyAt (sendC c d k b) 0 NH) ∗ owing c O) -∗ Q ⟨⟩)
        -∗ wp frame (wpE defs 𝒱 (c : Thread nD τ) bd) Set.univ
            (Prog.lift (.enqueueDma src (.remote (z : Thread nD τ) dst (.dma sS) hsc) (.dma sR) hs hd hty)) Q) := by
  subst hsrc hdst hsS hsR
  rw [← hz] at hO
  unfold sndTk owing dstH hPt
  rw [sndAt_def c d b k, bigSep_Ico_succ_bot hk, ← hz]
  iintro ⟨#Hc, ⟨Hat, #Hr⟩, ⟨⟨Ht1, Ht2⟩, Hts⟩, Hsrc, ⟨⟨%f, Hdst⟩, #Hr2⟩, %W, HO⟩ Hk
  ihave HI := (ctx_cell A (sendC c d k b) (sendC_mem c d k b)) $$ Hc
  ihave HJ := (ctx_cell A (recvC z d k b) (recvC_mem z d k b)) $$ Hc
  let f' : Buf (Elt F) (View.loc (z : Thread nD τ) (half d (sl (k + 1)) b).view) := f
  iapply (Rounds.wp_send_pointsTo 𝒱 ER (sched A) (c : Thread nD τ) bd (c' := (z : Thread nD τ)) (src := half d (sl k) b) (dst := half d (sl (k + 1)) b)
      (sS := .dma (sendS d k b)) (sem := .dma (recvS d k b)) (q := fullShare.left) (fs := Fb c (A (og d k c)) d) (fd := f')
      (κ₁ := K (sendC c d k b)) (κ₂ := K (recvC z d k b)) (r₁ := k / 3) (r₂ := k / 3) (d₁ := 0) (d₂ := 0)
      (by rw [duties_send, if_pos hk]; exact Finset.mem_singleton_self _) (by rw [duties_recv, if_pos hk]; exact Finset.mem_singleton_self _)
      k 0 NH (half_amount d _ b _) rfl rfl O hO (W := W)
      (by rw [payload_send]; exact BI.Entails.refl _)
      (by rw [payload_recv]; exact landed A c d b k z hz f)) $$ [HI HJ Hsrc Hdst HO Ht1 Ht2]
  · isplitl [HI]; · iexact HI
    isplitl [HJ]; · iexact HJ
    isplitl [Hsrc]; · iexact Hsrc
    isplitl [Hdst]; · iexact Hdst
    isplitl [HO]; · iexact HO
    isplitl [Ht1]; · iexact Ht1
    isplitl []; · iexact Hr
    isplitl [Ht2]; · iexact Ht2
    iexact Hr2
  iintro ⟨Hcr, HO⟩
  rw [wp_ret]
  imodintro
  iapply Hk
  isplitl [Hat]
  · isplitl [Hat]; · iexact Hat
    iexact Hr
  isplitl [Hts]; · iexact Hts
  isplitl [Hcr]; · iexact Hcr
  iexists _; iexact HO

theorem slot_split (c : Dev nD) (d : Bool) (s : Fin 3) :
    slotA (F := F) (c, d, s) ⊢ iprop((∃ f, comL d c ↦[hS d c s 0]{fullShare} f) ∗ (∃ f, comL d c ↦[hS d c s 1]{fullShare} f)) := by
  unfold slotA Release.slot
  show iprop(∃ f, comL d c ↦[sS d c s]{fullShare} f) ⊢ _
  rw [sS_eq]
  iintro ⟨%f, H⟩
  ihave H' := (pointsTo_union (hS_disj d c s)).1 $$ H
  icases H' with ⟨H0, H1⟩
  isplitl [H0] <;> (iexists f; iassumption)

theorem facts_get (c : Dev nD) (d : Bool) {k u : ℕ} (h : k ≤ u) : facts (F := F) c d (u + 1) ⊢ relFact c d k := by
  unfold facts
  exact bigSep_get (Finset.mem_range.2 (by omega)) (relFact c d)

theorem exists_ge {S : Finset ℕ} (h : k < S.card) : ∃ u ∈ S, k ≤ u := by
  by_contra hc
  push Not at hc
  have := Finset.card_le_card (show S ⊆ Finset.range k from fun u hu => Finset.mem_range.2 (hc u hu))
  rw [Finset.card_range] at this
  omega

/-- WAIT for unit `k` of a direction's credit: the next device has let go of the slot that transfer `k` writes; take it. -/
theorem cred_wait (hk : k < NT d) {O : CellTallies nD τ sig ℕ} (hO : Above (lvC k) O) {sem : Sem sig} (hsem : sem = credS d) :
    iprop(ctx A K κ ∗ crdSt c d k ∗ wrSt c d k ∗ owing c O)
      ⊢ iprop(((crdSt c d (k + 1) ∗ wrSt c d (k + 1) ∗ dstH (nx d c) d 0 k ∗ dstH (nx d c) d 1 k ∗ owing c O) -∗ Q ⟨⟩)
        -∗ wp frame (wpE defs 𝒱 (c : Thread nD τ) bd) Set.univ (semWaitWord sem 1#32) Q) := by
  subst hsem
  have hk17 := NT_le d
  unfold crdSt wrSt owing
  rw [bigSep_Ico_succ_bot hk (fun j => cred (tallyAt (credC c d) j 1)), bigSep_Ico_succ_bot hk]
  iintro ⟨#Hc, ⟨%T, %hT, Hat, #HT, Hcr, Hcrs⟩, ⟨Hw, Hws⟩, %W, HO⟩ Hk
  ihave HI := (ctx_cell A (credC c d) (reg_mem c _)) $$ Hc
  ihave HL := (ctx_lev A) $$ Hc
  ihave HV := (ctx_slot A (nx d c, d, sl (k + 1))) $$ Hc
  iapply (Rounds.wp_wait 𝒱 ER (sched A) (c : Thread nD τ) bd (κ := K (credC c d)) (k' := 1)
      (wpE_semWait_eq 𝒱 (c : Thread nD τ) bd Set.univ) (Set.mem_univ _) {(SemLoc.reg (credS d), k)} (cr := Finsupp.single k 1) (O := O) (W := W) (R := 0) (m := k) (T := T)
      (Util.total_single k 1) (image_single_subset _ k 1)) $$ [HI Hcr HO HL Hat]
  · isplitl [HI]; · iexact HI
    isplitl [Hcr]; · iexact Hcr
    isplitl [HO]; · iexact HO
    isplitl [HL]
    · iapply (Lev_wait hO c _ k (by omega) (by rw [lv_cred])); iexact HL
    iexact Hat
  iintro %S ⟨%hS', HO, Hat, Hpay⟩
  ihave Hpay := (Entails.of_eq (bigSep_congr fun u _ => payload_cred A c d u)) $$ Hpay
  icases Hpay with #Hpay
  rw [duties_cred, expect_cred] at hS'
  obtain ⟨hTS, hSd, hcard⟩ := hS'
  have hcd : k + 1 ≤ S.card := by
    rw [Finset.card_sdiff_of_subset hSd, Finset.card_range] at hcard
    have := Finset.card_le_card hSd
    rw [Finset.card_range] at this
    omega
  obtain ⟨u, hu, hku⟩ := exists_ge k hcd
  ihave HSall : bigSep S (fun u => facts (nx d c) d (u + 1)) $$ [HT Hpay]
  · iapply (bigSep_join hTS (fun u => facts (F := F) (nx d c) d (u + 1)))
    isplitl []; · iexact HT
    iexact Hpay
  icases HSall with #HSall
  ihave Hf := (bigSep_get hu (fun u => facts (nx d c) d (u + 1))) $$ HSall
  ihave Hf := (facts_get (nx d c) d hku) $$ Hf
  unfold relFact
  icases Hf with ⟨#Hrel, #Hr0, #Hr1⟩
  rw [wp_ret]
  imod (Release.slot_take ES (Set.mem_univ (κ (nx d c, d, sl (k + 1)))) (k / 3 + 1)) $$ [HV Hw] with HS
  · isplitl [HV]; · iexact HV
    isplitl []; · iexact Hrel
    iexact Hw
  ihave HS := (slot_split (nx d c) d (sl (k + 1))) $$ HS
  icases HS with ⟨HS0, HS1⟩
  imodintro
  iapply Hk
  unfold dstH
  isplitl [Hat Hcrs]
  · iexists S
    isplitl []; · ipureintro; exact ⟨hSd, hcd⟩
    isplitl [Hat]; · iexact Hat
    isplitl []; · iexact HSall
    iexact Hcrs
  isplitl [Hws]; · iexact Hws
  isplitl [HS0]
  · isplitl [HS0]; · iexact HS0
    iexact Hr0
  isplitl [HS1]
  · isplitl [HS1]; · iexact HS1
    iexact Hr1
  iexists _; iexact HO

theorem slot_twice (key : Key) : iprop(slotA (F := F) key ∗ slotA key) ⊢ (False : sProp 𝕄) := by
  unfold slotA
  exact Release.slot_slot_false (by
    unfold sS
    rcases key with ⟨c, d, s⟩
    cases d
    · exact ⟨ix3 s ⟨0, by decide⟩ ⟨0, by decide⟩, (mem_slot false s _).2 ⟨_, (mem_slotR s _).2 rfl, rfl⟩⟩
    · exact ⟨ix3 s ⟨0, by decide⟩ ⟨0, by decide⟩, (mem_slot true s _).2 ⟨_, (mem_slotR s _).2 rfl, rfl⟩⟩)

/-- SIGNAL the device before: the slot that its transfer `k` writes is let go of. -/
theorem grant_step (hk : k < NT d) {O₀ O : CellTallies nD τ sig ℕ} (hO : O₀ = O + tallyAt (credC (nx (!d) c) d) k 1)
    {z : Dev nD} {sem : Sem sig} (hz : z = nx (!d) c) (hsem : sem = credS d) :
    iprop(ctx A K κ ∗ grSt c d k ∗ slotA (c, d, sl (k + 1)) ∗ reached ER (recvC c d k 0) (k / 3) ∗ reached ER (recvC c d k 1) (k / 3) ∗ owing c O₀)
      ⊢ iprop(((grSt c d (k + 1) ∗ owing c O) -∗ Q ⟨⟩)
        -∗ wp frame (wpE defs 𝒱 (c : Thread nD τ) bd) Set.univ (semSignalWord (p := (c : Thread nD τ).2) z sem 1#32) Q) := by
  subst hz hsem
  unfold grSt owing
  rw [bigSep_Ico_succ_bot hk, show rdAt (F := F) c d k = readerAt ES (c, d, sl (k + 1)) (k / 3) from rfl,
    show rdAt (F := F) c d (k + 1 + 2) = _ from rdAt_add c d k]
  iintro ⟨#Hc, ⟨Hrd, H1, H2, #Hf, #Hr, ⟨Ht, Hts⟩⟩, HS, #Hr0, #Hr1, %W, HO⟩ Hk
  ihave HI := (ctx_cell A (credC (nx (!d) c) d) (reg_mem _ _)) $$ Hc
  ihave HV := (ctx_slot A (c, d, sl (k + 1))) $$ Hc
  imod (Release.slot_release ES (Set.mem_univ (κ (c, d, sl (k + 1)))) (slot_twice (c, d, sl (k + 1))) (k / 3)) $$ [HV Hrd HS] with ⟨Hrd, #Hrel⟩
  · isplitl [HV]; · iexact HV
    isplitl [Hrd]; · iexact Hrd
    iexact HS
  ihave Hf' : facts c d (k + 1) $$ [Hf Hrel Hr0 Hr1]
  · unfold facts
    rw [bigSep_range_succ]
    isplitl []
    · unfold relFact
      isplitl []; · iexact Hrel
      isplitl []; · iexact Hr0
      iexact Hr1
    iexact Hf
  icases Hf' with #Hf'
  iapply (Rounds.wp_signal 𝒱 ER (sched A) (c : Thread nD τ) bd (dst := (nx (!d) c : Thread nD τ)) (sem := credS d) (r := 0) (d := k) (k' := 1) (κ := K (credC (nx (!d) c) d))
      (by rw [duties_cred]; exact Finset.mem_range.2 hk) rfl k O hO (W := W)) $$ [HI HO Ht]
  · isplitl [HI]; · iexact HI
    isplitl [HO]; · iexact HO
    isplitl [Ht]; · iexact Ht
    isplitl []
    · rw [payload_cred, nx_nx]; iexact Hf'
    iexact Hr
  iintro HO
  rw [wp_ret]
  imodintro
  iapply Hk
  isplitl [Hrd H1 H2 Hts]
  · isplitl [H1]; · iexact H1
    isplitl [H2]; · iexact H2
    isplitl [Hrd]; · iexact Hrd
    isplitl []; · iexact Hf'
    isplitl []; · iexact Hr
    iexact Hts
  iexists _; iexact HO

end Steps

end Cert.KernelIdeal.RingMM

end
-- ==== Proof.Chunks.lean ====
/-
  The rings' steps under the kernel's conditionals: what a core holds of one direction before and after each, the same
  assertion whether the conditional ran or not.

  `k` is the number of the transfer a conditional sends on; it runs when `k` is below the direction's number of transfers.
-/
module

public import proofs.«01_k».proof.Proof.Steps

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-! ## The views and semaphores the kernel names -/

theorem half_of (d : Bool) (s : Fin 3) (b : Fin 2) {off : Fin 3 → ℕ} (ho : off = ![s.val, 768 * b.val, 0])
    (inb : ∀ a, off a + S1x768x768.size a ≤ S3x1536x768.size a) :
    ((commM d).slice (Rect.unit (s := S3x1536x768) off S1x768x768.size inb) (fun _ => rfl)).squeeze S768x768 squeezes_S1x768x768_S768x768 = half d s b := by
  subst ho; rfl

/-- The transfer semaphores of a direction, the sending ones and the receiving ones. -/
@[reducible] def sendA : Bool → DmaSems sig S3x2
  | false => cc0_scratch4
  | true => cc0_scratch6
@[reducible] def recvA : Bool → DmaSems sig S3x2
  | false => cc0_scratch5
  | true => cc0_scratch7

theorem sendS_of (d : Bool) (k : ℕ) (b : Fin 2) {off : Fin 2 → ℕ} (ho : off = ![k % 3, b.val]) (inb : ∀ a, off a + S1x1.size a ≤ S3x2.size a) :
    (((sendA d).slice (Rect.unit (s := S3x2) off S1x1.size inb)).squeeze S_ squeezes_S1x1_S_).sem = sendS d k b := by
  subst ho
  have h := Nat.mod_lt k (show 0 < 3 by norm_num)
  have e : ∀ (s : Fin 3) (b : Fin 2) (d : Bool) (inb : ∀ a, (![s.val, b.val] : Fin 2 → ℕ) a + S1x1.size a ≤ S3x2.size a),
      ((((sendA d).slice (Rect.unit (s := S3x2) ![s.val, b.val] S1x1.size inb)).squeeze S_ squeezes_S1x1_S_).sem).val = 3 + 12 * d.toNat + 2 * s.val + b.val := by
    decide +kernel
  exact Fin.ext (e ⟨_, h⟩ b d inb)
theorem recvS_of (d : Bool) (k : ℕ) (b : Fin 2) {off : Fin 2 → ℕ} (ho : off = ![(k + 1) % 3, b.val]) (inb : ∀ a, off a + S1x1.size a ≤ S3x2.size a) :
    (((recvA d).slice (Rect.unit (s := S3x2) off S1x1.size inb)).squeeze S_ squeezes_S1x1_S_).sem = recvS d k b := by
  subst ho
  have h := Nat.mod_lt (k + 1) (show 0 < 3 by norm_num)
  have e : ∀ (s : Fin 3) (b : Fin 2) (d : Bool) (inb : ∀ a, (![s.val, b.val] : Fin 2 → ℕ) a + S1x1.size a ≤ S3x2.size a),
      ((((recvA d).slice (Rect.unit (s := S3x2) ![s.val, b.val] S1x1.size inb)).squeeze S_ squeezes_S1x1_S_).sem).val = 9 + 12 * d.toNat + 2 * s.val + b.val := by
    decide +kernel
  exact Fin.ext (e ⟨_, h⟩ b d inb)

variable (A : Dev nD → S1536x768.Idx → Elt F .bf16)

/-! ## A slot's halves and shares -/

section Slots
variable (c : Dev nD) (d : Bool) (s : Fin 3) (b : Fin 2) (x : Dev nD)

theorem hPt_shares : (hPt A d c s b fullShare x : sProp 𝕄) ⊢ iprop(hPt A d c s b fullShare.left x ∗ hPt A d c s b fullShare.right x) := by
  unfold hPt; exact (pointsTo_share (PosShare.mem_left_op_right fullShare)).1
theorem hPt_whole : (iprop(hPt A d c s b fullShare.left x ∗ hPt A d c s b fullShare.right x) : sProp 𝕄) ⊢ hPt A d c s b fullShare x := by
  unfold hPt; exact (pointsTo_share (PosShare.mem_left_op_right fullShare)).2
theorem sPt_halves (q : PosShare TreeShare) : (sPt A d c s q x : sProp 𝕄) ⊢ iprop(hPt A d c s 0 q x ∗ hPt A d c s 1 q x) := by
  unfold sPt hPt; rw [sS_eq]; exact (pointsTo_union (hS_disj d c s)).1
theorem sPt_join (q : PosShare TreeShare) : (iprop(hPt A d c s 0 q x ∗ hPt A d c s 1 q x) : sProp 𝕄) ⊢ sPt A d c s q x := by
  unfold sPt hPt; rw [sS_eq]; exact (pointsTo_union (hS_disj d c s)).2
theorem sPt_slot : (sPt A d c s fullShare x : sProp 𝕄) ⊢ slotA (c, d, s) := by
  unfold sPt slotA Release.slot
  iintro H; iexists _; iexact H
end Slots

/-! ## What a core holds around the conditionals -/

section Around
variable (c : Dev nD) (d : Bool) (k : ℕ)

/-- Transfer numbers stop at the direction's number of transfers. -/
def mn (d : Bool) (k : ℕ) : ℕ := min k (NT d)
theorem mn_le {d : Bool} {k : ℕ} (h : k ≤ NT d) : mn d k = k := min_eq_left h
theorem mn_ge {d : Bool} {k : ℕ} (h : NT d ≤ k) : mn d k = NT d := min_eq_right h

/-- The share of the slot that the core keeps while the slot is sent on. -/
def qk : PosShare TreeShare := if k < NT d then fullShare.right else fullShare
/-- Half `b` of the slot transfer `k` sends, while it may be under way. -/
def lent (b : Fin 2) : sProp 𝕄 :=
  iprop(hPt A d c (sl k) b (qk d k) (og d k c) ∗ if k < NT d then cred (tallyAt (sendC c d k b) 0 NH) else emp)
/-- The place for the second half, once a unit of credit is consumed. -/
def dst1 : sProp 𝕄 := if k < NT d then dstH (nx d c) d 1 k else iprop(emp)
/-- The slots let go of when nobody is to write them any more. -/
def kept : sProp 𝕄 := bigSep (Finset.Ico (NT d) k) (fun g => slotA (c, d, sl (g + 1)))
end Around

theorem crdSt_done (c : Dev nD) (d : Bool) {k : ℕ} (h : ¬ k < NT d) (hk : k ≤ NT d) : mn d (k + 1) = k := by
  unfold mn; omega

section Chunks

variable {Λ : Labels} {defs : Defs nD τ sig (Elt F) Λ} (𝒱 : Variants) (c : Dev nD) (bd : Option 𝒱.V) (d : Bool) (b : Fin 2) (k : ℕ)
variable {K : GSem nD τ sig → ℕ} {κ : Key → ℕ} {β : Type} {R : Prog (TpuEff nD τ sig (Elt F) Λ (c : Thread nD τ).2) β} {Q : β → sProp (MT nD τ sig ℕ (Elt F) ℕ UU ℕ)}

/-- Under its conditional: WAIT for a unit of credit, SEND the first half on. -/
theorem if_send_first (hk : k ≤ NT d) {O₀ O : CellTallies nD τ sig ℕ} (hab : k < NT d → Above (lvC k) O₀)
    (hO : k < NT d → O₀ = O + tallyAt (recvC (nx d c) d k 0) k NH) (hO' : ¬ k < NT d → O₀ = O)
    {φ : Prop} [Decidable φ] (hφ : φ ↔ k < NT d)
    {sem : Sem sig} {z : φ → Dev nD} {src dst : φ → Memref sig .tc .vmem S768x768 .bf16} {sS sR : φ → DmaSem sig}
    {hsc : ∀ h, (dst h).view.ref.isScScratch = false} {hs : ∀ h, (src h).view.WordExact} {hd : ∀ h, (dst h).view.WordExact}
    {hty : ∀ h, DmaTarget.Typed .vmem (.dma (sR h)) (.remote (z h : Thread nD τ) (dst h) (.dma (sS h)) (hsc h))}
    (hsem : sem = credS d) (hz : ∀ h, z h = nx d c) (hsrc : ∀ h, src h = half d (sl k) 0) (hdst : ∀ h, dst h = half d (sl (k + 1)) 0)
    (hsS : ∀ h, sS h = sendS d k 0) (hsR : ∀ h, sR h = recvS d k 0) :
    iprop(ctx A K κ ∗ crdSt c d k ∗ wrSt c d k ∗ sndSt c d 0 k ∗ sndTk c d 0 k ∗ hPt A d c (sl k) 0 fullShare (og d k c) ∗ owing c O₀)
      ⊢ iprop(((crdSt c d (mn d (k + 1)) ∗ wrSt c d (k + 1) ∗ sndSt c d 0 k ∗ sndTk c d 0 (k + 1) ∗ lent A c d k 0 ∗ dst1 c d k ∗ owing c O) -∗ wp frame (wpE defs 𝒱 (c : Thread nD τ) bd) Set.univ R Q)
        -∗ wp frame (wpE defs 𝒱 (c : Thread nD τ) bd) Set.univ
            (if h : φ then do
              semWaitWord sem 1#32
              Prog.lift (.enqueueDma (src h) (.remote (z h : Thread nD τ) (dst h) (.dma (sS h)) (hsc h)) (.dma (sR h)) (hs h) (hd h) (hty h))
              R
            else R) Q) := by
  by_cases hlt : k < NT d
  · have hφ' := hφ.2 hlt
    rw [dif_pos hφ']
    rw [mn_le (show k + 1 ≤ NT d from hlt)]
    unfold lent dst1 qk
    rw [if_pos hlt, if_pos hlt, if_pos hlt]
    simp only [wp_bind]
    iintro ⟨#Hc, Hcr, Hw, Hs, Ht, Hsrc, HO⟩ Hk
    iapply (cred_wait A 𝒱 c bd d k hlt (hab hlt) hsem) $$ [Hcr Hw HO]
    · isplitl []; · iexact Hc
      isplitl [Hcr]; · iexact Hcr
      isplitl [Hw]; · iexact Hw
      iexact HO
    iintro ⟨Hcr, Hw, Hd0, Hd1, HO⟩
    ihave Hsrc := (hPt_shares A c d (sl k) 0 (og d k c)) $$ Hsrc
    icases Hsrc with ⟨HsL, HsR⟩
    unfold sndSt
    icases Hs with ⟨Hs0, Hs12⟩
    iapply (send_step A 𝒱 c bd d 0 k hlt (hO hlt) (hz hφ') (hsrc hφ') (hdst hφ') (hsS hφ') (hsR hφ')) $$ [Hs0 Ht HsL Hd0 HO]
    · isplitl []; · iexact Hc
      isplitl [Hs0]; · iexact Hs0
      isplitl [Ht]; · iexact Ht
      isplitl [HsL]; · iexact HsL
      isplitl [Hd0]; · iexact Hd0
      iexact HO
    iintro ⟨Hs0, Ht, Hcs, HO⟩
    iapply Hk
    isplitl [Hcr]; · iexact Hcr
    isplitl [Hw]; · iexact Hw
    isplitl [Hs0 Hs12]
    · isplitl [Hs0]; · iexact Hs0
      iexact Hs12
    isplitl [Ht]; · iexact Ht
    isplitl [HsR Hcs]
    · isplitl [HsR]; · iexact HsR
      iexact Hcs
    isplitl [Hd1]; · iexact Hd1
    iexact HO
  · rw [dif_neg (fun h => hlt (hφ.1 h))]
    unfold lent dst1 qk wrSt sndTk
    rw [if_neg hlt, if_neg hlt, if_neg hlt, crdSt_done c d hlt hk, hO' hlt, Finset.Ico_eq_empty (by omega : ¬ k < NT d), Finset.Ico_eq_empty (by omega : ¬ k + 1 < NT d)]
    iintro ⟨#Hc, Hcr, Hw, Hs, Ht, Hsrc, HO⟩ Hk
    iapply Hk
    isplitl [Hcr]; · iexact Hcr
    isplitl [Hw]; · iexact Hw
    isplitl [Hs]; · iexact Hs
    isplitl [Ht]; · iexact Ht
    isplitl [Hsrc]
    · isplitl [Hsrc]; · iexact Hsrc
      iempintro
    isplitl []; · iempintro
    iexact HO

/-- Under its conditional: SEND the second half on. -/
theorem if_send_second (hk : k ≤ NT d) {O₀ O : CellTallies nD τ sig ℕ}
    (hO : k < NT d → O₀ = O + tallyAt (recvC (nx d c) d k 1) k NH) (hO' : ¬ k < NT d → O₀ = O)
    {φ : Prop} [Decidable φ] (hφ : φ ↔ k < NT d)
    {z : φ → Dev nD} {src dst : φ → Memref sig .tc .vmem S768x768 .bf16} {sS sR : φ → DmaSem sig}
    {hsc : ∀ h, (dst h).view.ref.isScScratch = false} {hs : ∀ h, (src h).view.WordExact} {hd : ∀ h, (dst h).view.WordExact}
    {hty : ∀ h, DmaTarget.Typed .vmem (.dma (sR h)) (.remote (z h : Thread nD τ) (dst h) (.dma (sS h)) (hsc h))}
    (hz : ∀ h, z h = nx d c) (hsrc : ∀ h, src h = half d (sl k) 1) (hdst : ∀ h, dst h = half d (sl (k + 1)) 1)
    (hsS : ∀ h, sS h = sendS d k 1) (hsR : ∀ h, sR h = recvS d k 1) :
    iprop(ctx A K κ ∗ dst1 c d k ∗ sndSt c d 1 k ∗ sndTk c d 1 k ∗ hPt A d c (sl k) 1 fullShare (og d k c) ∗ owing c O₀)
      ⊢ iprop(((sndSt c d 1 k ∗ sndTk c d 1 (k + 1) ∗ lent A c d k 1 ∗ owing c O) -∗ wp frame (wpE defs 𝒱 (c : Thread nD τ) bd) Set.univ R Q)
        -∗ wp frame (wpE defs 𝒱 (c : Thread nD τ) bd) Set.univ
            (if h : φ then do
              Prog.lift (.enqueueDma (src h) (.remote (z h : Thread nD τ) (dst h) (.dma (sS h)) (hsc h)) (.dma (sR h)) (hs h) (hd h) (hty h))
              R
            else R) Q) := by
  by_cases hlt : k < NT d
  · have hφ' := hφ.2 hlt
    rw [dif_pos hφ']
    unfold lent dst1 qk
    rw [if_pos hlt, if_pos hlt, if_pos hlt]
    simp only [wp_bind]
    iintro ⟨#Hc, Hd1, Hs, Ht, Hsrc, HO⟩ Hk
    ihave Hsrc := (hPt_shares A c d (sl k) 1 (og d k c)) $$ Hsrc
    icases Hsrc with ⟨HsL, HsR⟩
    unfold sndSt
    icases Hs with ⟨Hs0, Hs12⟩
    iapply (send_step A 𝒱 c bd d 1 k hlt (hO hlt) (hz hφ') (hsrc hφ') (hdst hφ') (hsS hφ') (hsR hφ')) $$ [Hs0 Ht HsL Hd1 HO]
    · isplitl []; · iexact Hc
      isplitl [Hs0]; · iexact Hs0
      isplitl [Ht]; · iexact Ht
      isplitl [HsL]; · iexact HsL
      isplitl [Hd1]; · iexact Hd1
      iexact HO
    iintro ⟨Hs0, Ht, Hcs, HO⟩
    iapply Hk
    isplitl [Hs0 Hs12]
    · isplitl [Hs0]; · iexact Hs0
      iexact Hs12
    isplitl [Ht]; · iexact Ht
    isplitl [HsR Hcs]
    · isplitl [HsR]; · iexact HsR
      iexact Hcs
    iexact HO
  · rw [dif_neg (fun h => hlt (hφ.1 h))]
    unfold lent dst1 qk sndTk
    rw [if_neg hlt, if_neg hlt, if_neg hlt, hO' hlt, Finset.Ico_eq_empty (by omega : ¬ k < NT d), Finset.Ico_eq_empty (by omega : ¬ k + 1 < NT d)]
    iintro ⟨#Hc, -, Hs, Ht, Hsrc, HO⟩ Hk
    iapply Hk
    isplitl [Hs]; · iexact Hs
    isplitl [Ht]; · iexact Ht
    isplitl [Hsrc]
    · isplitl [Hsrc]; · iexact Hsrc
      iempintro
    iexact HO

/-- Under their conditionals: WAIT for the sources of the slot sent on; let the device before write it once more. -/
theorem if_return (hk : k ≤ NT d) {O₀ O : CellTallies nD τ sig ℕ} (hab : k < NT d → Above 0 O₀)
    (hO : k + 2 < NT d → O₀ = O + tallyAt (credC (nx (!d) c) d) (k + 2) 1) (hO' : ¬ k + 2 < NT d → O₀ = O)
    {φ ψ : Prop} [Decidable φ] [Decidable ψ] (hφ : φ ↔ k < NT d) (hψ : ψ ↔ k + 2 < NT d)
    {s0 s1 : φ → DmaSem sig} {a0 b0 a1 b1 : φ → Memref sig .tc .vmem S768x768 .bf16}
    {ha0 : ∀ h, (a0 h).view.WordExact} {hb0 : ∀ h, (b0 h).view.WordExact} {ha1 : ∀ h, (a1 h).view.WordExact} {hb1 : ∀ h, (b1 h).view.WordExact}
    {z : φ → ψ → Dev nD} {sem : Sem sig}
    (hs0 : ∀ h, s0 h = sendS d k 0) (hs1 : ∀ h, s1 h = sendS d k 1) (hc0 : ∀ h, (b0 h).view.dmaCredit = NH) (hc1 : ∀ h, (b1 h).view.dmaCredit = NH)
    (hz : ∀ h h', z h h' = nx (!d) c) (hsem : sem = credS d) :
    iprop(ctx A K κ ∗ sndSt c d 0 k ∗ sndSt c d 1 k ∗ lent A c d k 0 ∗ lent A c d k 1 ∗ grSt c d (mn d (k + 2)) ∗ kept c d (k + 2)
        ∗ reached ER (recvC c d (k + 2) 0) ((k + 2) / 3) ∗ reached ER (recvC c d (k + 2) 1) ((k + 2) / 3) ∗ owing c O₀)
      ⊢ iprop(((sndSt c d 0 (mn d (k + 1)) ∗ sndSt c d 1 (mn d (k + 1)) ∗ grSt c d (mn d (k + 3)) ∗ kept c d (k + 3) ∗ owing c O) -∗ wp frame (wpE defs 𝒱 (c : Thread nD τ) bd) Set.univ R Q)
        -∗ wp frame (wpE defs 𝒱 (c : Thread nD τ) bd) Set.univ
            (if h : φ then do
              Prog.lift (.waitDma2 (s0 h) (a0 h) (b0 h) (ha0 h) (hb0 h))
              Prog.lift (.waitDma2 (s1 h) (a1 h) (b1 h) (ha1 h) (hb1 h))
              if h' : ψ then do
                semSignalWord (p := (c : Thread nD τ).2) (z h h') sem 1#32
                R
              else R
            else R) Q) := by
  have hkeep : ¬ k + 2 < NT d → (iprop(kept c d (k + 2) ∗ slotA (c, d, sl (k + 3))) : sProp 𝕄) ⊢ kept c d (k + 3) := by
    intro h
    unfold kept
    iintro ⟨H, Hs⟩
    rw [bigSep_Ico_succ_top (show NT d ≤ k + 2 by omega)]
    isplitl [Hs]; · iexact Hs
    iexact H
  by_cases hlt : k < NT d
  · have hφ' := hφ.2 hlt
    rw [dif_pos hφ', mn_le (show k + 1 ≤ NT d from hlt)]
    unfold lent qk
    rw [if_pos hlt, if_pos hlt, if_pos hlt]
    simp only [wp_bind]
    iintro ⟨#Hc, Hs0, Hs1, ⟨HR0, Hc0⟩, ⟨HR1, Hc1⟩, Hg, Hkp, #Hr0, #Hr1, HO⟩ Hk
    iapply (send_wait A 𝒱 c bd d 0 k hlt (hab hlt) (hs0 hφ') (hc0 hφ')) $$ [Hs0 Hc0 HO]
    · isplitl []; · iexact Hc
      isplitl [Hs0]; · iexact Hs0
      isplitl [Hc0]; · iexact Hc0
      iexact HO
    iintro ⟨Hs0, HL0, HO⟩
    iapply (send_wait A 𝒱 c bd d 1 k hlt (hab hlt) (hs1 hφ') (hc1 hφ')) $$ [Hs1 Hc1 HO]
    · isplitl []; · iexact Hc
      isplitl [Hs1]; · iexact Hs1
      isplitl [Hc1]; · iexact Hc1
      iexact HO
    iintro ⟨Hs1, HL1, HO⟩
    unfold sendPay
    ihave H0 := (hPt_whole A c d (sl k) 0 (og d k c)) $$ [HL0 HR0]
    · isplitl [HL0]; · iexact HL0
      iexact HR0
    ihave H1 := (hPt_whole A c d (sl k) 1 (og d k c)) $$ [HL1 HR1]
    · isplitl [HL1]; · iexact HL1
      iexact HR1
    ihave HS := (sPt_join A c d (sl k) (og d k c) fullShare) $$ [H0 H1]
    · isplitl [H0]; · iexact H0
      iexact H1
    ihave HS := (sPt_slot A c d (sl k) (og d k c)) $$ HS
    by_cases hg : k + 2 < NT d
    · rw [dif_pos (hψ.2 hg), mn_le (show k + 2 ≤ NT d by omega), mn_le (show k + 3 ≤ NT d by omega)]
      simp only [wp_bind]
      iapply (grant_step A 𝒱 c bd d (k + 2) hg (hO hg) (hz hφ' (hψ.2 hg)) hsem) $$ [Hg HS HO]
      · isplitl []; · iexact Hc
        isplitl [Hg]; · iexact Hg
        isplitl [HS]; · rw [show k + 2 + 1 = k + 3 from rfl, sl_add]; iexact HS
        isplitl []; · iexact Hr0
        isplitl []; · iexact Hr1
        iexact HO
      iintro ⟨Hg, HO⟩
      iapply Hk
      isplitl [Hs0]; · iexact Hs0
      isplitl [Hs1]; · iexact Hs1
      isplitl [Hg]; · iexact Hg
      isplitl [Hkp]
      · unfold kept
        rw [Finset.Ico_eq_empty (by omega : ¬ NT d < k + 2), Finset.Ico_eq_empty (by omega : ¬ NT d < k + 3)]; iexact Hkp
      iexact HO
    · rw [dif_neg (fun h => hg (hψ.1 h)), mn_ge (show NT d ≤ k + 2 by omega), mn_ge (show NT d ≤ k + 3 by omega), hO' hg]
      iapply Hk
      isplitl [Hs0]; · iexact Hs0
      isplitl [Hs1]; · iexact Hs1
      isplitl [Hg]; · iexact Hg
      isplitl [Hkp HS]
      · iapply (hkeep hg)
        isplitl [Hkp]; · iexact Hkp
        rw [sl_add]; iexact HS
      iexact HO
  · rw [dif_neg (fun h => hlt (hφ.1 h)), mn_ge (show NT d ≤ k + 2 by omega), mn_ge (show NT d ≤ k + 3 by omega), hO' (by omega), crdSt_done c d hlt hk]
    unfold lent qk
    rw [if_neg hlt, if_neg hlt, if_neg hlt]
    iintro ⟨#Hc, Hs0, Hs1, ⟨H0, -⟩, ⟨H1, -⟩, Hg, Hkp, -, -, HO⟩ Hk
    ihave HS := (sPt_join A c d (sl k) (og d k c) fullShare) $$ [H0 H1]
    · isplitl [H0]; · iexact H0
      iexact H1
    ihave HS := (sPt_slot A c d (sl k) (og d k c)) $$ HS
    iapply Hk
    isplitl [Hs0]; · iexact Hs0
    isplitl [Hs1]; · iexact Hs1
    isplitl [Hg]; · iexact Hg
    isplitl [Hkp HS]
    · iapply (hkeep (by omega))
      isplitl [Hkp]; · iexact Hkp
      rw [sl_add]; iexact HS
    iexact HO

end Chunks

end Cert.KernelIdeal.RingMM

end
-- ==== Proof.Out.lean ====
/-
  What a core does by itself: it reads its table, multiplies the slots' blocks, and copies each product to its rows of the
  result.

  `d` is the direction whose staging buffer is used; `x` the device whose block is multiplied.
-/
module

public import proofs.«01_k».proof.Proof.Chunks

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-! ## The views -/

/-- The staging buffer of a direction's products, and the semaphore of the copies out of it. -/
@[reducible] def stgM : Bool → Memref sig .tc .vmem S1536x1536 .bf16
  | false => Memref.whole cc0_scratch2
  | true => Memref.whole cc0_scratch3
def stgS : Bool → DmaSem sig
  | false => (cc0_scratch8).sem
  | true => (cc0_scratch9).sem
theorem out_inb (x : Dev nD) : ∀ a, (![1536 * x.val, 0] : Fin 2 → ℕ) a + S1536x1536.size a ≤ S49152x1536.size a := by
  revert x; decide
/-- The rows of the result that device `x`'s block makes. -/
@[reducible] def outR (x : Dev nD) : Rect S49152x1536 := Rect.unit (s := S49152x1536) ![1536 * x.val, 0] S1536x1536.size (out_inb x)
@[reducible] def outM (x : Dev nD) : Memref sig .tc .hbm S1536x1536 .bf16 := (Memref.whole main_v53).slice (outR x) (fun _ => rfl)
@[reducible] def stgL (d : Bool) (c : Dev nD) : Loc nD τ sig := (stgM d).view.loc (c : Thread nD τ)
@[reducible] def outL (c : Dev nD) : Loc nD τ sig := (Memref.whole main_v53).view.loc (c : Thread nD τ)
theorem stg_set (d : Bool) : (stgM d).view.set = Finset.univ := by cases d <;> exact View.set_whole _
def oS (c : Dev nD) (x : Dev nD) : Finset (Idx (outL c)) := (outM x).view.set

theorem mem_oS (c x : Dev nD) (j : Idx (outL c)) : j ∈ oS c x ↔ (j 0).val / 1536 = x.val := by
  have e : (outM x).view.set = (outR x).set.map (Memref.whole main_v53).view.emb := View.set_slice _ _
  have h0 : (j 0).val < 49152 := (j 0).isLt
  have h1 : (j 1).val < 1536 := (j 1).isLt
  refine (Finset.ext_iff.1 e j).trans (Finset.mem_map.trans ?_)
  constructor
  · rintro ⟨i, hi, rfl⟩
    rw [Rect.mem_set_unit] at hi
    have a0 := hi 0
    simp at a0
    show (i 0).val / 1536 = x.val
    omega
  · intro h
    refine ⟨j, ?_, rfl⟩
    rw [Rect.mem_set_unit]
    intro a
    fin_cases a <;> simp <;> omega
theorem oS_disj (c : Dev nD) {x y : Dev nD} (h : x ≠ y) : Disjoint (oS c x) (oS c y) := by
  rw [Finset.disjoint_left]
  intro j h0 h1
  rw [mem_oS] at h0 h1
  exact h (Fin.ext (by omega))
theorem oS_univ (c : Dev nD) : (Finset.univ : Finset (Dev nD)).biUnion (oS c) = Finset.univ := by
  ext j
  simp only [Finset.mem_biUnion, Finset.mem_univ, true_and, iff_true]
  have h0 : (j 0).val < 49152 := (j 0).isLt
  exact ⟨⟨(j 0).val / 1536, by show _ < 32; omega⟩, (mem_oS c _ j).2 rfl⟩

/-! ## Contents -/

variable (W : Dev nD → S1536x1536.Idx → Elt F .bf16)

/-- A product as the contents of a staging buffer. -/
def Sb (c : Dev nD) (w : S1536x1536.Idx → Elt F .bf16) : (d : Bool) → Buf (Elt F) (stgL d c)
  | false => fun j => w j
  | true => fun j => w j
/-- All products as the contents of the result. -/
def Fout (c : Dev nD) : Buf (Elt F) (outL c) :=
  fun j => W ⟨(j 0).val / 1536, by have : (j 0).val < 49152 := (j 0).isLt; show _ < 32; omega⟩
    (ix2 ⟨(j 0).val % 1536, Nat.mod_lt _ (by norm_num)⟩ ⟨(j 1).val, (j 1).isLt⟩)
/-- What a copy leaves in the result. -/
def outB (c : Dev nD) (w : S1536x1536.Idx → Elt F .bf16) (d : Bool) (x : Dev nD) (f : Buf (Elt F) (outL c)) : Buf (Elt F) (outL c) :=
  fun i => (outM x).view.write (Elt F) f ((stgM d).view.read (Elt F) (Sb c w d)) Finset.univ i

theorem outB_eq (c : Dev nD) (d : Bool) (x : Dev nD) (f : Buf (Elt F) (outL c)) : ∀ i ∈ oS c x, outB c (W x) d x f i = Fout W c i := by
  intro i hi
  unfold oS at hi
  unfold outB
  have e : (stgM d).view.read (Elt F) (Sb c (W x) d) = (outM x).view.read (Elt F) (Fout W c) := by
    funext j
    have h0 : (j 0).val < 1536 := (j 0).isLt
    have e1 : (stgM d).view.read (Elt F) (Sb c (W x) d) j = W x j := by cases d <;> rfl
    rw [e1]
    show W x j = W ⟨(1536 * x.val + 1 * (j 0).val) / 1536, _⟩ (ix2 ⟨(1536 * x.val + 1 * (j 0).val) % 1536, _⟩ ⟨0 + 1 * (j 1).val, _⟩)
    have hx : (⟨(1536 * x.val + 1 * (j 0).val) / 1536, by have : x.val < 32 := x.isLt; show _ < 32; omega⟩ : Dev nD) = x := Fin.ext (by show (1536 * x.val + 1 * (j 0).val) / 1536 = x.val; omega)
    rw [hx]
    congr 1
    funext a
    fin_cases a
    · exact Fin.ext (by show _ = (1536 * x.val + 1 * (j 0).val) % 1536; simp; omega)
    · exact Fin.ext (by show _ = 0 + 1 * (j 1).val; simp)
  rw [e, View.write_read_eq_piecewise, View.setOn_univ]
  exact Finset.piecewise_eq_of_mem _ _ _ hi

def NB : ℕ := tileCredit S1536x1536 .bf16
theorem out_amount (x : Dev nD) (sm : DmaSem sig) : (outM x).view.amount (.dma sm) = NB := rfl
theorem out_credit (off : Fin 2 → ℕ) (inb : ∀ a, off a + S1536x1536.size a ≤ S49152x1536.size a) :
    ((Memref.whole main_v53).slice (Rect.unit (s := S49152x1536) off S1536x1536.size inb) (fun _ => rfl)).view.dmaCredit = NB := rfl
theorem half_credit' (d : Bool) (off : Fin 3 → ℕ) (inb : ∀ a, off a + S1x768x768.size a ≤ S3x1536x768.size a) :
    (((commM d).slice (Rect.unit (s := S3x1536x768) off S1x768x768.size inb) (fun _ => rfl)).squeeze S768x768 squeezes_S1x768x768_S768x768).view.dmaCredit = NH := by
  cases d <;> rfl
theorem NB_pos : 0 < NB := tileCredit_pos _ _ (by decide)
theorem out_of (x : Dev nD) {off : Fin 2 → ℕ} (ho : off = ![1536 * x.val, 0]) (inb : ∀ a, off a + S1536x1536.size a ≤ S49152x1536.size a) :
    (Memref.whole main_v53).slice (Rect.unit (s := S49152x1536) off S1536x1536.size inb) (fun _ => rfl) = outM x := by
  subst ho; rfl

/-! ## Assertions -/

section Asserts
variable (c : Dev nD) (d : Bool) (x : Dev nD)
def stgAny : sProp 𝕄 := iprop(∃ f, stgL d c ↦[Finset.univ]{fullShare} f)
def stgAt : sProp 𝕄 := stgL d c ↦[Finset.univ]{fullShare} Sb c (W x) d
def outAny : sProp 𝕄 := iprop(∃ f, outL c ↦[oS c x]{fullShare} f)
def outAt : sProp 𝕄 := outL c ↦[oS c x]{fullShare} Fout W c
/-- A copy of product `x` out of the staging buffer is under way. -/
def fly : sProp 𝕄 :=
  iprop(∃ f, Flight EC (c : Thread nD τ) (.dma (stgS d)) 0 NB iprop((outL c ↦[oS c x]{fullShare} outB c (W x) d x f) ∗ stgAt W c d x))
/-- The table of the device. -/
def tabB : Buf (Elt F) ((Memref.whole cc0_stg2_0).view.loc (c : Thread nD τ)) := fun i => wd (tab c (i 0).val)
def tabPt : sProp 𝕄 := (Memref.whole cc0_stg2_0).view.loc (c : Thread nD τ) ↦[Finset.univ]{fullShare} tabB c
end Asserts

theorem lv_stg (c : Dev nD) (d : Bool) : lv ((c : Thread nD τ), SemLoc.dma (stgS d)) 0 ≤ 0 := by
  show lvOf (SemLoc.dma (stgS d)) 0 ≤ 0
  cases d <;> decide +kernel

/-! ## Steps -/

section Steps
variable {Λ : Labels} {defs : Defs nD τ sig (Elt F) Λ} (𝒱 : Variants) (c : Dev nD) (bd : Option 𝒱.V) (d : Bool) (x : Dev nD)
variable {K : GSem nD τ sig → ℕ} {κ : Key → ℕ}

/-- READ word `n` of the table. -/
theorem tab_step {Q : Elt F .i32 → sProp 𝕄} (n : ℕ) {off : Fin 1 → ℕ} (ho : off = ![n]) {inb : ∀ a, off a + S1.size a ≤ S33.size a}
    {h1 : (Rect.unit (s := S33) off S1.size inb).shape.numel = 1} {hp : EltTy.i32.packing = 1} :
    tabPt c ⊢ iprop((tabPt c -∗ Q (wd (tab c n)))
      -∗ wp frame (wpE defs 𝒱 (c : Thread nD τ) bd) Set.univ (smemLoad (p := (c : Thread nD τ).2) (Memref.whole cc0_stg2_0) (Rect.unit (s := S33) off S1.size inb) h1 hp) Q) := by
  subst ho
  unfold tabPt smemLoad
  iintro H Hk
  iapply (wp_smemLoadElt 𝒱 (c : Thread nD τ) bd Set.univ (m := Memref.whole cc0_stg2_0) (r := Rect.unit (s := S33) ![n] S1.size inb) (S := Finset.univ) (Finset.subset_univ _)) $$ H
  iintro H
  rw [wp_ret]
  imodintro
  ihave Hk := Hk $$ H
  have e : ((Memref.whole cc0_stg2_0).access (Rect.unit (s := S33) ![n] S1.size inb)).read (Elt F) (tabB c) (Shape.Idx.first (h1.symm ▸ Nat.one_pos)) = wd (tab c n) := by
    show wd (tab c (n + 1 * _)) = _
    congr 2
  rw [e]
  iexact Hk

/-- READ a slot that both halves of have arrived in. -/
theorem slot_load (A : Dev nD → S1536x768.Idx → Elt F .bf16) (s : Fin 3) (q : PosShare TreeShare) {Q : (S1x1536x768.Idx → Elt F .bf16) → sProp 𝕄}
    {off : Fin 3 → ℕ} (ho : off = ![s.val, 0, 0]) {inb : ∀ a, off a + S1x1536x768.size a ≤ S3x1536x768.size a}
    {hl : (commM d).view.LoadsAt (Rect.unit (s := S3x1536x768) off S1x1536x768.size inb).toLoadRect} :
    iprop(hPt A d c s 0 q x ∗ hPt A d c s 1 q x) ⊢ iprop(((hPt A d c s 0 q x ∗ hPt A d c s 1 q x) -∗ Q (slotVal (A x)))
      -∗ wp frame (wpE defs 𝒱 (c : Thread nD τ) bd) Set.univ
          (Prog.lift (.load (commM d) (Rect.unit (s := S3x1536x768) off S1x1536x768.size inb).toLoadRect hl)) Q) := by
  subst ho
  iintro ⟨H0, H1⟩ Hk
  ihave H := (sPt_join A c d s x q) $$ [H0 H1]
  · isplitl [H0]; · iexact H0
    iexact H1
  unfold sPt
  iapply (wp_load_rect 𝒱 (c : Thread nD τ) bd Set.univ (m := commM d) (r := slotR s) (S := sS d c s) (Finset.Subset.refl _)) $$ H
  iintro H
  rw [wp_ret]
  imodintro
  rw [load_slot c (A x) d s]
  iapply Hk
  iapply (sPt_halves A c d s x q)
  unfold sPt
  iexact H

/-- READ a staging buffer, for nothing. -/
theorem stg_load {Q : (S1536x1536.Idx → Elt F .bf16) → sProp 𝕄} {inb : ∀ a, (![0, 0] : Fin 2 → ℕ) a + S1536x1536.size a ≤ S1536x1536.size a}
    {hl : (stgM d).view.LoadsAt (Rect.unit (s := S1536x1536) ![0, 0] S1536x1536.size inb).toLoadRect} :
    stgAny c d ⊢ iprop((stgAny c d -∗ ∀ w, Q w)
      -∗ wp frame (wpE defs 𝒱 (c : Thread nD τ) bd) Set.univ
          (Prog.lift (.load (stgM d) (Rect.unit (s := S1536x1536) ![0, 0] S1536x1536.size inb).toLoadRect hl)) Q) := by
  unfold stgAny
  iintro ⟨%f, H⟩ Hk
  iapply (wp_load_rect 𝒱 (c : Thread nD τ) bd Set.univ (m := stgM d) (r := Rect.unit (s := S1536x1536) ![0, 0] S1536x1536.size inb)
    (S := Finset.univ) (Finset.subset_univ _)) $$ H
  iintro H
  rw [wp_ret]
  imodintro
  ihave Hk := Hk $$ [H]
  · iexists f; iexact H
  iapply Hk

/-- WRITE a product to a staging buffer. -/
theorem stg_store {Q : PUnit → sProp 𝕄} {inb : ∀ a, (![0, 0] : Fin 2 → ℕ) a + S1536x1536.size a ≤ S1536x1536.size a} {w : S1536x1536.Idx → Elt F .bf16}
    {hx : ((stgM d).access (Rect.unit (s := S1536x1536) ![0, 0] S1536x1536.size inb)).Stores Finset.univ}
    {hm : (Finset.univ : Finset S1536x1536.Idx) = Finset.univ ∨ ∀ a, (Rect.unit (s := S1536x1536) ![0, 0] S1536x1536.size inb).stride a = 1}
    (hw : w = W x) :
    stgAny c d ⊢ iprop((stgAt W c d x -∗ Q ⟨⟩)
      -∗ wp frame (wpE defs 𝒱 (c : Thread nD τ) bd) Set.univ
          (Prog.lift (.store (stgM d) (Rect.unit (s := S1536x1536) ![0, 0] S1536x1536.size inb) w Finset.univ hx hm)) Q) := by
  subst hw
  unfold stgAny stgAt
  iintro ⟨%f, H⟩ Hk
  iapply (wp_store 𝒱 (c : Thread nD τ) bd Set.univ (m := stgM d) (r := Rect.unit (s := S1536x1536) ![0, 0] S1536x1536.size inb)
    (S := Finset.univ) (Finset.subset_univ _)) $$ H
  iintro H
  rw [wp_ret]
  imodintro
  iapply Hk
  have e : ((stgM d).access (Rect.unit (s := S1536x1536) ![0, 0] S1536x1536.size inb)).read (Elt F) (Sb c (W x) d) = W x := by
    funext j
    cases d
    all_goals
      show W x _ = W x j
      congr 1
      funext a
      fin_cases a
      · exact Fin.ext (by show 0 + 1 * (j 0).val = _; simp)
      · exact Fin.ext (by show 0 + 1 * (j 1).val = _; simp)
  have e2 : ∀ i ∈ (Finset.univ : Finset (Idx (stgL d c))), ((stgM d).access (Rect.unit (s := S1536x1536) ![0, 0] S1536x1536.size inb)).write (Elt F) f (W x) Finset.univ i = Sb c (W x) d i := by
    intro i _
    have hi : i ∈ ((stgM d).access (Rect.unit (s := S1536x1536) ![0, 0] S1536x1536.size inb)).set := by
      have e3 : ((stgM d).access (Rect.unit (s := S1536x1536) ![0, 0] S1536x1536.size inb)).set = (Rect.unit (s := S1536x1536) ![0, 0] S1536x1536.size inb).set.map (stgM d).view.emb := View.set_slice _ _
      cases d
      all_goals
        rw [e3, Finset.mem_map]
        refine ⟨i, ?_, rfl⟩
        rw [Rect.mem_set_unit]
        intro a
        have h0 : (i 0).val < 1536 := (i 0).isLt
        have h1 : (i 1).val < 1536 := (i 1).isLt
        fin_cases a <;> simp <;> omega
    conv_lhs => rw [← e]
    rw [View.write_read_eq_piecewise, View.setOn_univ]
    exact Finset.piecewise_eq_of_mem _ _ _ hi
  iapply (Entails.of_eq (pointsTo_congr e2))
  iexact H

/-- START the copy of a product to its rows. -/
theorem copy_start {Q : PUnit → sProp 𝕄} {src : Memref sig .tc .vmem S1536x1536 .bf16} {dst : Memref sig .tc .hbm S1536x1536 .bf16} {sem : DmaSem sig}
    {hs : src.view.WordExact} {hd : dst.view.WordExact} {hty : DmaTarget.Typed (nD := nD) (τ := τ) (p := (c : Thread nD τ).2) .vmem (.dma sem) (.here dst)}
    (hsrc : src = stgM d) (hdst : dst = outM x) (hsem : sem = stgS d) :
    iprop(stgAt W c d x ∗ outAny c x ∗ semVal ((c : Thread nD τ), SemLoc.dma (stgS d)) 0)
      ⊢ iprop((fly W c d x -∗ Q ⟨⟩)
        -∗ wp frame (wpE defs 𝒱 (c : Thread nD τ) bd) Set.univ (Prog.lift (.enqueueDma src (.here dst) (.dma sem) hs hd hty)) Q) := by
  subst hsrc hdst hsem
  unfold stgAt outAny fly
  iintro ⟨Hs, ⟨%f, Hd⟩, Hv⟩ Hk
  iapply (wp_dmaLocal EC 𝒱 (c : Thread nD τ) bd (src := stgM d) (dst := outM x) (sm := .dma (stgS d)) (fs := Sb c (W x) d) (fd := f) (Sd := oS c x) (via := .same)
      0 NB (out_amount x _) NB_pos (Finset.Subset.refl _)) $$ [Hs Hd Hv]
  · isplitl [Hs]; · rw [stg_set]; iexact Hs
    isplitl [Hd]; · iexact Hd
    iexact Hv
  iintro Hf
  rw [wp_ret]
  imodintro
  iapply Hk
  iexists f
  rw [stg_set]
  iexact Hf

/-- WAIT for the copy: its rows are done, the staging buffer is free. -/
theorem copy_wait (A : Dev nD → S1536x768.Idx → Elt F .bf16) {Q : PUnit → sProp 𝕄} {O : CellTallies nD τ sig ℕ} (hO : Above 0 O)
    {sp sp' : Space} {s s' : Shape} {e e' : EltTy}
    {sem : DmaSem sig} {src : Memref sig (c : Thread nD τ).2.kind sp s e} {dst : Memref sig (c : Thread nD τ).2.kind sp' s' e'}
    {hs : src.view.WordExact} {hd : dst.view.WordExact} (hsem : sem = stgS d) (hcr : dst.view.dmaCredit = NB) :
    iprop(ctx A K κ ∗ fly W c d x ∗ owing c O)
      ⊢ iprop(((outAt W c x ∗ stgAny c d ∗ semVal ((c : Thread nD τ), SemLoc.dma (stgS d)) 0 ∗ owing c O) -∗ Q ⟨⟩)
        -∗ wp frame (wpE defs 𝒱 (c : Thread nD τ) bd) Set.univ (Prog.lift (.waitDma2 sem src dst hs hd)) Q) := by
  subst hsem
  unfold fly owing
  iintro ⟨#Hc, ⟨%f, Hf⟩, %w, HO⟩ Hk
  ihave HL := (ctx_lev A) $$ Hc
  iapply (wp_waitLocalO EC 𝒱 (c : Thread nD τ) bd 0 hcr (O := O) (W := w)) $$ [Hf HO HL]
  · isplitl [Hf]; · iexact Hf
    isplitl [HO]; · iexact HO
    iapply (Lev_wait hO c _ 0 (by omega) (lv_stg c d)); iexact HL
  iintro ⟨⟨Ho, Hst⟩, Hv, HO⟩
  rw [wp_ret]
  imodintro
  iapply Hk
  isplitl [Ho]
  · unfold outAt
    iapply (Entails.of_eq (pointsTo_congr (outB_eq W c d x f)))
    iexact Ho
  isplitl [Hst]
  · unfold stgAny stgAt
    iexists _; iexact Hst
  isplitl [Hv]; · iexact Hv
  iexists _; iexact HO

end Steps

end Cert.KernelIdeal.RingMM

end
-- ==== Proof.Chk.lean ====
/-
  The side conditions the kernel assumes of the words it reads: each holds of the number of a device.
-/
module

public import proofs.«01_k».proof.Proof.Ring

@[expose] public section

namespace Cert.KernelIdeal.RingMM

open Idealize.ShloMosaic Idealize.SL.Sem
open Facts₀ Facts

local notation "TT" => Fin k0_t1_loop.trips

theorem rows_ok (x : Dev nD) {off : Fin 2 → ℕ} (ho : off = ![1536 * x.val, 0]) :
    (∀ a, off a + S1536x1536.size a ≤ S49152x1536.size a) ∧
      (∀ (hinb : ∀ a, off a + S1536x1536.size a ≤ S49152x1536.size a), (Rect.unit (s := S49152x1536) off S1536x1536.size hinb).WholeWords (EltTy.packing .bf16)) := by
  rw [← off1_eq x] at ho
  subst ho
  exact ⟨k0_off1_inb x, fun _ => k0_off1_wordsbf16 x⟩

theorem row_off (x : Dev nD) : (![(Scalar.muli (wd x) 1536#32).toNat, 0] : Fin 2 → ℕ) = ![1536 * x.val, 0] := by rw [row_wd]
theorem off22_eq (x : Dev nD) : k0_off22 (wd x) = ![1536 * x.val, 0] := row_off x
theorem off24_eq (x : Dev nD) : k0_off24 (wd x) = ![1536 * x.val, 0] := row_off x
theorem off27_eq (x : Dev nD) : k0_off27 (wd x) = ![1536 * x.val, 0] := row_off x
theorem off36_eq (x : Dev nD) : k0_off36 (wd x) = ![1536 * x.val, 0] := row_off x
theorem off37_eq (x : Dev nD) : k0_off37 (wd x) = ![1536 * x.val, 0] := row_off x

/-- A device's number, as the kernel finds its own. -/
theorem own_wd (c : Dev nD) : Scalar.remsi (Scalar.divsi (Dev.word c) 1#32) 32#32 = wd c := by revert c; decide +kernel

theorem off19_eq (c : Dev nD) (t : TT) (x : Dev nD) : ∃ y : Dev nD, k0_off19 c t (wd x) = ![1536 * y.val, 0] := by
  show ∃ y : Dev nD, (![(Scalar.muli (Scalar.select (Scalar.cmpi .eq (Scf.iv 0#32 1#32 t) 0#32) (Scalar.remsi (Scalar.divsi (Dev.word c) 1#32) 32#32) (wd x)) 1536#32).toNat, 0] : Fin 2 → ℕ) = _
  rw [own_wd]
  unfold Scalar.select
  by_cases h : Scalar.cmpi .eq (Scf.iv 0#32 1#32 t.val) 0#32 = 1#1
  · exact ⟨c, by rw [if_pos (show _ = (1 : BitVec 1) from h)]; exact row_off c⟩
  · exact ⟨x, by rw [if_neg (show ¬ _ = (1 : BitVec 1) from h)]; exact row_off x⟩

theorem chk3 (c : Dev nD) (t : TT) (x : Dev nD) : k0_chk3 c t (wd x) := by
  obtain ⟨y, hy⟩ := off19_eq c t x
  exact rows_ok y hy
theorem chk4 (x : Dev nD) : k0_chk4 (wd x) := rows_ok x (off22_eq x)
theorem chk5 (t : TT) (x : Dev nD) : k0_chk5 t (wd x) := ⟨fun _ _ => (rows_ok x (off24_eq x)).1, fun _ _ => (rows_ok x (off24_eq x)).2⟩
theorem chk6 (t : TT) (x : Dev nD) : k0_chk6 t (wd x) := ⟨fun _ => (rows_ok x (off27_eq x)).1, fun _ => (rows_ok x (off27_eq x)).2⟩
theorem chk7 (x : Dev nD) : k0_chk7 (wd x) := rows_ok x (off36_eq x)
theorem chk8 (x : Dev nD) : k0_chk8 (wd x) := rows_ok x (off37_eq x)

theorem dev_lt (x : Dev nD) : (Scalar.addi (0#32) (Scalar.muli (wd x) 1#32)).toNat < nD := by rw [dev_wd]; exact x.isLt
theorem chk1 (x : Dev nD) : k0_chk1 (wd x) :=
  ⟨dev_lt x, dev_lt x, dev_lt x, dev_lt x, dev_lt x, dev_lt x, fun _ _ => dev_lt x, fun _ _ => dev_lt x, fun _ _ _ => dev_lt x⟩
theorem chk2 (x : Dev nD) : k0_chk2 (wd x) :=
  ⟨dev_lt x, dev_lt x, dev_lt x, dev_lt x, dev_lt x, dev_lt x, fun _ _ => dev_lt x, fun _ _ => dev_lt x, fun _ _ _ => dev_lt x⟩

/-- The device a word of the table names. -/
theorem dev_of (x : Dev nD) (h : (Scalar.addi (0#32) (Scalar.muli (wd x) 1#32)).toNat < nD) :
    (⟨(Scalar.addi (0#32) (Scalar.muli (wd x) 1#32)).toNat, h⟩ : Dev nD) = x := Fin.ext (dev_wd x)

end Cert.KernelIdeal.RingMM
-- ==== Proof.TripA.lean ====
/-
  A trip of the kernel's loop, first part: the first halves of the trip's blocks arrive and are sent on.

  `t` is the trip; transfer `t` of each direction arrives, transfer `t + 1` leaves. In the last trip the second direction has
  no transfer left.
-/
module

public import proofs.«01_k».proof.Proof.Out
public import proofs.«01_k».proof.Proof.Chk
public import proofs.«01_k».proof.Proof.Gen.KernelIdeal.Skeleton

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-! ## What a core owes, past the last -/

section Past
variable (c : Dev nD) {g₀ g₁ t₀₀ t₀₁ t₁₀ t₁₁ : ℕ}
theorem OO_g₀' (h : 16 ≤ g₀) : OO c g₀ g₁ t₀₀ t₀₁ t₁₀ t₁₁ = OO c (g₀ + 1) g₁ t₀₀ t₀₁ t₁₀ t₁₁ := by
  unfold OO; rw [OG_done false c (k := g₀) h, OG_done false c (k := g₀ + 1) (Nat.le_succ_of_le h)]
theorem OO_g₁' (h : 15 ≤ g₁) : OO c g₀ g₁ t₀₀ t₀₁ t₁₀ t₁₁ = OO c g₀ (g₁ + 1) t₀₀ t₀₁ t₁₀ t₁₁ := by
  unfold OO; rw [OG_done true c (k := g₁) h, OG_done true c (k := g₁ + 1) (Nat.le_succ_of_le h)]
theorem OO_t₀₀' (h : 16 ≤ t₀₀) : OO c g₀ g₁ t₀₀ t₀₁ t₁₀ t₁₁ = OO c g₀ g₁ (t₀₀ + 1) t₀₁ t₁₀ t₁₁ := by
  unfold OO; rw [OT_done false 0 c (k := t₀₀) h, OT_done false 0 c (k := t₀₀ + 1) (Nat.le_succ_of_le h)]
theorem OO_t₀₁' (h : 16 ≤ t₀₁) : OO c g₀ g₁ t₀₀ t₀₁ t₁₀ t₁₁ = OO c g₀ g₁ t₀₀ (t₀₁ + 1) t₁₀ t₁₁ := by
  unfold OO; rw [OT_done false 1 c (k := t₀₁) h, OT_done false 1 c (k := t₀₁ + 1) (Nat.le_succ_of_le h)]
theorem OO_t₁₀' (h : 15 ≤ t₁₀) : OO c g₀ g₁ t₀₀ t₀₁ t₁₀ t₁₁ = OO c g₀ g₁ t₀₀ t₀₁ (t₁₀ + 1) t₁₁ := by
  unfold OO; rw [OT_done true 0 c (k := t₁₀) h, OT_done true 0 c (k := t₁₀ + 1) (Nat.le_succ_of_le h)]
theorem OO_t₁₁' (h : 15 ≤ t₁₁) : OO c g₀ g₁ t₀₀ t₀₁ t₁₀ t₁₁ = OO c g₀ g₁ t₀₀ t₀₁ t₁₀ (t₁₁ + 1) := by
  unfold OO; rw [OT_done true 1 c (k := t₁₁) h, OT_done true 1 c (k := t₁₁ + 1) (Nat.le_succ_of_le h)]
end Past

/-! ## One direction, around the arrival of a block's halves -/

section Halves
variable (A : Dev nD → S1536x768.Idx → Elt F .bf16) (c : Dev nD) (d : Bool) (h : ℕ)

/-- Before the first half of transfer `h`'s block arrives. -/
def P1 : sProp 𝕄 := iprop(rcvSt c d 0 h ∗ crdSt c d (mn d (h + 1)) ∗ wrSt c d (h + 1) ∗ sndSt c d 0 (mn d (h + 1)) ∗ sndTk c d 0 (h + 1))
/-- It has arrived, and is on its way as transfer `h + 1`, if there is one. -/
def Q1 : sProp 𝕄 := iprop(rcvSt c d 0 (h + 1) ∗ crdSt c d (mn d (h + 2)) ∗ wrSt c d (h + 2) ∗ sndSt c d 0 (h + 1) ∗ sndTk c d 0 (h + 2) ∗ lent A c d (h + 1) 0 ∗ dst1 c d (h + 1))
/-- Before the second half of transfer `h`'s block arrives. -/
def P2 : sProp 𝕄 := iprop(rcvSt c d 1 h ∗ sndSt c d 1 (mn d (h + 1)) ∗ sndTk c d 1 (h + 1))
/-- It has arrived, and is on its way as transfer `h + 1`, if there is one. -/
def Q2 : sProp 𝕄 := iprop(rcvSt c d 1 (h + 1) ∗ sndSt c d 1 (h + 1) ∗ sndTk c d 1 (h + 2) ∗ lent A c d (h + 1) 1)
/-- What the core holds to return slots. -/
def P3 : sProp 𝕄 := iprop(grSt c d (mn d (h + 3)) ∗ kept c d (h + 3))
end Halves

theorem sl_val (k : ℕ) : (sl k).val = k % 3 := rfl

section Trip
variable (A : Dev nD → S1536x768.Idx → Elt F .bf16) {defs : Defs nD τ sig (Elt F) Λ₀} (𝒱 : Variants) (c : Dev nD) (bd : Option 𝒱.V)
variable {K : GSem nD τ sig → ℕ} {κ : Key → ℕ}

set_option maxHeartbeats 4000000 in
/-- The first part of a trip before the last. -/
theorem part1_lt (v3 v4 : Elt F .i32) (h3 : v3 = wd (nx true c)) (h4 : v4 = wd (nx false c)) (hw1 : k0_chk1 v3) (hw2 : k0_chk2 v4) (t : Fin k0_t1_loop.trips) (ht : t.val < 15)
    {Q : (Σ' (_ : BitVec 32), BitVec 32) → sProp (MT nD τ sig ℕ (Elt F) ℕ UU ℕ)} :
    iprop(ctx A K κ ∗ P1 c false t.val ∗ P1 c true t.val ∗ owing c (OO c (t.val+3) (t.val+3) (t.val+1) (t.val+1) (t.val+1) (t.val+1)))
      ⊢ iprop((∀ r, (Q1 A c false t.val ∗ Q1 A c true t.val ∗ owing c (OO c (t.val+3) (t.val+3) (t.val+2) (t.val+1) (t.val+2) (t.val+1))) -∗ Q r)
        -∗ wp frame (wpE defs 𝒱 (c : Thread nD τ) bd) Set.univ
            (k0_part1 (Memref.whole cc0_stg0_0) (Memref.isWhole_whole _) (Memref.whole cc0_stg1_0) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v3 hw1 v4 hw2 0#32 1#32 t) Q) := by
  subst h3 h4
  rw [Gen.k0_part1_eq_skeleton]
  unfold Gen.k0_part1_skel P1 Q1
  simp only [wp_bind]
  have e0 : mn false (t.val + 1) = t.val + 1 := mn_le (show t.val + 1 ≤ 16 by omega)
  rw [e0]
  have e1 : mn true (t.val + 1) = t.val + 1 := mn_le (show t.val + 1 ≤ 15 by omega)
  rw [e1]
  iintro ⟨#Hc, ⟨Hr, Hcr, Hw, Hs, Ht⟩, ⟨Ur, Uc, Uw, Us, Ut⟩, HO⟩ Hk
  iapply (recv_wait A 𝒱 c bd false 0 t.val (show t.val < 16 by omega) (O := OO c (t.val+3) (t.val+3) (t.val+1) (t.val+1) (t.val+1) (t.val+1)) (by apply OO_above <;> intro _ <;> (try unfold lvC) <;> (repeat' split) <;> omega) (recvS_of false t.val 0 (off2_eq t) _) (half_credit' false _ _)) $$ [Hr HO]
  · isplitl []; · iexact Hc
    isplitl [Hr]; · iexact Hr
    iexact HO
  iintro ⟨Hr, Hrp, HO⟩
  unfold recvPay
  iapply (if_send_first A 𝒱 c bd false (t.val + 1) (show t.val + 1 ≤ 16 by omega) (O₀ := OO c (t.val+3) (t.val+3) (t.val+1) (t.val+1) (t.val+1) (t.val+1)) (O := OO c (t.val+3) (t.val+3) (t.val+1+1) (t.val+1) (t.val+1) (t.val+1)) (fun _ => by apply OO_above <;> intro _ <;> (try unfold lvC) <;> (repeat' split) <;> omega) (fun h => OO_t₀₀ c h) (fun h => OO_t₀₀' c (Nat.le_of_not_lt h)) (cond1_iff t) rfl (fun _ => dev_of (nx false c) _) (fun _ => half_of false (sl (t.val+1)) 0 (off5_eq₁ t) _) (fun _ => half_of false (sl (t.val+1+1)) 0 (off5_eq₂ t) _) (fun _ => sendS_of false (t.val+1) 0 (off4_eq₁ t) _) (fun _ => recvS_of false (t.val+1) 0 (off4_eq₂ t) _)) $$ [Hcr Hw Hs Ht Hrp HO]
  · isplitl []; · iexact Hc
    isplitl [Hcr]; · iexact Hcr
    isplitl [Hw]; · iexact Hw
    isplitl [Hs]; · iexact Hs
    isplitl [Ht]; · iexact Ht
    isplitl [Hrp]; · iexact Hrp
    iexact HO
  iintro ⟨Hcr, Hw, Hs, Ht, Hrp, Hrd, HO⟩
  rw [dif_pos ((cond2_iff t).2 ht)]
  simp only [wp_bind]
  iapply (recv_wait A 𝒱 c bd true 0 t.val (show t.val < 15 by omega) (O := OO c (t.val+3) (t.val+3) (t.val+1+1) (t.val+1) (t.val+1) (t.val+1)) (by apply OO_above <;> intro _ <;> (try unfold lvC) <;> (repeat' split) <;> omega) (recvS_of true t.val 0 (off6_eq t) _) (half_credit' true _ _)) $$ [Ur HO]
  · isplitl []; · iexact Hc
    isplitl [Ur]; · iexact Ur
    iexact HO
  iintro ⟨Ur, Urp, HO⟩
  unfold recvPay
  iapply (if_send_first A 𝒱 c bd true (t.val + 1) (show t.val + 1 ≤ 15 by omega) (O₀ := OO c (t.val+3) (t.val+3) (t.val+1+1) (t.val+1) (t.val+1) (t.val+1)) (O := OO c (t.val+3) (t.val+3) (t.val+1+1) (t.val+1) (t.val+1+1) (t.val+1)) (fun _ => by apply OO_above <;> intro _ <;> (try unfold lvC) <;> (repeat' split) <;> omega) (fun h => OO_t₁₀ c h) (fun h => OO_t₁₀' c (Nat.le_of_not_lt h)) (cond3_iff t) rfl (fun _ => dev_of (nx true c) _) (fun _ => half_of true (sl (t.val+1)) 0 (off9_eq₁ t) _) (fun _ => half_of true (sl (t.val+1+1)) 0 (off9_eq₂ t) _) (fun _ => sendS_of true (t.val+1) 0 (off8_eq₁ t) _) (fun _ => recvS_of true (t.val+1) 0 (off8_eq₂ t) _)) $$ [Uc Uw Us Ut Urp HO]
  · isplitl []; · iexact Hc
    isplitl [Uc]; · iexact Uc
    isplitl [Uw]; · iexact Uw
    isplitl [Us]; · iexact Us
    isplitl [Ut]; · iexact Ut
    isplitl [Urp]; · iexact Urp
    iexact HO
  iintro ⟨Uc, Uw, Us, Ut, Urp, Urd, HO⟩
  rw [show ∀ x, (pure x : Prog (TpuEff nD τ sig (Elt F) Λ₀ (c : Thread nD τ).2) (Σ' (_ : BitVec 32), BitVec 32)) = .ret x from fun _ => rfl, wp_ret]
  imodintro
  iapply Hk
  isplitl [Hr Hcr Hw Hs Ht Hrp Hrd]
  · isplitl [Hr]; · iexact Hr
    isplitl [Hcr]; · iexact Hcr
    isplitl [Hw]; · iexact Hw
    isplitl [Hs]; · iexact Hs
    isplitl [Ht]; · iexact Ht
    isplitl [Hrp]; · iexact Hrp
    iexact Hrd
  isplitl [Ur Uc Uw Us Ut Urp Urd]
  · isplitl [Ur]; · iexact Ur
    isplitl [Uc]; · iexact Uc
    isplitl [Uw]; · iexact Uw
    isplitl [Us]; · iexact Us
    isplitl [Ut]; · iexact Ut
    isplitl [Urp]; · iexact Urp
    iexact Urd
  iexact HO

set_option maxHeartbeats 4000000 in
/-- The first part of the last trip. -/
theorem part1_last (v3 v4 : Elt F .i32) (h3 : v3 = wd (nx true c)) (h4 : v4 = wd (nx false c)) (hw1 : k0_chk1 v3) (hw2 : k0_chk2 v4) (t : Fin k0_t1_loop.trips) (ht : t.val = 15)
    {Q : (Σ' (_ : BitVec 32), BitVec 32) → sProp (MT nD τ sig ℕ (Elt F) ℕ UU ℕ)} :
    iprop(ctx A K κ ∗ P1 c false t.val ∗ owing c (OO c (t.val+3) (t.val+3) (t.val+1) (t.val+1) (t.val+1) (t.val+1)))
      ⊢ iprop((∀ r, (Q1 A c false t.val ∗ owing c (OO c (t.val+3) (t.val+3) (t.val+2) (t.val+1) (t.val+2) (t.val+1))) -∗ Q r)
        -∗ wp frame (wpE defs 𝒱 (c : Thread nD τ) bd) Set.univ
            (k0_part1 (Memref.whole cc0_stg0_0) (Memref.isWhole_whole _) (Memref.whole cc0_stg1_0) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v3 hw1 v4 hw2 0#32 1#32 t) Q) := by
  subst h3 h4
  rw [Gen.k0_part1_eq_skeleton]
  unfold Gen.k0_part1_skel P1 Q1
  simp only [wp_bind]
  have e0 : mn false (t.val + 1) = t.val + 1 := mn_le (show t.val + 1 ≤ 16 by omega)
  rw [e0]
  iintro ⟨#Hc, ⟨Hr, Hcr, Hw, Hs, Ht⟩, HO⟩ Hk
  iapply (recv_wait A 𝒱 c bd false 0 t.val (show t.val < 16 by omega) (O := OO c (t.val+3) (t.val+3) (t.val+1) (t.val+1) (t.val+1) (t.val+1)) (by apply OO_above <;> intro _ <;> (try unfold lvC) <;> (repeat' split) <;> omega) (recvS_of false t.val 0 (off2_eq t) _) (half_credit' false _ _)) $$ [Hr HO]
  · isplitl []; · iexact Hc
    isplitl [Hr]; · iexact Hr
    iexact HO
  iintro ⟨Hr, Hrp, HO⟩
  unfold recvPay
  iapply (if_send_first A 𝒱 c bd false (t.val + 1) (show t.val + 1 ≤ 16 by omega) (O₀ := OO c (t.val+3) (t.val+3) (t.val+1) (t.val+1) (t.val+1) (t.val+1)) (O := OO c (t.val+3) (t.val+3) (t.val+1+1) (t.val+1) (t.val+1) (t.val+1)) (fun _ => by apply OO_above <;> intro _ <;> (try unfold lvC) <;> (repeat' split) <;> omega) (fun h => OO_t₀₀ c h) (fun h => OO_t₀₀' c (Nat.le_of_not_lt h)) (cond1_iff t) rfl (fun _ => dev_of (nx false c) _) (fun _ => half_of false (sl (t.val+1)) 0 (off5_eq₁ t) _) (fun _ => half_of false (sl (t.val+1+1)) 0 (off5_eq₂ t) _) (fun _ => sendS_of false (t.val+1) 0 (off4_eq₁ t) _) (fun _ => recvS_of false (t.val+1) 0 (off4_eq₂ t) _)) $$ [Hcr Hw Hs Ht Hrp HO]
  · isplitl []; · iexact Hc
    isplitl [Hcr]; · iexact Hcr
    isplitl [Hw]; · iexact Hw
    isplitl [Hs]; · iexact Hs
    isplitl [Ht]; · iexact Ht
    isplitl [Hrp]; · iexact Hrp
    iexact HO
  iintro ⟨Hcr, Hw, Hs, Ht, Hrp, Hrd, HO⟩
  rw [dif_neg (show ¬ k0_cond2 t = 1#1 from fun h => by have := (cond2_iff t).1 h; omega), dif_neg (show ¬ k0_cond3 t = 1#1 from fun h => by have := (cond3_iff t).1 h; omega)]
  rw [OO_t₁₀' c (show 15 ≤ t.val + 1 by omega)]
  rw [show ∀ x, (pure x : Prog (TpuEff nD τ sig (Elt F) Λ₀ (c : Thread nD τ).2) (Σ' (_ : BitVec 32), BitVec 32)) = .ret x from fun _ => rfl, wp_ret]
  imodintro
  iapply Hk
  isplitl [Hr Hcr Hw Hs Ht Hrp Hrd]
  · isplitl [Hr]; · iexact Hr
    isplitl [Hcr]; · iexact Hcr
    isplitl [Hw]; · iexact Hw
    isplitl [Hs]; · iexact Hs
    isplitl [Ht]; · iexact Ht
    isplitl [Hrp]; · iexact Hrp
    iexact Hrd
  iexact HO

end Trip

end Cert.KernelIdeal.RingMM

end
-- ==== Proof.TripB.lean ====
/-
  A trip of the kernel's loop, second part: the second halves arrive and are sent on; the first direction's new block is
  multiplied.
-/
module

public import proofs.«01_k».proof.Proof.TripA

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

section Local
variable (W : Dev nD → S1536x1536.Idx → Elt F .bf16) (c : Dev nD)

/-- The first direction's products after `t` trips: one is being copied out, the ones before are done. -/
def LF (t : ℕ) : sProp 𝕄 :=
  iprop(fly W c false (og false t c) ∗ bigSep (Finset.range t) (fun j => outAt W c (og false j c)) ∗ bigSep (Finset.Ico (t + 1) 17) (fun j => outAny c (og false j c)))
/-- In the middle of trip `t`: the next product is in the staging buffer. -/
def MF (t : ℕ) : sProp 𝕄 :=
  iprop(stgAt W c false (og false (t + 1) c) ∗ semVal ((c : Thread nD τ), SemLoc.dma (stgS false)) 0
    ∗ bigSep (Finset.range (t + 1)) (fun j => outAt W c (og false j c)) ∗ bigSep (Finset.Ico (t + 1) 17) (fun j => outAny c (og false j c)))
/-- The second direction's staging buffer: free before the first product, then with a copy under way. -/
def SL (h : ℕ) : sProp 𝕄 :=
  if h = 0 then iprop(stgAny c true ∗ semVal ((c : Thread nD τ), SemLoc.dma (stgS true)) 0) else fly W c true (og true h c)
/-- The second direction's products after `h` trips. -/
def LT (h : ℕ) : sProp 𝕄 :=
  iprop(SL W c h ∗ bigSep (Finset.Ico 1 h) (fun j => outAt W c (og true j c)) ∗ bigSep (Finset.Ico (h + 1) 16) (fun j => outAny c (og true j c)))
end Local

section Trip
variable (A : Dev nD → S1536x768.Idx → Elt F .bf16) (W : Dev nD → S1536x1536.Idx → Elt F .bf16)
variable {defs : Defs nD τ sig (Elt F) Λ₀} (𝒱 : Variants) (c : Dev nD) (bd : Option 𝒱.V)
variable {K : GSem nD τ sig → ℕ} {κ : Key → ℕ}

/-- READ a slot while it may be on its way to the next device. -/
theorem lent_load (d : Bool) (k : ℕ) {Q : (S1x1536x768.Idx → Elt F .bf16) → sProp 𝕄}
    {off : Fin 3 → ℕ} (ho : off = ![(sl k).val, 0, 0]) {inb : ∀ a, off a + S1x1536x768.size a ≤ S3x1536x768.size a}
    {hl : (commM d).view.LoadsAt (Rect.unit (s := S3x1536x768) off S1x1536x768.size inb).toLoadRect} :
    iprop(lent A c d k 0 ∗ lent A c d k 1) ⊢ iprop(((lent A c d k 0 ∗ lent A c d k 1) -∗ Q (slotVal (A (og d k c))))
      -∗ wp frame (wpE defs 𝒱 (c : Thread nD τ) bd) Set.univ
          (Prog.lift (.load (commM d) (Rect.unit (s := S3x1536x768) off S1x1536x768.size inb).toLoadRect hl)) Q) := by
  unfold lent
  iintro ⟨⟨H0, C0⟩, H1, C1⟩ Hk
  iapply (slot_load 𝒱 c bd d (og d k c) A (sl k) (qk d k) ho) $$ [H0 H1]
  · isplitl [H0]; · iexact H0
    iexact H1
  iintro ⟨H0, H1⟩
  iapply Hk
  isplitl [H0 C0]
  · isplitl [H0]; · iexact H0
    iexact C0
  isplitl [H1]; · iexact H1
  iexact C1

set_option maxHeartbeats 4000000 in
/-- The second part of a trip before the last. -/
theorem part2_lt (v3 v4 : Elt F .i32) (h3 : v3 = wd (nx true c)) (h4 : v4 = wd (nx false c)) (hw1 : k0_chk1 v3) (hw2 : k0_chk2 v4) (t : Fin k0_t1_loop.trips) (ht : t.val < 15)
    (v2 : BitVec 32) (v19 : FVec F S768x1536 .bf16) (hW : ∀ x, W x = Gen.k0_pay2 v19 (slotVal (A x))) (a16 v111 : BitVec 32)
    {Q : Elt F .i32 → sProp (MT nD τ sig ℕ (Elt F) ℕ UU ℕ)} :
    iprop(ctx A K κ ∗ (P2 c false t.val ∗ dst1 c false (t.val + 1) ∗ lent A c false (t.val + 1) 0) ∗ (P2 c true t.val ∗ dst1 c true (t.val + 1)) ∗ LF W c t.val ∗ tabPt c ∗ owing c (OO c (t.val+3) (t.val+3) (t.val+2) (t.val+1) (t.val+2) (t.val+1)))
      ⊢ iprop(((Q2 A c false t.val ∗ lent A c false (t.val + 1) 0) ∗ Q2 A c true t.val ∗ MF W c t.val ∗ tabPt c ∗ owing c (OO c (t.val+3) (t.val+3) (t.val+2) (t.val+2) (t.val+2) (t.val+2)) -∗ Q (wd (og false (t.val + 1) c)))
        -∗ wp frame (wpE defs 𝒱 (c : Thread nD τ) bd) Set.univ
            (k0_part2 (Memref.whole cc0_stg0_0) (Memref.isWhole_whole _) (Memref.whole cc0_stg1_0) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v3 hw1 v4 hw2 v19 t a16 v111) Q) := by
  subst h3 h4
  rw [Gen.k0_part2_eq_skeleton]
  unfold Gen.k0_part2_skel P2 Q2 LF MF
  simp only [wp_bind]
  have e0 : mn false (t.val + 1) = t.val + 1 := mn_le (show t.val + 1 ≤ 16 by omega)
  rw [e0]
  have e1 : mn true (t.val + 1) = t.val + 1 := mn_le (show t.val + 1 ≤ 15 by omega)
  rw [e1]
  iintro ⟨#Hc, ⟨⟨Hr, Hs, Ht⟩, Hd, Hl⟩, ⟨⟨Ur, Us, Ut⟩, Ud⟩, ⟨Hf, Hdn, Htd⟩, Htab, HO⟩ Hk
  iapply (recv_wait A 𝒱 c bd false 1 t.val (show t.val < 16 by omega) (O := OO c (t.val+3) (t.val+3) (t.val+2) (t.val+1) (t.val+2) (t.val+1)) (by apply OO_above <;> intro _ <;> (try unfold lvC) <;> (repeat' split) <;> omega) (recvS_of false t.val 1 (off10_eq t) _) (half_credit' false _ _)) $$ [Hr HO]
  · isplitl []; · iexact Hc
    isplitl [Hr]; · iexact Hr
    iexact HO
  iintro ⟨Hr, Hrp, HO⟩
  unfold recvPay
  iapply (if_send_second A 𝒱 c bd false (t.val + 1) (show t.val + 1 ≤ 16 by omega) (O₀ := OO c (t.val+3) (t.val+3) (t.val+2) (t.val+1) (t.val+2) (t.val+1)) (O := OO c (t.val+3) (t.val+3) (t.val+1+1) (t.val+1+1) (t.val+1+1) (t.val+1)) (fun h => OO_t₀₁ c h) (fun h => OO_t₀₁' c (Nat.le_of_not_lt h)) (cond4_iff t) (fun _ => dev_of (nx false c) _) (fun _ => half_of false (sl (t.val+1)) 1 (off13_eq₁ t) _) (fun _ => half_of false (sl (t.val+1+1)) 1 (off13_eq₂ t) _) (fun _ => sendS_of false (t.val+1) 1 (off12_eq₁ t) _) (fun _ => recvS_of false (t.val+1) 1 (off12_eq₂ t) _)) $$ [Hd Hs Ht Hrp HO]
  · isplitl []; · iexact Hc
    isplitl [Hd]; · iexact Hd
    isplitl [Hs]; · iexact Hs
    isplitl [Ht]; · iexact Ht
    isplitl [Hrp]; · iexact Hrp
    iexact HO
  iintro ⟨Hs, Ht, Hrl, HO⟩
  rw [dif_pos ((cond5_iff t).2 ht)]
  simp only [wp_bind]
  iapply (recv_wait A 𝒱 c bd true 1 t.val (show t.val < 15 by omega) (O := OO c (t.val+3) (t.val+3) (t.val+1+1) (t.val+1+1) (t.val+1+1) (t.val+1)) (by apply OO_above <;> intro _ <;> (try unfold lvC) <;> (repeat' split) <;> omega) (recvS_of true t.val 1 (off14_eq t) _) (half_credit' true _ _)) $$ [Ur HO]
  · isplitl []; · iexact Hc
    isplitl [Ur]; · iexact Ur
    iexact HO
  iintro ⟨Ur, Urp, HO⟩
  unfold recvPay
  iapply (if_send_second A 𝒱 c bd true (t.val + 1) (show t.val + 1 ≤ 15 by omega) (O₀ := OO c (t.val+3) (t.val+3) (t.val+1+1) (t.val+1+1) (t.val+1+1) (t.val+1)) (O := OO c (t.val+3) (t.val+3) (t.val+1+1) (t.val+1+1) (t.val+1+1) (t.val+1+1)) (fun h => OO_t₁₁ c h) (fun h => OO_t₁₁' c (Nat.le_of_not_lt h)) (cond6_iff t) (fun _ => dev_of (nx true c) _) (fun _ => half_of true (sl (t.val+1)) 1 (off17_eq₁ t) _) (fun _ => half_of true (sl (t.val+1+1)) 1 (off17_eq₂ t) _) (fun _ => sendS_of true (t.val+1) 1 (off16_eq₁ t) _) (fun _ => recvS_of true (t.val+1) 1 (off16_eq₂ t) _)) $$ [Ud Us Ut Urp HO]
  · isplitl []; · iexact Hc
    isplitl [Ud]; · iexact Ud
    isplitl [Us]; · iexact Us
    isplitl [Ut]; · iexact Ut
    isplitl [Urp]; · iexact Urp
    iexact HO
  iintro ⟨Us, Ut, Url, HO⟩
  simp only [wp_bind]
  iapply (tab_step 𝒱 c bd (t.val + 1) (off18_eq t)) $$ Htab
  iintro Htab
  iapply (wp_assume 𝒱 (c : Thread nD τ) bd Set.univ (chk3 c t (tab c (t.val + 1))))
  rw [wp_ret]
  imodintro
  iapply (copy_wait W 𝒱 c bd false (og false t.val c) A (O := OO c (t.val+3) (t.val+3) (t.val+1+1) (t.val+1+1) (t.val+1+1) (t.val+1+1)) (by apply OO_above <;> intro _ <;> (try unfold lvC) <;> (repeat' split) <;> omega) rfl (out_credit _ _)) $$ [Hf HO]
  · isplitl []; · iexact Hc
    isplitl [Hf]; · iexact Hf
    iexact HO
  iintro ⟨Ho, Hst, Hv, HO⟩
  iapply (lent_load A 𝒱 c bd false (t.val + 1) (off20_eq t)) $$ [Hl Hrl]
  · isplitl [Hl]; · iexact Hl
    iexact Hrl
  iintro ⟨Hl, Hrl⟩
  iapply (stg_load 𝒱 c bd false) $$ Hst
  iintro Hst %w
  iapply (stg_store W 𝒱 c bd false (og false (t.val + 1) c) (hW _).symm) $$ Hst
  iintro Hst
  iapply (tab_step 𝒱 c bd (t.val + 2) (off21_eq t)) $$ Htab
  iintro Htab
  rw [show tab c (t.val + 2) = og false (t.val + 1) c from tab_r c (t.val + 1) (by omega) (by omega), bigSep_range_succ]
  iapply Hk
  isplitl [Hr Hs Ht Hrl Hl]
  · isplitl [Hr Hs Ht Hrl]
    · isplitl [Hr]; · iexact Hr
      isplitl [Hs]; · iexact Hs
      isplitl [Ht]; · iexact Ht
      iexact Hrl
    iexact Hl
  isplitl [Ur Us Ut Url]
  · isplitl [Ur]; · iexact Ur
    isplitl [Us]; · iexact Us
    isplitl [Ut]; · iexact Ut
    iexact Url
  isplitl [Hst Hv Ho Hdn Htd]
  · isplitl [Hst]; · iexact Hst
    isplitl [Hv]; · iexact Hv
    isplitl [Ho Hdn]
    · isplitl [Ho]; · iexact Ho
      iexact Hdn
    iexact Htd
  isplitl [Htab]; · iexact Htab
  iexact HO

set_option maxHeartbeats 4000000 in
/-- The second part of the last trip. -/
theorem part2_last (v3 v4 : Elt F .i32) (h3 : v3 = wd (nx true c)) (h4 : v4 = wd (nx false c)) (hw1 : k0_chk1 v3) (hw2 : k0_chk2 v4) (t : Fin k0_t1_loop.trips) (ht : t.val = 15)
    (v2 : BitVec 32) (v19 : FVec F S768x1536 .bf16) (hW : ∀ x, W x = Gen.k0_pay2 v19 (slotVal (A x))) (a16 v111 : BitVec 32)
    {Q : Elt F .i32 → sProp (MT nD τ sig ℕ (Elt F) ℕ UU ℕ)} :
    iprop(ctx A K κ ∗ (P2 c false t.val ∗ dst1 c false (t.val + 1) ∗ lent A c false (t.val + 1) 0) ∗ LF W c t.val ∗ tabPt c ∗ owing c (OO c (t.val+3) (t.val+3) (t.val+2) (t.val+1) (t.val+2) (t.val+1)))
      ⊢ iprop(((Q2 A c false t.val ∗ lent A c false (t.val + 1) 0) ∗ MF W c t.val ∗ tabPt c ∗ owing c (OO c (t.val+3) (t.val+3) (t.val+2) (t.val+2) (t.val+2) (t.val+2)) -∗ Q (wd (og false (t.val + 1) c)))
        -∗ wp frame (wpE defs 𝒱 (c : Thread nD τ) bd) Set.univ
            (k0_part2 (Memref.whole cc0_stg0_0) (Memref.isWhole_whole _) (Memref.whole cc0_stg1_0) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v3 hw1 v4 hw2 v19 t a16 v111) Q) := by
  subst h3 h4
  rw [Gen.k0_part2_eq_skeleton]
  unfold Gen.k0_part2_skel P2 Q2 LF MF
  simp only [wp_bind]
  have e0 : mn false (t.val + 1) = t.val + 1 := mn_le (show t.val + 1 ≤ 16 by omega)
  rw [e0]
  iintro ⟨#Hc, ⟨⟨Hr, Hs, Ht⟩, Hd, Hl⟩, ⟨Hf, Hdn, Htd⟩, Htab, HO⟩ Hk
  iapply (recv_wait A 𝒱 c bd false 1 t.val (show t.val < 16 by omega) (O := OO c (t.val+3) (t.val+3) (t.val+2) (t.val+1) (t.val+2) (t.val+1)) (by apply OO_above <;> intro _ <;> (try unfold lvC) <;> (repeat' split) <;> omega) (recvS_of false t.val 1 (off10_eq t) _) (half_credit' false _ _)) $$ [Hr HO]
  · isplitl []; · iexact Hc
    isplitl [Hr]; · iexact Hr
    iexact HO
  iintro ⟨Hr, Hrp, HO⟩
  unfold recvPay
  iapply (if_send_second A 𝒱 c bd false (t.val + 1) (show t.val + 1 ≤ 16 by omega) (O₀ := OO c (t.val+3) (t.val+3) (t.val+2) (t.val+1) (t.val+2) (t.val+1)) (O := OO c (t.val+3) (t.val+3) (t.val+1+1) (t.val+1+1) (t.val+1+1) (t.val+1)) (fun h => OO_t₀₁ c h) (fun h => OO_t₀₁' c (Nat.le_of_not_lt h)) (cond4_iff t) (fun _ => dev_of (nx false c) _) (fun _ => half_of false (sl (t.val+1)) 1 (off13_eq₁ t) _) (fun _ => half_of false (sl (t.val+1+1)) 1 (off13_eq₂ t) _) (fun _ => sendS_of false (t.val+1) 1 (off12_eq₁ t) _) (fun _ => recvS_of false (t.val+1) 1 (off12_eq₂ t) _)) $$ [Hd Hs Ht Hrp HO]
  · isplitl []; · iexact Hc
    isplitl [Hd]; · iexact Hd
    isplitl [Hs]; · iexact Hs
    isplitl [Ht]; · iexact Ht
    isplitl [Hrp]; · iexact Hrp
    iexact HO
  iintro ⟨Hs, Ht, Hrl, HO⟩
  rw [dif_neg (show ¬ k0_cond5 t = 1#1 from fun h => by have := (cond5_iff t).1 h; omega), dif_neg (show ¬ k0_cond6 t = 1#1 from fun h => by have := (cond6_iff t).1 h; omega)]
  rw [OO_t₁₁' c (show 15 ≤ t.val + 1 by omega)]
  simp only [wp_bind]
  iapply (tab_step 𝒱 c bd (t.val + 1) (off18_eq t)) $$ Htab
  iintro Htab
  iapply (wp_assume 𝒱 (c : Thread nD τ) bd Set.univ (chk3 c t (tab c (t.val + 1))))
  rw [wp_ret]
  imodintro
  iapply (copy_wait W 𝒱 c bd false (og false t.val c) A (O := OO c (t.val+3) (t.val+3) (t.val+1+1) (t.val+1+1) (t.val+1+1) (t.val+1+1)) (by apply OO_above <;> intro _ <;> (try unfold lvC) <;> (repeat' split) <;> omega) rfl (out_credit _ _)) $$ [Hf HO]
  · isplitl []; · iexact Hc
    isplitl [Hf]; · iexact Hf
    iexact HO
  iintro ⟨Ho, Hst, Hv, HO⟩
  iapply (lent_load A 𝒱 c bd false (t.val + 1) (off20_eq t)) $$ [Hl Hrl]
  · isplitl [Hl]; · iexact Hl
    iexact Hrl
  iintro ⟨Hl, Hrl⟩
  iapply (stg_load 𝒱 c bd false) $$ Hst
  iintro Hst %w
  iapply (stg_store W 𝒱 c bd false (og false (t.val + 1) c) (hW _).symm) $$ Hst
  iintro Hst
  iapply (tab_step 𝒱 c bd (t.val + 2) (off21_eq t)) $$ Htab
  iintro Htab
  rw [show tab c (t.val + 2) = og false (t.val + 1) c from tab_r c (t.val + 1) (by omega) (by omega), bigSep_range_succ]
  iapply Hk
  isplitl [Hr Hs Ht Hrl Hl]
  · isplitl [Hr Hs Ht Hrl]
    · isplitl [Hr]; · iexact Hr
      isplitl [Hs]; · iexact Hs
      isplitl [Ht]; · iexact Ht
      iexact Hrl
    iexact Hl
  isplitl [Hst Hv Ho Hdn Htd]
  · isplitl [Hst]; · iexact Hst
    isplitl [Hv]; · iexact Hv
    isplitl [Ho Hdn]
    · isplitl [Ho]; · iexact Ho
      iexact Hdn
    iexact Htd
  isplitl [Htab]; · iexact Htab
  iexact HO
end Trip

end Cert.KernelIdeal.RingMM

end
-- ==== Proof.TripC.lean ====
/-
  A whole trip of the kernel's loop, and the loop.
-/
module

public import proofs.«01_k».proof.Proof.TripB

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

section State
variable (c : Dev nD) (d : Bool)

/-- What a core holds of one direction after `h` transfers of it, its own block's included: `h + 1` transfers are made. -/
def RS (h : ℕ) : sProp 𝕄 := iprop(P1 c d h ∗ P2 c d h ∗ P3 c d h)

theorem RS_def (h : ℕ) : (RS c d h : sProp 𝕄) = iprop(P1 c d h ∗ P2 c d h ∗ (grSt c d (mn d (h + 3)) ∗ kept c d (h + 3))) := rfl

theorem rcvSt_reached (b : Fin 2) (k : ℕ) : rcvSt (F := F) c d b k ⊢ iprop(reached ER (recvC c d (k + 2) b) ((k + 2) / 3) ∗ rcvSt c d b k) := by
  unfold rcvSt
  rw [rcvAt_def c d b (k + 2)]
  iintro ⟨H0, H1, ⟨H2, #H3⟩, H4⟩
  isplitl []; · iexact H3
  isplitl [H0]; · iexact H0
  isplitl [H1]; · iexact H1
  isplitl [H2]
  · isplitl [H2]; · iexact H2
    iexact H3
  iexact H4

/-- A trip's two arrivals and the slots' return make the state after it. -/
theorem RS_next (A : Dev nD → S1536x768.Idx → Elt F .bf16) (h : ℕ) :
    iprop((rcvSt c d 0 (h + 1) ∗ crdSt c d (mn d (h + 2)) ∗ wrSt c d (h + 2) ∗ sndTk c d 0 (h + 2))
      ∗ (rcvSt c d 1 (h + 1) ∗ sndTk c d 1 (h + 2))
      ∗ (sndSt c d 0 (mn d (h + 2)) ∗ sndSt c d 1 (mn d (h + 2)) ∗ grSt c d (mn d (h + 4)) ∗ kept c d (h + 4))) ⊢ (RS c d (h + 1) : sProp 𝕄) := by
  unfold RS P1 P2 P3
  iintro ⟨⟨H1, H2, H3, H4⟩, ⟨H5, H6⟩, H7, H8, H9, H10⟩
  isplitl [H1 H2 H3 H7 H4]
  · isplitl [H1]; · iexact H1
    isplitl [H2]; · iexact H2
    isplitl [H3]; · iexact H3
    isplitl [H7]; · iexact H7
    iexact H4
  isplitl [H5 H8 H6]
  · isplitl [H5]; · iexact H5
    isplitl [H8]; · iexact H8
    iexact H6
  isplitl [H9]; · iexact H9
  iexact H10
end State

section Trip
variable (A : Dev nD → S1536x768.Idx → Elt F .bf16) (W : Dev nD → S1536x1536.Idx → Elt F .bf16)
variable {defs : Defs nD τ sig (Elt F) Λ₀} (𝒱 : Variants) (c : Dev nD) (bd : Option 𝒱.V)
variable {K : GSem nD τ sig → ℕ} {κ : Key → ℕ}

/-- Between the loop's trips. -/
def Inv (K : GSem nD τ sig → ℕ) (κ : Key → ℕ) (t : ℕ) : sProp 𝕄 :=
  iprop(ctx A K κ ∗ RS c false t ∗ RS c true (min t 15) ∗ LF W c t ∗ LT W c (min t 15) ∗ tabPt c
    ∗ owing c (OO c (t + 3) (t + 3) (t + 1) (t + 1) (t + 1) (t + 1)))

/-- WAIT for the second direction's copy if one is under way. -/
theorem if_copy_wait (h : ℕ) {O : CellTallies nD τ sig ℕ} (hO : Above 0 O)
    {β : Type} {R : Prog (TpuEff nD τ sig (Elt F) Λ₀ (c : Thread nD τ).2) β} {Q : β → sProp (MT nD τ sig ℕ (Elt F) ℕ UU ℕ)}
    {φ : Prop} [Decidable φ] (hφ : φ ↔ 0 < h) {n : φ → ℕ} {off : φ → Fin 1 → ℕ} (ho : ∀ p, off p = ![n p])
    {inb : ∀ p, ∀ a, off p a + S1.size a ≤ S33.size a}
    {h1 : ∀ p, (Rect.unit (s := S33) (off p) S1.size (inb p)).shape.numel = 1} {hp : EltTy.i32.packing = 1}
    {P : φ → Elt F .i32 → Prop} {dP : ∀ p v, Decidable (P p v)} (hP : ∀ p x, P p (wd x))
    {src : ∀ p v, PLift (P p v) → Memref sig .tc .vmem S1536x1536 .bf16} {dst : ∀ p v, PLift (P p v) → Memref sig .tc .hbm S1536x1536 .bf16}
    {hs : ∀ p v k, (src p v k).view.WordExact} {hd : ∀ p v k, (dst p v k).view.WordExact} (hcr : ∀ p v k, (dst p v k).view.dmaCredit = NB)
    {sem : DmaSem sig} (hsem : sem = stgS true) :
    iprop(ctx A K κ ∗ SL W c h ∗ bigSep (Finset.Ico 1 h) (fun j => outAt W c (og true j c)) ∗ tabPt c ∗ owing c O)
      ⊢ iprop(((stgAny c true ∗ semVal ((c : Thread nD τ), SemLoc.dma (stgS true)) 0 ∗ bigSep (Finset.Ico 1 (h + 1)) (fun j => outAt W c (og true j c)) ∗ tabPt c ∗ owing c O)
            -∗ wp frame (wpE defs 𝒱 (c : Thread nD τ) bd) Set.univ R Q)
        -∗ wp frame (wpE defs 𝒱 (c : Thread nD τ) bd) Set.univ
            (if p : φ then (do
              let v ← smemLoad (p := (c : Thread nD τ).2) (Memref.whole cc0_stg2_0) (Rect.unit (s := S33) (off p) S1.size (inb p)) (h1 p) hp
              let hv ← Prog.lift (TpuEff.assume (P p v) (dP p v))
              Prog.lift (.waitDma2 sem (src p v hv) (dst p v hv) (hs p v hv) (hd p v hv))
              R)
            else R) Q) := by
  unfold SL
  by_cases h0 : h = 0
  · subst h0
    rw [dif_neg (fun p => by have := hφ.1 p; omega), if_pos rfl, Finset.Ico_eq_empty (by omega : ¬ 1 < 0), Finset.Ico_eq_empty (by omega : ¬ 1 < 0 + 1)]
    iintro ⟨#Hc, ⟨Hs, Hv⟩, He, Ht, HO⟩ Hk
    iapply Hk
    isplitl [Hs]; · iexact Hs
    isplitl [Hv]; · iexact Hv
    isplitl [He]; · iexact He
    isplitl [Ht]; · iexact Ht
    iexact HO
  · have p : φ := hφ.2 (by omega)
    rw [dif_pos p, if_neg h0, bigSep_Ico_succ_top (show 1 ≤ h by omega)]
    simp only [wp_bind]
    iintro ⟨#Hc, Hf, Hdn, Ht, HO⟩ Hk
    iapply (tab_step 𝒱 c bd (n p) (ho p)) $$ Ht
    iintro Ht
    iapply (wp_assume 𝒱 (c : Thread nD τ) bd Set.univ (hP p (tab c (n p))))
    rw [wp_ret]
    imodintro
    iapply (copy_wait W 𝒱 c bd true (og true h c) A hO hsem (hcr p _ _)) $$ [Hf HO]
    · isplitl []; · iexact Hc
      isplitl [Hf]; · iexact Hf
      iexact HO
    iintro ⟨Ho, Hs, Hv, HO⟩
    iapply Hk
    isplitl [Hs]; · iexact Hs
    isplitl [Hv]; · iexact Hv
    isplitl [Ho Hdn]
    · isplitl [Ho]; · iexact Ho
      iexact Hdn
    isplitl [Ht]; · iexact Ht
    iexact HO

set_option maxHeartbeats 8000000 in
/-- A trip before the last. -/
theorem trip_lt (v3 v4 : Elt F .i32) (h3 : v3 = wd (nx true c)) (h4 : v4 = wd (nx false c)) (hw1 : k0_chk1 v3) (hw2 : k0_chk2 v4) (t : Fin k0_t1_loop.trips) (ht : t.val < 15)
    (v2 : BitVec 32) (v19 : FVec F S768x1536 .bf16) (hW : ∀ x, W x = Gen.k0_pay2 v19 (slotVal (A x))) (u : Unit) :
    Inv A W c K κ t.val
      ⊢ wp frame (wpE defs 𝒱 (c : Thread nD τ) bd) Set.univ
          (Gen.k0_t1_body (Memref.whole cc0_stg0_0) (Memref.isWhole_whole _) (Memref.whole cc0_stg1_0) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v3 hw1 v4 hw2 v19 t u) (fun _ => Inv A W c K κ (t.val + 1)) := by
  subst h3 h4
  unfold Gen.k0_t1_body Inv LT
  rw [show min t.val 15 = t.val by omega, show min (t.val + 1) 15 = t.val + 1 by omega]
  rw [bigSep_Ico_succ_bot (show t.val + 1 < 16 by omega) (fun j => outAny c (og true j c))]
  simp only [wp_bind]
  iintro ⟨#Hc, HF, HT, HLF, ⟨HSL, HTd, HTt⟩, Htab, HO⟩
  icases HTt with ⟨HTo, HTt⟩
  ihave HF := (Entails.of_eq (RS_def c false t.val)) $$ HF
  icases HF with ⟨F1, F2, F3⟩
  ihave HT := (Entails.of_eq (RS_def c true t.val)) $$ HT
  icases HT with ⟨T1, T2, T3⟩
  iapply (part1_lt A 𝒱 c bd _ _ rfl rfl hw1 hw2 t ht) $$ [F1 T1 HO]
  · isplitl []; · iexact Hc
    isplitl [F1]; · iexact F1
    isplitl [T1]; · iexact T1
    iexact HO
  iintro %r ⟨F1, T1, HO⟩
  obtain ⟨a16, v111⟩ := r
  unfold Q1
  icases F1 with ⟨Hr, Hcr, Hw, Hs, Ht, Hl, Hd⟩
  icases T1 with ⟨Ur, Uc, Uw, Us, Ut, Ul, Ud⟩
  iapply (part2_lt A W 𝒱 c bd _ _ rfl rfl hw1 hw2 t ht v2 v19 hW a16 v111) $$ [F2 Hd Hl T2 Ud HLF Htab HO]
  · isplitl []; · iexact Hc
    isplitl [F2 Hd Hl]
    · isplitl [F2]; · iexact F2
      isplitl [Hd]; · iexact Hd
      iexact Hl
    isplitl [T2 Ud]
    · isplitl [T2]; · iexact T2
      iexact Ud
    isplitl [HLF]; · iexact HLF
    isplitl [Htab]; · iexact Htab
    iexact HO
  iintro ⟨⟨F2, Hl⟩, T2, HMF, Htab, HO⟩
  iapply (wp_assume 𝒱 (c : Thread nD τ) bd Set.univ (chk4 (og false (t.val + 1) c)))
  rw [wp_ret]
  imodintro
  unfold MF
  rw [bigSep_Ico_succ_bot (show t.val + 1 < 17 by omega) (fun j => outAny c (og false j c))]
  icases HMF with ⟨Hst, Hv, HFd, HFo, HFt⟩
  iapply (copy_start W 𝒱 c bd false (og false (t.val + 1) c) rfl (out_of _ (off22_eq _) _) rfl) $$ [Hst HFo Hv]
  · isplitl [Hst]; · iexact Hst
    isplitl [HFo]; · iexact HFo
    iexact Hv
  iintro Hfly
  rw [dif_pos ((cond7_iff t).2 ht)]
  iapply (if_copy_wait A W 𝒱 c bd t.val (O := OO c (t.val+3) (t.val+3) (t.val+2) (t.val+2) (t.val+2) (t.val+2)) (by apply OO_above <;> intro _ <;> (try unfold lvC) <;> (repeat' split) <;> omega) (cond8_iff t) (n := fun _ => t.val + 17) (fun p => off23_eq t p) (fun p x => chk5 t x) (fun _ _ _ => out_credit _ _) rfl) $$ [HSL HTd Htab HO]
  · isplitl []; · iexact Hc
    isplitl [HSL]; · iexact HSL
    isplitl [HTd]; · iexact HTd
    isplitl [Htab]; · iexact Htab
    iexact HO
  iintro ⟨Hst, Hv, HTd, Htab, HO⟩
  simp only [wp_bind]
  unfold Q2
  icases T2 with ⟨Ur1, Us1, Ut1, Ul1⟩
  iapply (lent_load A 𝒱 c bd true (t.val + 1) (off25_eq t)) $$ [Ul Ul1]
  · isplitl [Ul]; · iexact Ul
    iexact Ul1
  iintro ⟨Ul, Ul1⟩
  iapply (stg_load 𝒱 c bd true) $$ Hst
  iintro Hst %w
  iapply (stg_store W 𝒱 c bd true (og true (t.val + 1) c) (hW _).symm) $$ Hst
  iintro Hst
  iapply (tab_step 𝒱 c bd (t.val + 18) (off26_eq t)) $$ Htab
  iintro Htab
  rw [show tab c (t.val + 18) = og true (t.val + 1) c from tab_l c (t.val + 1) (by omega)]
  iapply (wp_assume 𝒱 (c : Thread nD τ) bd Set.univ (chk6 t (og true (t.val + 1) c)))
  rw [wp_ret]
  imodintro
  iapply (copy_start W 𝒱 c bd true (og true (t.val + 1) c) rfl (out_of _ (off27_eq _) _) rfl) $$ [Hst HTo Hv]
  · isplitl [Hst]; · iexact Hst
    isplitl [HTo]; · iexact HTo
    iexact Hv
  iintro Hfly2
  icases F2 with ⟨Hr1, Hs1, Ht1, Hl1⟩
  ihave Hx := (rcvSt_reached c false 0 (t.val + 1)) $$ Hr
  icases Hx with ⟨#Rfalse0, Hr⟩
  ihave Hx := (rcvSt_reached c false 1 (t.val + 1)) $$ Hr1
  icases Hx with ⟨#Rfalse1, Hr1⟩
  icases F3 with ⟨F3, F3k⟩
  iapply (if_return A 𝒱 c bd false (t.val + 1) (show t.val + 1 ≤ 16 by omega) (O₀ := OO c (t.val+3) (t.val+3) (t.val+2) (t.val+2) (t.val+2) (t.val+2)) (O := OO c (t.val+3+1) (t.val+3) (t.val+2) (t.val+2) (t.val+2) (t.val+2)) (fun _ => by apply OO_above <;> intro _ <;> (try unfold lvC) <;> (repeat' split) <;> omega) (fun h => OO_g₀ c h) (fun h => OO_g₀' c (Nat.le_of_not_lt h)) (cond9_iff t) (cond10_iff t) (fun _ => sendS_of false (t.val+1) 0 (off28_eq t) _) (fun _ => sendS_of false (t.val+1) 1 (off30_eq t) _) (fun _ => half_credit' false _ _) (fun _ => half_credit' false _ _) (fun _ _ => dev_of (nx true c) _) rfl) $$ [Hs Hs1 Hl Hl1 F3 F3k HO]
  · isplitl []; · iexact Hc
    isplitl [Hs]; · iexact Hs
    isplitl [Hs1]; · iexact Hs1
    isplitl [Hl]; · iexact Hl
    isplitl [Hl1]; · iexact Hl1
    isplitl [F3]; · iexact F3
    isplitl [F3k]; · iexact F3k
    isplitl []; · iexact Rfalse0
    isplitl []; · iexact Rfalse1
    iexact HO
  iintro ⟨Hs, Hs1, F3, F3k, HO⟩
  ihave Hx := (rcvSt_reached c true 0 (t.val + 1)) $$ Ur
  icases Hx with ⟨#Rtrue0, Ur⟩
  ihave Hx := (rcvSt_reached c true 1 (t.val + 1)) $$ Ur1
  icases Hx with ⟨#Rtrue1, Ur1⟩
  icases T3 with ⟨T3, T3k⟩
  iapply (if_return A 𝒱 c bd true (t.val + 1) (show t.val + 1 ≤ 15 by omega) (O₀ := OO c (t.val+3+1) (t.val+3) (t.val+2) (t.val+2) (t.val+2) (t.val+2)) (O := OO c (t.val+3+1) (t.val+3+1) (t.val+2) (t.val+2) (t.val+2) (t.val+2)) (fun _ => by apply OO_above <;> intro _ <;> (try unfold lvC) <;> (repeat' split) <;> omega) (fun h => OO_g₁ c h) (fun h => OO_g₁' c (Nat.le_of_not_lt h)) (cond11_iff t) (cond12_iff t) (fun _ => sendS_of true (t.val+1) 0 (off32_eq t) _) (fun _ => sendS_of true (t.val+1) 1 (off34_eq t) _) (fun _ => half_credit' true _ _) (fun _ => half_credit' true _ _) (fun _ _ => dev_of (nx false c) _) rfl) $$ [Us Us1 Ul Ul1 T3 T3k HO]
  · isplitl []; · iexact Hc
    isplitl [Us]; · iexact Us
    isplitl [Us1]; · iexact Us1
    isplitl [Ul]; · iexact Ul
    isplitl [Ul1]; · iexact Ul1
    isplitl [T3]; · iexact T3
    isplitl [T3k]; · iexact T3k
    isplitl []; · iexact Rtrue0
    isplitl []; · iexact Rtrue1
    iexact HO
  iintro ⟨Us, Us1, T3, T3k, HO⟩
  rw [show (pure PUnit.unit : Prog (TpuEff nD τ sig (Elt F) Λ₀ (c : Thread nD τ).2) PUnit) = .ret PUnit.unit from rfl, wp_ret]
  imodintro
  isplitl []; · iexact Hc
  isplitl [Hr Hcr Hw Ht Hr1 Ht1 Hs Hs1 F3 F3k]
  · iapply (RS_next c false A t.val)
    isplitl [Hr Hcr Hw Ht]
    · isplitl [Hr]; · iexact Hr
      isplitl [Hcr]; · iexact Hcr
      isplitl [Hw]; · iexact Hw
      iexact Ht
    isplitl [Hr1 Ht1]
    · isplitl [Hr1]; · iexact Hr1
      iexact Ht1
    isplitl [Hs]; · iexact Hs
    isplitl [Hs1]; · iexact Hs1
    isplitl [F3]; · iexact F3
    iexact F3k
  isplitl [Ur Uc Uw Ut Ur1 Ut1 Us Us1 T3 T3k]
  · iapply (RS_next c true A t.val)
    isplitl [Ur Uc Uw Ut]
    · isplitl [Ur]; · iexact Ur
      isplitl [Uc]; · iexact Uc
      isplitl [Uw]; · iexact Uw
      iexact Ut
    isplitl [Ur1 Ut1]
    · isplitl [Ur1]; · iexact Ur1
      iexact Ut1
    isplitl [Us]; · iexact Us
    isplitl [Us1]; · iexact Us1
    isplitl [T3]; · iexact T3
    iexact T3k
  isplitl [Hfly HFd HFt]
  · unfold LF
    isplitl [Hfly]; · iexact Hfly
    isplitl [HFd]; · iexact HFd
    iexact HFt
  isplitl [Hfly2 HTd HTt]
  · isplitl [Hfly2]
    · unfold SL; rw [if_neg (by omega)]; iexact Hfly2
    isplitl [HTd]; · iexact HTd
    iexact HTt
  isplitl [Htab]; · iexact Htab
  iexact HO

set_option maxHeartbeats 8000000 in
/-- The last trip. -/
theorem trip_last (v3 v4 : Elt F .i32) (h3 : v3 = wd (nx true c)) (h4 : v4 = wd (nx false c)) (hw1 : k0_chk1 v3) (hw2 : k0_chk2 v4) (t : Fin k0_t1_loop.trips) (ht : t.val = 15)
    (v2 : BitVec 32) (v19 : FVec F S768x1536 .bf16) (hW : ∀ x, W x = Gen.k0_pay2 v19 (slotVal (A x))) (u : Unit) :
    Inv A W c K κ t.val
      ⊢ wp frame (wpE defs 𝒱 (c : Thread nD τ) bd) Set.univ
          (Gen.k0_t1_body (Memref.whole cc0_stg0_0) (Memref.isWhole_whole _) (Memref.whole cc0_stg1_0) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v3 hw1 v4 hw2 v19 t u) (fun _ => Inv A W c K κ (t.val + 1)) := by
  subst h3 h4
  unfold Gen.k0_t1_body Inv LT
  rw [show min t.val 15 = 15 by omega, show min (t.val + 1) 15 = 15 by omega]
  simp only [wp_bind]
  iintro ⟨#Hc, HF, HT, HLF, ⟨HSL, HTd, HTt⟩, Htab, HO⟩
  ihave HF := (Entails.of_eq (RS_def c false t.val)) $$ HF
  icases HF with ⟨F1, F2, F3⟩
  iapply (part1_last A 𝒱 c bd _ _ rfl rfl hw1 hw2 t ht) $$ [F1 HO]
  · isplitl []; · iexact Hc
    isplitl [F1]; · iexact F1
    iexact HO
  iintro %r ⟨F1, HO⟩
  obtain ⟨a16, v111⟩ := r
  unfold Q1
  icases F1 with ⟨Hr, Hcr, Hw, Hs, Ht, Hl, Hd⟩
  iapply (part2_last A W 𝒱 c bd _ _ rfl rfl hw1 hw2 t ht v2 v19 hW a16 v111) $$ [F2 Hd Hl HLF Htab HO]
  · isplitl []; · iexact Hc
    isplitl [F2 Hd Hl]
    · isplitl [F2]; · iexact F2
      isplitl [Hd]; · iexact Hd
      iexact Hl
    isplitl [HLF]; · iexact HLF
    isplitl [Htab]; · iexact Htab
    iexact HO
  iintro ⟨⟨F2, Hl⟩, HMF, Htab, HO⟩
  iapply (wp_assume 𝒱 (c : Thread nD τ) bd Set.univ (chk4 (og false (t.val + 1) c)))
  rw [wp_ret]
  imodintro
  unfold MF
  rw [bigSep_Ico_succ_bot (show t.val + 1 < 17 by omega) (fun j => outAny c (og false j c))]
  icases HMF with ⟨Hst, Hv, HFd, HFo, HFt⟩
  iapply (copy_start W 𝒱 c bd false (og false (t.val + 1) c) rfl (out_of _ (off22_eq _) _) rfl) $$ [Hst HFo Hv]
  · isplitl [Hst]; · iexact Hst
    isplitl [HFo]; · iexact HFo
    iexact Hv
  iintro Hfly
  rw [dif_neg (show ¬ k0_cond7 t = 1#1 from fun h => by have := (cond7_iff t).1 h; omega)]
  unfold Q2
  icases F2 with ⟨Hr1, Hs1, Ht1, Hl1⟩
  ihave Hx := (rcvSt_reached c false 0 (t.val + 1)) $$ Hr
  icases Hx with ⟨#Rfalse0, Hr⟩
  ihave Hx := (rcvSt_reached c false 1 (t.val + 1)) $$ Hr1
  icases Hx with ⟨#Rfalse1, Hr1⟩
  icases F3 with ⟨F3, F3k⟩
  iapply (if_return A 𝒱 c bd false (t.val + 1) (show t.val + 1 ≤ 16 by omega) (O₀ := OO c (t.val+3) (t.val+3) (t.val+2) (t.val+2) (t.val+2) (t.val+2)) (O := OO c (t.val+3+1) (t.val+3) (t.val+2) (t.val+2) (t.val+2) (t.val+2)) (fun _ => by apply OO_above <;> intro _ <;> (try unfold lvC) <;> (repeat' split) <;> omega) (fun h => OO_g₀ c h) (fun h => OO_g₀' c (Nat.le_of_not_lt h)) (cond9_iff t) (cond10_iff t) (fun _ => sendS_of false (t.val+1) 0 (off28_eq t) _) (fun _ => sendS_of false (t.val+1) 1 (off30_eq t) _) (fun _ => half_credit' false _ _) (fun _ => half_credit' false _ _) (fun _ _ => dev_of (nx true c) _) rfl) $$ [Hs Hs1 Hl Hl1 F3 F3k HO]
  · isplitl []; · iexact Hc
    isplitl [Hs]; · iexact Hs
    isplitl [Hs1]; · iexact Hs1
    isplitl [Hl]; · iexact Hl
    isplitl [Hl1]; · iexact Hl1
    isplitl [F3]; · iexact F3
    isplitl [F3k]; · iexact F3k
    isplitl []; · iexact Rfalse0
    isplitl []; · iexact Rfalse1
    iexact HO
  iintro ⟨Hs, Hs1, F3, F3k, HO⟩
  rw [dif_neg (show ¬ k0_cond11 t = 1#1 from fun h => by have := (cond11_iff t).1 h; omega)]
  rw [OO_g₁' c (show 15 ≤ t.val + 3 by omega)]
  rw [show (pure PUnit.unit : Prog (TpuEff nD τ sig (Elt F) Λ₀ (c : Thread nD τ).2) PUnit) = .ret PUnit.unit from rfl, wp_ret]
  imodintro
  isplitl []; · iexact Hc
  isplitl [Hr Hcr Hw Ht Hr1 Ht1 Hs Hs1 F3 F3k]
  · iapply (RS_next c false A t.val)
    isplitl [Hr Hcr Hw Ht]
    · isplitl [Hr]; · iexact Hr
      isplitl [Hcr]; · iexact Hcr
      isplitl [Hw]; · iexact Hw
      iexact Ht
    isplitl [Hr1 Ht1]
    · isplitl [Hr1]; · iexact Hr1
      iexact Ht1
    isplitl [Hs]; · iexact Hs
    isplitl [Hs1]; · iexact Hs1
    isplitl [F3]; · iexact F3
    iexact F3k
  isplitl [HT]; · iexact HT
  isplitl [Hfly HFd HFt]
  · unfold LF
    isplitl [Hfly]; · iexact Hfly
    isplitl [HFd]; · iexact HFd
    iexact HFt
  isplitl [HSL HTd HTt]
  · isplitl [HSL]; · iexact HSL
    isplitl [HTd]; · iexact HTd
    iexact HTt
  isplitl [Htab]; · iexact Htab
  iexact HO
end Trip

end Cert.KernelIdeal.RingMM

end
-- ==== Proof.Start.lean ====
/-
  What a core does before its loop: the handshake with its neighbours, its own block into the slots, the first transfers.
-/
module

public import proofs.«01_k».proof.Proof.TripC
public import Idealize.ShloMosaic.Lib.Pointwise.Reshape

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (A : Dev nD → S1536x768.Idx → Elt F .bf16)

/-! ## The blocks the windows hold -/

/-- A block of the first argument as the contents of its window. -/
def aB (c : Dev nD) (a : S1536x768.Idx → Elt F .bf16) : Buf (Elt F) ((Memref.whole cc0_stg0_0).view.loc (c : Thread nD τ)) := fun j => a j
/-- The second argument as the contents of its window. -/
def bB (c : Dev nD) (b : S768x1536.Idx → Elt F .bf16) : Buf (Elt F) ((Memref.whole cc0_stg1_0).view.loc (c : Thread nD τ)) := fun j => b j
def aPt (c : Dev nD) (a : S1536x768.Idx → Elt F .bf16) : sProp 𝕄 := (Memref.whole cc0_stg0_0).view.loc (c : Thread nD τ) ↦[Finset.univ]{fullShare} aB c a
def bPt (c : Dev nD) (b : S768x1536.Idx → Elt F .bf16) : sProp 𝕄 := (Memref.whole cc0_stg1_0).view.loc (c : Thread nD τ) ↦[Finset.univ]{fullShare} bB c b

/-- A block as it is stored to a slot. -/
theorem store_val (a : S1536x768.Idx → Elt F .bf16) : Gen.k0_pay5 (Gen.k0_pay4 a) = slotVal a := by
  unfold Gen.k0_pay5 Gen.k0_pay4
  funext j
  dsimp only
  rw [shapeCast_id]
  have e : j = ValueIdx.ix3 (n0 := 1) (n1 := 1536) (n2 := 768) (j 0) (j 1) (j 2) := by funext x; fin_cases x <;> rfl
  exact (congrArg _ e).trans (shapeCast_ab_1ab_apply (a := 1536) (b := 768) a _ (j 0) (j 1) (j 2))
theorem store_val' (a : S1536x768.Idx → Elt F .bf16) : Gen.k0_pay6 (Gen.k0_pay4 a) = slotVal a := store_val a
/-- The product of a block taken from its window is the product of the block taken from a slot. -/
theorem own_val (a : S1536x768.Idx → Elt F .bf16) (v19 : FVec F S768x1536 .bf16) : Gen.k0_pay7 v19 (Gen.k0_pay4 a) = Gen.k0_pay2 v19 (slotVal a) := by
  have e : shapeCast S1536x768 (slotVal a) shapeCasts_S1x1536x768_S1536x768 = Gen.k0_pay4 a := by
    unfold Gen.k0_pay4
    dsimp only
    rw [shapeCast_id]
    funext j
    have e : j = ValueIdx.ix2 (n0 := 1536) (n1 := 768) (j 0) (j 1) := by funext x; fin_cases x <;> rfl
    exact (congrArg _ e).trans ((shapeCast_1ab_ab_apply (a := 1536) (b := 768) (slotVal a) _ (j 0) (j 1)).trans (congrArg a e.symm))
  unfold Gen.k0_pay7 Gen.k0_pay2
  dsimp only
  rw [e]

/-! ## The prologue's steps -/

section Steps
variable {Λ : Labels} {defs : Defs nD τ sig (Elt F) Λ} (𝒱 : Variants) (c : Dev nD) (bd : Option 𝒱.V) (d : Bool)
variable {K : GSem nD τ sig → ℕ} {κ : Key → ℕ}

/-- SIGNAL a neighbour that this core is there: duty `u` of its barrier. -/
theorem bar_signal {Q : PUnit → sProp (MT nD τ sig ℕ (Elt F) ℕ UU ℕ)} (u : ℕ) (hu : u = 0 ∨ u = 1) {y z : Dev nD} {O₀ O : CellTallies nD τ sig ℕ} (hO : O₀ = O + tallyAt (barC y) 0 1)
    {sem : Sem sig} (hz : z = y) (hsem : sem = barS) :
    iprop(ctx A K κ ∗ dutyTok ER (barC y) 0 u ∗ reached ER (barC y) 0 ∗ barPay y u ∗ owing c O₀)
      ⊢ iprop((owing c O -∗ Q ⟨⟩)
        -∗ wp frame (wpE defs 𝒱 (c : Thread nD τ) bd) Set.univ (semSignalWord (p := (c : Thread nD τ).2) z sem 1#32) Q) := by
  subst hz hsem
  unfold owing
  iintro ⟨#Hc, Ht, #Hr, Hp, %W, HO⟩ Hk
  ihave HI := (ctx_cell A (barC z) (reg_mem _ _)) $$ Hc
  iapply (Rounds.wp_signal 𝒱 ER (sched A) (c : Thread nD τ) bd (dst := (z : Thread nD τ)) (sem := barS) (r := 0) (d := u) (k' := 1) (κ := K (barC z))
      (by rw [duties_bar]; rcases hu with rfl | rfl <;> decide) rfl 0 O hO (W := W)) $$ [HI HO Ht Hp]
  · isplitl [HI]; · iexact HI
    isplitl [HO]; · iexact HO
    isplitl [Ht]; · iexact Ht
    isplitl [Hp]; · rw [payload_bar]; iexact Hp
    iexact Hr
  iintro HO
  rw [wp_ret]
  imodintro
  iapply Hk
  iexists _; iexact HO

/-- WAIT for both neighbours. -/
theorem bar_wait {Q : PUnit → sProp (MT nD τ sig ℕ (Elt F) ℕ UU ℕ)} {O : CellTallies nD τ sig ℕ} (hO : Above 1 O) {sem : Sem sig} (hsem : sem = barS) :
    iprop(ctx A K κ ∗ atPos ER (barC c) 0 ∅ 0 ∗ cred (tallyAt (barC c) 0 2) ∗ owing c O)
      ⊢ iprop(((atPos ER (barC c) 1 ∅ 0 ∗ barPay c 0 ∗ barPay c 1 ∗ owing c O) -∗ Q ⟨⟩)
        -∗ wp frame (wpE defs 𝒱 (c : Thread nD τ) bd) Set.univ (semWaitWord sem 2#32) Q) := by
  subst hsem
  unfold owing
  iintro ⟨#Hc, Hat, Hcr, %W, HO⟩ Hk
  ihave HI := (ctx_cell A (barC c) (reg_mem c _)) $$ Hc
  ihave HL := (ctx_lev A) $$ Hc
  iapply (Rounds.wp_wait_rest_token 𝒱 ER (sched A) (c : Thread nD τ) bd (κ := K (barC c)) (k' := 2)
      (wpE_semWait_eq 𝒱 (c : Thread nD τ) bd Set.univ) (Set.mem_univ _) 0 (O := O) (W := W) (R := 0) (m := 0) (T := ∅)
      (by rw [expect_bar])) $$ [HI Hcr HO HL Hat]
  · isplitl [HI]; · iexact HI
    isplitl [Hcr]; · iexact Hcr
    isplitl [HO]; · iexact HO
    isplitl [HL]
    · iapply (Lev_wait hO c _ 0 (by omega) (by rw [lv_bar])); iexact HL
    iexact Hat
  iintro ⟨HO, Hat, -, Hpay⟩
  rw [wp_ret]
  imodintro
  iapply Hk
  ihave Hp := (Entails.of_eq (show bigSep ((sched A).duties (barC c) 0 \ ∅) (fun u => (sched A).payload (barC c) 0 u) = iprop(barPay c 0 ∗ barPay c 1) by
    rw [Finset.sdiff_empty, duties_bar, bigSep_insert (by decide), bigSep_singleton]; rfl)) $$ Hpay
  icases Hp with ⟨H0, H1⟩
  isplitl [Hat]; · iexact Hat
  isplitl [H0]; · iexact H0
  isplitl [H1]; · iexact H1
  iexists _; iexact HO

/-- READ the window of the first argument. -/
theorem a_load (a : S1536x768.Idx → Elt F .bf16) {Q : (S1536x768.Idx → Elt F .bf16) → sProp 𝕄} {inb : ∀ x, (![0, 0] : Fin 2 → ℕ) x + S1536x768.size x ≤ S1536x768.size x}
    {hl : (Memref.whole cc0_stg0_0).view.LoadsAt (Rect.unit (s := S1536x768) ![0, 0] S1536x768.size inb).toLoadRect} :
    aPt c a ⊢ iprop((aPt c a -∗ Q a)
      -∗ wp frame (wpE defs 𝒱 (c : Thread nD τ) bd) Set.univ
          (Prog.lift (.load (Memref.whole cc0_stg0_0) (Rect.unit (s := S1536x768) ![0, 0] S1536x768.size inb).toLoadRect hl)) Q) := by
  unfold aPt
  iintro H Hk
  iapply (wp_load_rect 𝒱 (c : Thread nD τ) bd Set.univ (m := Memref.whole cc0_stg0_0) (r := Rect.unit (s := S1536x768) ![0, 0] S1536x768.size inb)
    (S := Finset.univ) (Finset.subset_univ _)) $$ H
  iintro H
  rw [wp_ret]
  imodintro
  have e : ((Memref.whole cc0_stg0_0).access (Rect.unit (s := S1536x768) ![0, 0] S1536x768.size inb)).read (Elt F) (aB c a) = a := by
    funext j
    show a _ = a j
    congr 1
    funext x
    fin_cases x
    · exact Fin.ext (by show 0 + 1 * (j 0).val = _; simp)
    · exact Fin.ext (by show 0 + 1 * (j 1).val = _; simp)
  rw [e]
  iapply Hk
  iexact H
/-- READ the window of the second argument. -/
theorem b_load (b : S768x1536.Idx → Elt F .bf16) {Q : (S768x1536.Idx → Elt F .bf16) → sProp 𝕄} {inb : ∀ x, (![0, 0] : Fin 2 → ℕ) x + S768x1536.size x ≤ S768x1536.size x}
    {hl : (Memref.whole cc0_stg1_0).view.LoadsAt (Rect.unit (s := S768x1536) ![0, 0] S768x1536.size inb).toLoadRect} :
    bPt c b ⊢ iprop((bPt c b -∗ Q b)
      -∗ wp frame (wpE defs 𝒱 (c : Thread nD τ) bd) Set.univ
          (Prog.lift (.load (Memref.whole cc0_stg1_0) (Rect.unit (s := S768x1536) ![0, 0] S768x1536.size inb).toLoadRect hl)) Q) := by
  unfold bPt
  iintro H Hk
  iapply (wp_load_rect 𝒱 (c : Thread nD τ) bd Set.univ (m := Memref.whole cc0_stg1_0) (r := Rect.unit (s := S768x1536) ![0, 0] S768x1536.size inb)
    (S := Finset.univ) (Finset.subset_univ _)) $$ H
  iintro H
  rw [wp_ret]
  imodintro
  have e : ((Memref.whole cc0_stg1_0).access (Rect.unit (s := S768x1536) ![0, 0] S768x1536.size inb)).read (Elt F) (bB c b) = b := by
    funext j
    show b _ = b j
    congr 1
    funext x
    fin_cases x
    · exact Fin.ext (by show 0 + 1 * (j 0).val = _; simp)
    · exact Fin.ext (by show 0 + 1 * (j 1).val = _; simp)
  rw [e]
  iapply Hk
  iexact H

/-- READ a slot, for nothing. -/
theorem slot_peek (s : Fin 3) {Q : (S1x1536x768.Idx → Elt F .bf16) → sProp 𝕄}
    {off : Fin 3 → ℕ} (ho : off = ![s.val, 0, 0]) {inb : ∀ a, off a + S1x1536x768.size a ≤ S3x1536x768.size a}
    {hl : (commM d).view.LoadsAt (Rect.unit (s := S3x1536x768) off S1x1536x768.size inb).toLoadRect} :
    slotA (c, d, s) ⊢ iprop((slotA (c, d, s) -∗ ∀ w, Q w)
      -∗ wp frame (wpE defs 𝒱 (c : Thread nD τ) bd) Set.univ
          (Prog.lift (.load (commM d) (Rect.unit (s := S3x1536x768) off S1x1536x768.size inb).toLoadRect hl)) Q) := by
  subst ho
  unfold slotA Release.slot
  show iprop(∃ f, comL d c ↦[sS d c s]{fullShare} f) ⊢ iprop((iprop(∃ f, comL d c ↦[sS d c s]{fullShare} f) -∗ _) -∗ _)
  iintro ⟨%f, H⟩ Hk
  iapply (wp_load_rect 𝒱 (c : Thread nD τ) bd Set.univ (m := commM d) (r := slotR s) (S := sS d c s) (Finset.Subset.refl _)) $$ H
  iintro H
  rw [wp_ret]
  imodintro
  ihave Hk := Hk $$ [H]
  · iexists f; iexact H
  iapply Hk

/-- WRITE a block to a slot. -/
theorem slot_store (s : Fin 3) (x : Dev nD) {Q : PUnit → sProp 𝕄}
    {off : Fin 3 → ℕ} (ho : off = ![s.val, 0, 0]) {inb : ∀ a, off a + S1x1536x768.size a ≤ S3x1536x768.size a} {w : S1x1536x768.Idx → Elt F .bf16}
    {hx : ((commM d).access (Rect.unit (s := S3x1536x768) off S1x1536x768.size inb)).Stores Finset.univ}
    {hm : (Finset.univ : Finset S1x1536x768.Idx) = Finset.univ ∨ ∀ a, (Rect.unit (s := S3x1536x768) off S1x1536x768.size inb).stride a = 1}
    (hw : w = slotVal (A x)) :
    slotA (c, d, s) ⊢ iprop((sPt A d c s fullShare x -∗ Q ⟨⟩)
      -∗ wp frame (wpE defs 𝒱 (c : Thread nD τ) bd) Set.univ
          (Prog.lift (.store (commM d) (Rect.unit (s := S3x1536x768) off S1x1536x768.size inb) w Finset.univ hx hm)) Q) := by
  subst ho hw
  unfold slotA Release.slot sPt
  show iprop(∃ f, comL d c ↦[sS d c s]{fullShare} f) ⊢ _
  iintro ⟨%f, H⟩ Hk
  iapply (wp_store 𝒱 (c : Thread nD τ) bd Set.univ (m := commM d) (r := slotR s) (S := sS d c s) (Finset.Subset.refl _)) $$ H
  iintro H
  rw [wp_ret]
  imodintro
  iapply Hk
  iapply (Entails.of_eq (pointsTo_congr (store_slot c (A x) d s f)))
  iexact H
end Steps

/-! ## What a core holds of a direction before it starts -/

section Before
variable (c : Dev nD) (d : Bool)

/-- The units this core is to grant, before it knows that the neighbour is there. -/
def grPre : sProp 𝕄 :=
  iprop(rdAt c d 0 ∗ rdAt c d 1 ∗ rdAt c d 2 ∗ bigSep (Finset.Ico 0 (NT d)) (fun j => dutyTok ER (credC (nx (!d) c) d) 0 j))
theorem grPre_start : iprop(grPre (F := F) c d ∗ reached ER (credC (nx (!d) c) d) 0) ⊢ grSt c d 0 := by
  unfold grPre grSt facts
  rw [Finset.range_zero, bigSep_empty]
  iintro ⟨⟨H0, H1, H2, Ht⟩, Hr⟩
  isplitl [H0]; · iexact H0
  isplitl [H1]; · iexact H1
  isplitl [H2]; · iexact H2
  isplitl []; · iempintro
  isplitl [Hr]; · iexact Hr
  iexact Ht

/-- The receive cells of the first three transfers are open. -/
def rch : sProp 𝕄 :=
  iprop((reached ER (recvC c d 0 0) (0 / 3) ∗ reached ER (recvC c d 0 1) (0 / 3)) ∗ (reached ER (recvC c d 1 0) (1 / 3) ∗ reached ER (recvC c d 1 1) (1 / 3))
    ∗ reached ER (recvC c d 2 0) (2 / 3) ∗ reached ER (recvC c d 2 1) (2 / 3))
instance rch_persistent : BI.Persistent (rch (F := F) c d) := by unfold rch; infer_instance
theorem rcvSt_open (b : Fin 2) : rcvSt (F := F) c d b 0
    ⊢ iprop((reached ER (recvC c d 0 b) (0 / 3) ∗ reached ER (recvC c d 1 b) (1 / 3) ∗ reached ER (recvC c d 2 b) (2 / 3)) ∗ rcvSt c d b 0) := by
  unfold rcvSt
  rw [rcvAt_def c d b 0, rcvAt_def c d b (0 + 1), rcvAt_def c d b (0 + 2)]
  iintro ⟨⟨H0, #R0⟩, ⟨H1, #R1⟩, ⟨H2, #R2⟩, H3⟩
  isplitl []
  · isplitl []; · iexact R0
    isplitl []; · iexact R1
    iexact R2
  isplitl [H0]
  · isplitl [H0]; · iexact H0
    iexact R0
  isplitl [H1]
  · isplitl [H1]; · iexact H1
    iexact R1
  isplitl [H2]
  · isplitl [H2]; · iexact H2
    iexact R2
  iexact H3
theorem rch_open : iprop(rcvSt (F := F) c d 0 0 ∗ rcvSt c d 1 0) ⊢ iprop(rch c d ∗ rcvSt c d 0 0 ∗ rcvSt c d 1 0) := by
  iintro ⟨H0, H1⟩
  ihave H0 := (rcvSt_open c d 0) $$ H0
  ihave H1 := (rcvSt_open c d 1) $$ H1
  icases H0 with ⟨⟨#A0, #A1, #A2⟩, H0⟩
  icases H1 with ⟨⟨#B0, #B1, #B2⟩, H1⟩
  unfold rch
  isplitl []
  · isplitl []
    · isplitl []; · iexact A0
      iexact B0
    isplitl []
    · isplitl []; · iexact A1
      iexact B1
    isplitl []; · iexact A2
    iexact B2
  isplitl [H0]; · iexact H0
  iexact H1
end Before

/-! ## The first transfers -/

section First
variable {Λ : Labels} {defs : Defs nD τ sig (Elt F) Λ} (𝒱 : Variants) (c : Dev nD) (bd : Option 𝒱.V) (d : Bool) (b : Fin 2)
variable {K : GSem nD τ sig → ℕ} {κ : Key → ℕ} {Q : PUnit → sProp (MT nD τ sig ℕ (Elt F) ℕ UU ℕ)}

theorem NT_pos : 0 < NT d := Nat.lt_of_lt_of_le (by norm_num) (NT_ge d)

/-- START a half of the core's own block on its way. -/
theorem first_send {O₀ O : CellTallies nD τ sig ℕ} (hO : O₀ = O + tallyAt (recvC (nx d c) d 0 b) 0 NH)
    {z : Dev nD} {src dst : Memref sig .tc .vmem S768x768 .bf16} {sS sR : DmaSem sig}
    {hsc : dst.view.ref.isScScratch = false} {hs : src.view.WordExact} {hd : dst.view.WordExact}
    {hty : DmaTarget.Typed .vmem (.dma sR) (.remote (z : Thread nD τ) dst (.dma sS) hsc)}
    (hz : z = nx d c) (hsrc : src = half d (sl 0) b) (hdst : dst = half d (sl (0 + 1)) b) (hsS : sS = sendS d 0 b) (hsR : sR = recvS d 0 b) :
    iprop(ctx A K κ ∗ sndSt c d b 0 ∗ sndTk c d b 0 ∗ hPt A d c (sl 0) b fullShare (og d 0 c) ∗ dstH (nx d c) d b 0 ∗ owing c O₀)
      ⊢ iprop(((sndSt c d b 0 ∗ sndTk c d b (0 + 1) ∗ lent A c d 0 b ∗ owing c O) -∗ Q ⟨⟩)
        -∗ wp frame (wpE defs 𝒱 (c : Thread nD τ) bd) Set.univ
            (Prog.lift (.enqueueDma src (.remote (z : Thread nD τ) dst (.dma sS) hsc) (.dma sR) hs hd hty)) Q) := by
  unfold lent qk sndSt
  rw [if_pos (NT_pos d), if_pos (NT_pos d)]
  iintro ⟨#Hc, ⟨Hs0, Hs12⟩, Ht, Hsrc, Hd1, HO⟩ Hk
  ihave Hsrc := (hPt_shares A c d (sl 0) b (og d 0 c)) $$ Hsrc
  icases Hsrc with ⟨HsL, HsR⟩
  iapply (send_step A 𝒱 c bd d b 0 (NT_pos d) hO hz hsrc hdst hsS hsR) $$ [Hs0 Ht HsL Hd1 HO]
  · isplitl []; · iexact Hc
    isplitl [Hs0]; · iexact Hs0
    isplitl [Ht]; · iexact Ht
    isplitl [HsL]; · iexact HsL
    isplitl [Hd1]; · iexact Hd1
    iexact HO
  iintro ⟨Hs0, Ht, Hcs, HO⟩
  iapply Hk
  isplitl [Hs0 Hs12]
  · isplitl [Hs0]; · iexact Hs0
    iexact Hs12
  isplitl [Ht]; · iexact Ht
  isplitl [HsR Hcs]
  · isplitl [HsR]; · iexact HsR
    iexact Hcs
  iexact HO

/-- WAIT until it has left. -/
theorem first_back {O : CellTallies nD τ sig ℕ} (hO : Above 0 O)
    {sp sp' : Space} {s s' : Shape} {e e' : EltTy}
    {sem : DmaSem sig} {src : Memref sig (c : Thread nD τ).2.kind sp s e} {dst : Memref sig (c : Thread nD τ).2.kind sp' s' e'}
    {hs : src.view.WordExact} {hd : dst.view.WordExact} (hsem : sem = sendS d 0 b) (hcr : dst.view.dmaCredit = NH) :
    iprop(ctx A K κ ∗ sndSt c d b 0 ∗ lent A c d 0 b ∗ owing c O)
      ⊢ iprop(((sndSt c d b (0 + 1) ∗ hPt A d c (sl 0) b fullShare (og d 0 c) ∗ owing c O) -∗ Q ⟨⟩)
        -∗ wp frame (wpE defs 𝒱 (c : Thread nD τ) bd) Set.univ (Prog.lift (.waitDma2 sem src dst hs hd)) Q) := by
  unfold lent qk
  rw [if_pos (NT_pos d), if_pos (NT_pos d)]
  iintro ⟨#Hc, Hs, ⟨HR, Hcr⟩, HO⟩ Hk
  iapply (send_wait A 𝒱 c bd d b 0 (NT_pos d) hO hsem hcr) $$ [Hs Hcr HO]
  · isplitl []; · iexact Hc
    isplitl [Hs]; · iexact Hs
    isplitl [Hcr]; · iexact Hcr
    iexact HO
  iintro ⟨Hs, HL, HO⟩
  iapply Hk
  unfold sendPay
  isplitl [Hs]; · iexact Hs
  isplitl [HL HR]
  · iapply (hPt_whole A c d (sl 0) b (og d 0 c))
    isplitl [HL]; · iexact HL
    iexact HR
  iexact HO

/-- Both halves back, SIGNAL the device before. -/
theorem first_grant {O₀ O : CellTallies nD τ sig ℕ} (hO : O₀ = O + tallyAt (credC (nx (!d) c) d) 2 1)
    {z : Dev nD} {sem : Sem sig} (hz : z = nx (!d) c) (hsem : sem = credS d) :
    iprop(ctx A K κ ∗ grSt c d 2 ∗ hPt A d c (sl 0) 0 fullShare (og d 0 c) ∗ hPt A d c (sl 0) 1 fullShare (og d 0 c) ∗ rch c d ∗ owing c O₀)
      ⊢ iprop(((grSt c d 3 ∗ owing c O) -∗ Q ⟨⟩)
        -∗ wp frame (wpE defs 𝒱 (c : Thread nD τ) bd) Set.univ (semSignalWord (p := (c : Thread nD τ).2) z sem 1#32) Q) := by
  unfold rch
  iintro ⟨#Hc, Hg, H0, H1, ⟨-, -, #R0, #R1⟩, HO⟩ Hk
  ihave HS := (sPt_join A c d (sl 0) (og d 0 c) fullShare) $$ [H0 H1]
  · isplitl [H0]; · iexact H0
    iexact H1
  ihave HS := (sPt_slot A c d (sl 0) (og d 0 c)) $$ HS
  iapply (grant_step A 𝒱 c bd d 2 (Nat.lt_of_lt_of_le (by norm_num) (NT_ge d)) hO hz hsem) $$ [Hg HS HO]
  · isplitl []; · iexact Hc
    isplitl [Hg]; · iexact Hg
    isplitl [HS]; · iexact HS
    isplitl []; · iexact R0
    isplitl []; · iexact R1
    iexact HO
  iexact Hk

/-- SIGNAL the device before that a slot never used is free. -/
theorem free_grant (k : ℕ) (hk : k = 0 ∨ k = 1) {O₀ O : CellTallies nD τ sig ℕ} (hO : O₀ = O + tallyAt (credC (nx (!d) c) d) k 1)
    {z : Dev nD} {sem : Sem sig} (hz : z = nx (!d) c) (hsem : sem = credS d) :
    iprop(ctx A K κ ∗ grSt c d k ∗ slotA (c, d, sl (k + 1)) ∗ rch c d ∗ owing c O₀)
      ⊢ iprop(((grSt c d (k + 1) ∗ owing c O) -∗ Q ⟨⟩)
        -∗ wp frame (wpE defs 𝒱 (c : Thread nD τ) bd) Set.univ (semSignalWord (p := (c : Thread nD τ).2) z sem 1#32) Q) := by
  unfold rch
  iintro ⟨#Hc, Hg, HS, ⟨⟨#R00, #R01⟩, ⟨#R10, #R11⟩, -, -⟩, HO⟩ Hk
  iapply (grant_step A 𝒱 c bd d k (Nat.lt_of_le_of_lt (show k ≤ 1 by omega) (Nat.lt_of_lt_of_le (by norm_num) (NT_ge d))) hO hz hsem) $$ [Hg HS HO]
  · isplitl []; · iexact Hc
    isplitl [Hg]; · iexact Hg
    isplitl [HS]; · iexact HS
    rcases hk with rfl | rfl
    · isplitl []; · iexact R00
      isplitl []; · iexact R01
      iexact HO
    · isplitl []; · iexact R10
      isplitl []; · iexact R11
      iexact HO
  iexact Hk
end First

end Cert.KernelIdeal.RingMM

end
-- ==== Proof.Prologue.lean ====
/-
  The kernel's body before its loop, part by part.
-/
module

public import proofs.«01_k».proof.Proof.Start

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

section Prologue
variable (A : Dev nD → S1536x768.Idx → Elt F .bf16) (W : Dev nD → S1536x1536.Idx → Elt F .bf16)
variable {defs : Defs nD τ sig (Elt F) Λ₀} (𝒱 : Variants) (c : Dev nD) (bd : Option 𝒱.V)
variable {K : GSem nD τ sig → ℕ} {κ : Key → ℕ}

/-- What the core owes at the start. -/
def OI : CellTallies nD τ sig ℕ := OO c 0 0 0 0 0 0 + tallyAt (barC (nx false c)) 0 1 + tallyAt (barC (nx true c)) 0 1

/-- What the entry handshake takes. -/
def barSt : sProp 𝕄 :=
  iprop((dutyTok ER (barC (nx true c)) 0 0 ∗ reached ER (barC (nx true c)) 0 ∗ reached ER (credC c true) 0)
    ∗ (dutyTok ER (barC (nx false c)) 0 1 ∗ reached ER (barC (nx false c)) 0 ∗ reached ER (credC c false) 0)
    ∗ atPos ER (barC c) 0 ∅ 0 ∗ cred (tallyAt (barC c) 0 2))

/-- The table's first two entries, the neighbours. -/
theorem tab_0 : tab c 0 = nx true c := rfl
theorem tab_1 : tab c 1 = nx false c := rfl

set_option maxHeartbeats 4000000 in
/-- The handshake, the first units of credit, the windows. -/
theorem part3_run (Bm : S768x1536.Idx → Elt F .bf16) {Q : (Σ' (_ : Dev nD) (_ : BitVec 32) (v3 : Elt F .i32) (_ : k0_chk1 v3) (v4 : Elt F .i32) (_ : k0_chk2 v4) (_ : FVec F S768x1536 .bf16), FVec F S1536x768 .bf16) → sProp (MT nD τ sig ℕ (Elt F) ℕ UU ℕ)} :
    iprop(ctx A K κ ∗ barSt c ∗ (grPre c false ∗ rch c false ∗ slotA (c, false, sl (0 + 1)) ∗ slotA (c, false, sl (1 + 1)))
        ∗ (grPre c true ∗ rch c true ∗ slotA (c, true, sl (0 + 1)) ∗ slotA (c, true, sl (1 + 1))) ∗ tabPt c ∗ aPt c (A c) ∗ bPt c Bm ∗ owing c (OI c))
      ⊢ iprop((∀ v2 hw1 hw2, (atPos ER (barC c) 1 ∅ 0 ∗ grSt c false 2 ∗ grSt c true 2 ∗ tabPt c ∗ aPt c (A c) ∗ bPt c Bm ∗ owing c (OO c 2 2 0 0 0 0))
            -∗ Q ⟨c, v2, wd (nx true c), hw1, wd (nx false c), hw2, Gen.k0_pay3 Bm, Gen.k0_pay4 (A c)⟩)
        -∗ wp frame (wpE defs 𝒱 (c : Thread nD τ) bd) Set.univ (k0_part3 (Memref.whole cc0_stg0_0) (Memref.isWhole_whole _) (Memref.whole cc0_stg1_0) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11) Q) := by
  rw [Gen.k0_part3_eq_skeleton]
  unfold Gen.k0_part3_skel barSt OI
  simp only [wp_bind, wp_deviceId]
  iintro ⟨#Hc, ⟨⟨Hd0, #Hb0, #Hq0⟩, ⟨Hd1, #Hb1, #Hq1⟩, Hat, Hcr⟩, ⟨Gf, #Rf, Sf1, Sf2⟩, ⟨Gt, #Rt, St1, St2⟩, Htab, Ha, Hb, HO⟩ Hk
  rw [show Prog.lift (TpuEff.deviceId (nD := nD) (τ := τ) (sig := sig) (Val := Elt F) (Λ := Λ₀) (p := (c : Thread nD τ).2)) = .op .deviceId .ret from rfl, wp_deviceId, wp_ret]
  imodintro
  iapply (tab_step 𝒱 c bd 0 rfl) $$ Htab
  iintro Htab
  rw [tab_0]
  iapply (wp_assume 𝒱 (c : Thread nD τ) bd Set.univ (chk1 (nx true c)))
  rw [wp_ret]
  imodintro
  iapply (tab_step 𝒱 c bd 1 rfl) $$ Htab
  iintro Htab
  rw [tab_1]
  iapply (wp_assume 𝒱 (c : Thread nD τ) bd Set.univ (chk2 (nx false c)))
  rw [wp_ret]
  imodintro
  ihave Hp0 : barPay (nx true c) 0 $$ []
  · unfold barPay
    rw [if_pos rfl, show nx false (nx true c) = c from nx_nx false c]
    iexact Hq0
  ihave Hp1 : barPay (nx false c) 1 $$ []
  · unfold barPay
    rw [if_neg (by decide), show nx true (nx false c) = c from nx_nx true c]
    iexact Hq1
  iapply (bar_signal A 𝒱 c bd 0 (.inl rfl) (y := nx true c) rfl (dev_of (nx true c) _) rfl) $$ [Hd0 Hp0 HO]
  · isplitl []; · iexact Hc
    isplitl [Hd0]; · iexact Hd0
    isplitl []; · iexact Hb0
    isplitl [Hp0]; · iexact Hp0
    iexact HO
  iintro HO
  iapply (bar_signal A 𝒱 c bd 1 (.inr rfl) (y := nx false c) rfl (dev_of (nx false c) _) rfl) $$ [Hd1 Hp1 HO]
  · isplitl []; · iexact Hc
    isplitl [Hd1]; · iexact Hd1
    isplitl []; · iexact Hb1
    isplitl [Hp1]; · iexact Hp1
    iexact HO
  iintro HO
  iapply (bar_wait A 𝒱 c bd (O := (OO c 0 0 0 0 0 0)) (by apply OO_above <;> intro _ <;> (try unfold lvC) <;> (repeat' split) <;> omega) rfl) $$ [Hat Hcr HO]
  · isplitl []; · iexact Hc
    isplitl [Hat]; · iexact Hat
    isplitl [Hcr]; · iexact Hcr
    iexact HO
  iintro ⟨Hat, Hp0, Hp1, HO⟩
  ihave Hp0 := (Entails.of_eq (show barPay (F := F) c 0 = reached ER (credC (nx (!true) c) true) 0 from if_pos rfl)) $$ Hp0
  ihave Hp1 := (Entails.of_eq (show barPay (F := F) c 1 = reached ER (credC (nx (!false) c) false) 0 from if_neg (by decide))) $$ Hp1
  ihave Gt := (grPre_start c true) $$ [Gt Hp0]
  · isplitl [Gt]; · iexact Gt
    iexact Hp0
  ihave Gf := (grPre_start c false) $$ [Gf Hp1]
  · isplitl [Gf]; · iexact Gf
    iexact Hp1
  iapply (free_grant A 𝒱 c bd false 0 (.inl rfl) (O₀ := (OO c 0 0 0 0 0 0)) (O := (OO c 1 0 0 0 0 0)) (OO_g₀ c (by norm_num)) (dev_of (nx true c) _) rfl) $$ [Gf Sf1 HO]
  · isplitl []; · iexact Hc
    isplitl [Gf]; · iexact Gf
    isplitl [Sf1]; · iexact Sf1
    isplitl []; · iexact Rf
    iexact HO
  iintro ⟨Gf, HO⟩
  iapply (free_grant A 𝒱 c bd false 1 (.inr rfl) (O₀ := (OO c 1 0 0 0 0 0)) (O := (OO c 2 0 0 0 0 0)) (OO_g₀ c (by norm_num)) (dev_of (nx true c) _) rfl) $$ [Gf Sf2 HO]
  · isplitl []; · iexact Hc
    isplitl [Gf]; · iexact Gf
    isplitl [Sf2]; · iexact Sf2
    isplitl []; · iexact Rf
    iexact HO
  iintro ⟨Gf, HO⟩
  iapply (free_grant A 𝒱 c bd true 0 (.inl rfl) (O₀ := (OO c 2 0 0 0 0 0)) (O := (OO c 2 1 0 0 0 0)) (OO_g₁ c (by norm_num)) (dev_of (nx false c) _) rfl) $$ [Gt St1 HO]
  · isplitl []; · iexact Hc
    isplitl [Gt]; · iexact Gt
    isplitl [St1]; · iexact St1
    isplitl []; · iexact Rt
    iexact HO
  iintro ⟨Gt, HO⟩
  iapply (free_grant A 𝒱 c bd true 1 (.inr rfl) (O₀ := (OO c 2 1 0 0 0 0)) (O := (OO c 2 2 0 0 0 0)) (OO_g₁ c (by norm_num)) (dev_of (nx false c) _) rfl) $$ [Gt St2 HO]
  · isplitl []; · iexact Hc
    isplitl [Gt]; · iexact Gt
    isplitl [St2]; · iexact St2
    isplitl []; · iexact Rt
    iexact HO
  iintro ⟨Gt, HO⟩
  iapply (b_load 𝒱 c bd Bm) $$ Hb
  iintro Hb
  iapply (a_load 𝒱 c bd (A c)) $$ Ha
  iintro Ha
  rw [show ∀ x : (Σ' (_ : Dev nD) (_ : BitVec 32) (v3 : Elt F .i32) (_ : k0_chk1 v3) (v4 : Elt F .i32) (_ : k0_chk2 v4) (_ : FVec F S768x1536 .bf16), FVec F S1536x768 .bf16), (pure x : Prog (TpuEff nD τ sig (Elt F) Λ₀ (c : Thread nD τ).2) _) = .ret x from fun _ => rfl, wp_ret]
  imodintro
  iapply Hk
  isplitl [Hat]; · iexact Hat
  isplitl [Gf]; · iexact Gf
  isplitl [Gt]; · iexact Gt
  isplitl [Htab]; · iexact Htab
  isplitl [Ha]; · iexact Ha
  isplitl [Hb]; · iexact Hb
  iexact HO

set_option maxHeartbeats 4000000 in
/-- The core's own block into the slots; the first transfer's first half. -/
theorem part4_run (hw2 : k0_chk2 (wd (nx false c))) {Q : PUnit → sProp (MT nD τ sig ℕ (Elt F) ℕ UU ℕ)} :
    iprop(ctx A K κ ∗ (slotA (c, false, sl 0) ∗ crdSt c false 0 ∗ wrSt c false 0 ∗ sndSt c false 0 0 ∗ sndTk c false 0 0)
        ∗ (slotA (c, true, sl 0) ∗ crdSt c true 0 ∗ wrSt c true 0) ∗ owing c (OO c 2 2 0 0 0 0))
      ⊢ iprop((((crdSt c false 1 ∗ wrSt c false 1 ∗ sndSt c false 0 0 ∗ sndTk c false 0 1 ∗ lent A c false 0 0 ∗ hPt A false c (sl 0) 1 fullShare (og false 0 c) ∗ dstH (nx false c) false 1 0)
              ∗ (crdSt c true 1 ∗ wrSt c true 1 ∗ hPt A true c (sl 0) 0 fullShare (og true 0 c) ∗ hPt A true c (sl 0) 1 fullShare (og true 0 c) ∗ dstH (nx true c) true 0 0 ∗ dstH (nx true c) true 1 0)
              ∗ owing c (OO c 2 2 1 0 0 0)) -∗ Q ⟨⟩)
        -∗ wp frame (wpE defs 𝒱 (c : Thread nD τ) bd) Set.univ (k0_part4 (Memref.whole cc0_stg0_0) (Memref.isWhole_whole _) (Memref.whole cc0_stg1_0) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 (wd (nx true c)) (wd (nx false c)) hw2 (Gen.k0_pay4 (A c))) Q) := by
  rw [Gen.k0_part4_eq_skeleton]
  unfold Gen.k0_part4_skel
  simp only [wp_bind]
  iintro ⟨#Hc, ⟨Sf, Cf, Wf, Nf, Tf⟩, ⟨St, Ct, Wt⟩, HO⟩ Hk
  iapply (slot_peek 𝒱 c bd false (sl 0) rfl) $$ Sf
  iintro Sf %w
  iapply (slot_store A 𝒱 c bd false (sl 0) c rfl (store_val (A c))) $$ Sf
  iintro Sf
  iapply (slot_peek 𝒱 c bd true (sl 0) rfl) $$ St
  iintro St %w'
  iapply (slot_store A 𝒱 c bd true (sl 0) c rfl (store_val' (A c))) $$ St
  iintro St
  ihave Sf := (sPt_halves A c false (sl 0) c fullShare) $$ Sf
  icases Sf with ⟨Sf0, Sf1⟩
  ihave St := (sPt_halves A c true (sl 0) c fullShare) $$ St
  icases St with ⟨St0, St1⟩
  iapply (cred_wait A 𝒱 c bd false 0 (NT_pos false) (O := (OO c 2 2 0 0 0 0)) (by apply OO_above <;> intro _ <;> (try unfold lvC) <;> (repeat' split) <;> omega) rfl) $$ [Cf Wf HO]
  · isplitl []; · iexact Hc
    isplitl [Cf]; · iexact Cf
    isplitl [Wf]; · iexact Wf
    iexact HO
  iintro ⟨Cf, Wf, Df0, Df1, HO⟩
  iapply (first_send A 𝒱 c bd false 0 (O₀ := (OO c 2 2 0 0 0 0)) (O := (OO c 2 2 1 0 0 0)) (OO_t₀₀ c (by norm_num)) (dev_of (nx false c) _) (half_of false (sl 0) 0 rfl _) (half_of false (sl 1) 0 rfl _) (sendS_of false 0 0 rfl _) (recvS_of false 0 0 rfl _)) $$ [Nf Tf Sf0 Df0 HO]
  · isplitl []; · iexact Hc
    isplitl [Nf]; · iexact Nf
    isplitl [Tf]; · iexact Tf
    isplitl [Sf0]; · iexact Sf0
    isplitl [Df0]; · iexact Df0
    iexact HO
  iintro ⟨Nf, Tf, Lf0, HO⟩
  iapply (cred_wait A 𝒱 c bd true 0 (NT_pos true) (O := (OO c 2 2 1 0 0 0)) (by apply OO_above <;> intro _ <;> (try unfold lvC) <;> (repeat' split) <;> omega) rfl) $$ [Ct Wt HO]
  · isplitl []; · iexact Hc
    isplitl [Ct]; · iexact Ct
    isplitl [Wt]; · iexact Wt
    iexact HO
  iintro ⟨Ct, Wt, Dt0, Dt1, HO⟩
  rw [show (pure PUnit.unit : Prog (TpuEff nD τ sig (Elt F) Λ₀ (c : Thread nD τ).2) PUnit) = .ret PUnit.unit from rfl, wp_ret]
  imodintro
  iapply Hk
  isplitl [Cf Wf Nf Tf Lf0 Sf1 Df1]
  · isplitl [Cf]; · iexact Cf
    isplitl [Wf]; · iexact Wf
    isplitl [Nf]; · iexact Nf
    isplitl [Tf]; · iexact Tf
    isplitl [Lf0]; · iexact Lf0
    isplitl [Sf1]; · iexact Sf1
    iexact Df1
  isplitl [Ct Wt St0 St1 Dt0 Dt1]
  · isplitl [Ct]; · iexact Ct
    isplitl [Wt]; · iexact Wt
    isplitl [St0]; · iexact St0
    isplitl [St1]; · iexact St1
    isplitl [Dt0]; · iexact Dt0
    iexact Dt1
  iexact HO

set_option maxHeartbeats 4000000 in
/-- The other three halves of the first transfers. -/
theorem part5_run (hw1 : k0_chk1 (wd (nx true c))) (hw2 : k0_chk2 (wd (nx false c))) (v19 : FVec F S768x1536 .bf16) {Q : FVec F S1536x1536 .bf16 → sProp (MT nD τ sig ℕ (Elt F) ℕ UU ℕ)} :
    iprop(ctx A K κ ∗ (sndSt c false 1 0 ∗ sndTk c false 1 0 ∗ hPt A false c (sl 0) 1 fullShare (og false 0 c) ∗ dstH (nx false c) false 1 0)
        ∗ (sndSt c true 0 0 ∗ sndTk c true 0 0 ∗ hPt A true c (sl 0) 0 fullShare (og true 0 c) ∗ dstH (nx true c) true 0 0)
        ∗ (sndSt c true 1 0 ∗ sndTk c true 1 0 ∗ hPt A true c (sl 0) 1 fullShare (og true 0 c) ∗ dstH (nx true c) true 1 0)
        ∗ stgAny c false ∗ owing c (OO c 2 2 1 0 0 0))
      ⊢ iprop((((sndSt c false 1 0 ∗ sndTk c false 1 1 ∗ lent A c false 0 1) ∗ (sndSt c true 0 0 ∗ sndTk c true 0 1 ∗ lent A c true 0 0)
              ∗ (sndSt c true 1 0 ∗ sndTk c true 1 1 ∗ lent A c true 0 1) ∗ stgAny c false ∗ owing c (OO c 2 2 1 1 1 1)) -∗ Q (Gen.k0_pay7 v19 (Gen.k0_pay4 (A c))))
        -∗ wp frame (wpE defs 𝒱 (c : Thread nD τ) bd) Set.univ (k0_part5 (Memref.whole cc0_stg0_0) (Memref.isWhole_whole _) (Memref.whole cc0_stg1_0) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 (wd (nx true c)) hw1 (wd (nx false c)) hw2 v19 (Gen.k0_pay4 (A c))) Q) := by
  rw [Gen.k0_part5_eq_skeleton]
  unfold Gen.k0_part5_skel
  simp only [wp_bind]
  iintro ⟨#Hc, ⟨Nf1, Tf1, Sf1, Df1⟩, ⟨Nt0, Tt0, St0, Dt0⟩, ⟨Nt1, Tt1, St1, Dt1⟩, Hst, HO⟩ Hk
  iapply (first_send A 𝒱 c bd true 0 (O₀ := (OO c 2 2 1 0 0 0)) (O := (OO c 2 2 1 0 1 0)) (OO_t₁₀ c (by norm_num)) (dev_of (nx true c) _) (half_of true (sl 0) 0 rfl _) (half_of true (sl 1) 0 rfl _) (sendS_of true 0 0 rfl _) (recvS_of true 0 0 rfl _)) $$ [Nt0 Tt0 St0 Dt0 HO]
  · isplitl []; · iexact Hc
    isplitl [Nt0]; · iexact Nt0
    isplitl [Tt0]; · iexact Tt0
    isplitl [St0]; · iexact St0
    isplitl [Dt0]; · iexact Dt0
    iexact HO
  iintro ⟨Nt0, Tt0, Lt0, HO⟩
  iapply (first_send A 𝒱 c bd false 1 (O₀ := (OO c 2 2 1 0 1 0)) (O := (OO c 2 2 1 1 1 0)) (OO_t₀₁ c (by norm_num)) (dev_of (nx false c) _) (half_of false (sl 0) 1 rfl _) (half_of false (sl 1) 1 rfl _) (sendS_of false 0 1 rfl _) (recvS_of false 0 1 rfl _)) $$ [Nf1 Tf1 Sf1 Df1 HO]
  · isplitl []; · iexact Hc
    isplitl [Nf1]; · iexact Nf1
    isplitl [Tf1]; · iexact Tf1
    isplitl [Sf1]; · iexact Sf1
    isplitl [Df1]; · iexact Df1
    iexact HO
  iintro ⟨Nf1, Tf1, Lf1, HO⟩
  iapply (first_send A 𝒱 c bd true 1 (O₀ := (OO c 2 2 1 1 1 0)) (O := (OO c 2 2 1 1 1 1)) (OO_t₁₁ c (by norm_num)) (dev_of (nx true c) _) (half_of true (sl 0) 1 rfl _) (half_of true (sl 1) 1 rfl _) (sendS_of true 0 1 rfl _) (recvS_of true 0 1 rfl _)) $$ [Nt1 Tt1 St1 Dt1 HO]
  · isplitl []; · iexact Hc
    isplitl [Nt1]; · iexact Nt1
    isplitl [Tt1]; · iexact Tt1
    isplitl [St1]; · iexact St1
    isplitl [Dt1]; · iexact Dt1
    iexact HO
  iintro ⟨Nt1, Tt1, Lt1, HO⟩
  iapply (stg_load 𝒱 c bd false) $$ Hst
  iintro Hst %w
  rw [show ∀ x : FVec F S1536x1536 .bf16, (pure x : Prog (TpuEff nD τ sig (Elt F) Λ₀ (c : Thread nD τ).2) _) = .ret x from fun _ => rfl, wp_ret]
  imodintro
  iapply Hk
  isplitl [Nf1 Tf1 Lf1]
  · isplitl [Nf1]; · iexact Nf1
    isplitl [Tf1]; · iexact Tf1
    iexact Lf1
  isplitl [Nt0 Tt0 Lt0]
  · isplitl [Nt0]; · iexact Nt0
    isplitl [Tt0]; · iexact Tt0
    iexact Lt0
  isplitl [Nt1 Tt1 Lt1]
  · isplitl [Nt1]; · iexact Nt1
    isplitl [Tt1]; · iexact Tt1
    iexact Lt1
  isplitl [Hst]; · iexact Hst
  iexact HO

set_option maxHeartbeats 4000000 in
/-- The core's own product on its way to its rows; the first direction's slot back. -/
theorem part6_run (hw1 : k0_chk1 (wd (nx true c))) (v2 : BitVec 32) (v72 : FVec F S1536x1536 .bf16) (h72 : v72 = W c) {Q : PUnit → sProp (MT nD τ sig ℕ (Elt F) ℕ UU ℕ)} :
    iprop(ctx A K κ ∗ (stgAny c false ∗ outAny c c ∗ semVal ((c : Thread nD τ), SemLoc.dma (stgS false)) 0)
        ∗ (sndSt c false 0 0 ∗ lent A c false 0 0) ∗ (sndSt c false 1 0 ∗ lent A c false 0 1) ∗ grSt c false 2 ∗ rch c false ∗ owing c (OO c 2 2 1 1 1 1))
      ⊢ iprop(((fly W c false c ∗ sndSt c false 0 1 ∗ sndSt c false 1 1 ∗ grSt c false 3 ∗ owing c (OO c 3 2 1 1 1 1)) -∗ Q ⟨⟩)
        -∗ wp frame (wpE defs 𝒱 (c : Thread nD τ) bd) Set.univ (k0_part6 (Memref.whole cc0_stg0_0) (Memref.isWhole_whole _) (Memref.whole cc0_stg1_0) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 (wd (nx true c)) hw1 v72) Q) := by
  rw [Gen.k0_part6_eq_skeleton]
  unfold Gen.k0_part6_skel
  simp only [wp_bind]
  iintro ⟨#Hc, ⟨Hst, Ho, Hv⟩, ⟨N0, L0⟩, ⟨N1, L1⟩, Hg, #Hr, HO⟩ Hk
  iapply (stg_store W 𝒱 c bd false c h72) $$ Hst
  iintro Hst
  iapply (copy_start W 𝒱 c bd false c rfl (out_of _ (off1_eq c) _) rfl) $$ [Hst Ho Hv]
  · isplitl [Hst]; · iexact Hst
    isplitl [Ho]; · iexact Ho
    iexact Hv
  iintro Hfly
  iapply (first_back A 𝒱 c bd false 0 (O := (OO c 2 2 1 1 1 1)) (by apply OO_above <;> intro _ <;> (try unfold lvC) <;> (repeat' split) <;> omega) (sendS_of false 0 0 rfl _) (half_credit' false _ _)) $$ [N0 L0 HO]
  · isplitl []; · iexact Hc
    isplitl [N0]; · iexact N0
    isplitl [L0]; · iexact L0
    iexact HO
  iintro ⟨N0, S0, HO⟩
  iapply (first_back A 𝒱 c bd false 1 (O := (OO c 2 2 1 1 1 1)) (by apply OO_above <;> intro _ <;> (try unfold lvC) <;> (repeat' split) <;> omega) (sendS_of false 0 1 rfl _) (half_credit' false _ _)) $$ [N1 L1 HO]
  · isplitl []; · iexact Hc
    isplitl [N1]; · iexact N1
    isplitl [L1]; · iexact L1
    iexact HO
  iintro ⟨N1, S1, HO⟩
  iapply (first_grant A 𝒱 c bd false (O₀ := (OO c 2 2 1 1 1 1)) (O := (OO c 3 2 1 1 1 1)) (OO_g₀ c (by norm_num)) (dev_of (nx true c) _) rfl) $$ [Hg S0 S1 HO]
  · isplitl []; · iexact Hc
    isplitl [Hg]; · iexact Hg
    isplitl [S0]; · iexact S0
    isplitl [S1]; · iexact S1
    isplitl []; · iexact Hr
    iexact HO
  iintro ⟨Hg, HO⟩
  rw [show (pure PUnit.unit : Prog (TpuEff nD τ sig (Elt F) Λ₀ (c : Thread nD τ).2) PUnit) = .ret PUnit.unit from rfl, wp_ret]
  imodintro
  iapply Hk
  isplitl [Hfly]; · iexact Hfly
  isplitl [N0]; · iexact N0
  isplitl [N1]; · iexact N1
  isplitl [Hg]; · iexact Hg
  iexact HO

end Prologue

end Cert.KernelIdeal.RingMM

end
-- ==== Proof.Finish.lean ====
/-
  Before and after the protocol: the buffers split into slots and put together again, the rings' cells opened from their
  counters and closed, the result split into the devices' rows and put together again.
-/
module

public import proofs.«01_k».proof.Proof.Prologue

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-! ## The communication buffers -/

section Slots
variable (c : Dev nD) (d : Bool)

/-- A whole communication buffer. -/
def com : sProp 𝕄 := iprop(∃ f, comL d c ↦[Finset.univ]{fullShare} f)

theorem three (Φ : Fin 3 → sProp 𝕄) : bigSep Finset.univ Φ = iprop(Φ (sl 0) ∗ Φ (sl 1) ∗ Φ (sl 2)) :=
  bigSep_univ_eq_bigSepL [sl 0, sl 1, sl 2] (by decide) (by decide) Φ

theorem com_split : com (F := F) c d ⊢ iprop(slotA (c, d, sl 0) ∗ slotA (c, d, sl 1) ∗ slotA (c, d, sl 2)) := by
  unfold com slotA Release.slot
  iintro ⟨%f, H⟩
  ihave H := (Entails.of_eq (show ((comL d c ↦[Finset.univ]{fullShare} f) : sProp 𝕄)
      = iprop((comL d c ↦[sS d c (sl 0)]{fullShare} f) ∗ (comL d c ↦[sS d c (sl 1)]{fullShare} f) ∗ (comL d c ↦[sS d c (sl 2)]{fullShare} f)) from by
    rw [← sS_univ d c, pointsTo_biUnion _ _ (fun s _ s' _ h => sS_disj d c h)]
    exact three _)) $$ H
  icases H with ⟨H0, H1, H2⟩
  isplitl [H0]; · iexists f; iexact H0
  isplitl [H1]; · iexists f; iexact H1
  iexists f; iexact H2

theorem com_join : iprop(slotA (F := F) (c, d, sl 0) ∗ slotA (c, d, sl 1) ∗ slotA (c, d, sl 2)) ⊢ com c d := by
  unfold com slotA Release.slot
  iintro ⟨⟨%f0, H0⟩, ⟨%f1, H1⟩, ⟨%f2, H2⟩⟩
  ihave H := (pointsTo_biUnion_join (Val := Elt F) (ℓ := comL d c) (q := fullShare) Finset.univ (sS d c) (fun s : Fin 3 => if s = sl 0 then f0 else if s = sl 1 then f1 else f2) f0 (fun s _ s' _ h => sS_disj d c h)) $$ [H0 H1 H2]
  · rw [three]
    rw [if_pos rfl, if_neg (show sl 1 ≠ sl 0 by decide), if_pos rfl, if_neg (show sl 2 ≠ sl 0 by decide), if_neg (show sl 2 ≠ sl 1 by decide)]
    isplitl [H0]; · iexact H0
    isplitl [H1]; · iexact H1
    iexact H2
  icases H with ⟨%g, -, H⟩
  rw [sS_univ]
  iexists g; iexact H

theorem kept_join : kept (F := F) c d (NT d + 3) ⊢ com c d := by
  unfold kept
  rw [bigSep_Ico_succ_bot (show NT d < NT d + 3 by omega), bigSep_Ico_succ_bot (show NT d + 1 < NT d + 3 by omega), bigSep_Ico_succ_bot (show NT d + 1 + 1 < NT d + 3 by omega)]
  refine BIBase.Entails.trans ?_ (com_join c d)
  cases d
  · rw [show sl (NT false + 1) = sl 2 from rfl, show sl (NT false + 1 + 1) = sl 0 from rfl, show sl (NT false + 1 + 1 + 1) = sl 1 from rfl]
    iintro ⟨H2, H0, H1, -⟩
    isplitl [H0]; · iexact H0
    isplitl [H1]; · iexact H1
    iexact H2
  · rw [show sl (NT true + 1) = sl 1 from rfl, show sl (NT true + 1 + 1) = sl 2 from rfl, show sl (NT true + 1 + 1 + 1) = sl 0 from rfl]
    iintro ⟨H1, H2, H0, -⟩
    isplitl [H0]; · iexact H0
    isplitl [H1]; · iexact H1
    iexact H2
end Slots

/-! ## The cells -/

section Cells
variable (A : Dev nD → S1536x768.Idx → Elt F .bf16) (c : Dev nD) (d : Bool)
variable {K : GSem nD τ sig → ℕ} {κ : Key → ℕ}

/-- The counters of a direction's transfers' cells of half `b`, at zero. -/
def cnt (b : Fin 2) : sProp 𝕄 :=
  iprop((semVal (recvC c d 0 b) 0 ∗ semVal (recvC c d 1 b) 0 ∗ semVal (recvC c d 2 b) 0) ∗ semVal (sendC c d 0 b) 0 ∗ semVal (sendC c d 1 b) 0 ∗ semVal (sendC c d 2 b) 0)
/-- All the counters of a direction. -/
def cnts : sProp 𝕄 := iprop(cnt c d 0 ∗ cnt c d 1 ∗ semVal (credC c d) 0)
/-- The rights to open them. -/
def opn (b : Fin 2) : sProp 𝕄 :=
  iprop((openTok ER (recvC c d 0 b) ∗ openTok ER (recvC c d 1 b) ∗ openTok ER (recvC c d 2 b)) ∗ openTok ER (sendC c d 0 b) ∗ openTok ER (sendC c d 1 b) ∗ openTok ER (sendC c d 2 b))
def opns : sProp 𝕄 := iprop(opn c d 0 ∗ opn c d 1 ∗ openTok ER (credC c d))

theorem enter (g : GSem nD τ sig) (h : g ∈ ringCells) :
    iprop(ctx A K κ ∗ openTok ER g ∗ semVal g 0) ⊢ (|={Set.univ}=> (atPos ER g 0 ∅ 0 ∗ reached ER g 0) : sProp 𝕄) := by
  iintro ⟨#Hc, Ho, Hv⟩
  ihave #HI := (ctx_cell A g h) $$ Hc
  imod (Rounds.cell_open ER (sched A) (g := g) (Set.mem_univ (K g))) $$ [Ho Hv] with ⟨Hat, Hr⟩
  · isplitl []; · iexact HI
    isplitl [Ho]; · iexact Ho
    iexact Hv
  imodintro
  isplitl [Hat]; · iexact Hat
  iexact Hr

theorem rcvAt_first (b : Fin 2) : (rcvAt (F := F) c d b 0 = iprop(atPos ER (recvC c d 0 b) 0 ∅ 0 ∗ reached ER (recvC c d 0 b) 0))
    ∧ (rcvAt (F := F) c d b 1 = iprop(atPos ER (recvC c d 1 b) 0 ∅ 0 ∗ reached ER (recvC c d 1 b) 0))
    ∧ (rcvAt (F := F) c d b 2 = iprop(atPos ER (recvC c d 2 b) 0 ∅ 0 ∗ reached ER (recvC c d 2 b) 0)) := ⟨rfl, rfl, rfl⟩
theorem sndAt_first (b : Fin 2) : (sndAt (F := F) c d b 0 = iprop(atPos ER (sendC c d 0 b) 0 ∅ 0 ∗ reached ER (sendC c d 0 b) 0))
    ∧ (sndAt (F := F) c d b 1 = iprop(atPos ER (sendC c d 1 b) 0 ∅ 0 ∗ reached ER (sendC c d 1 b) 0))
    ∧ (sndAt (F := F) c d b 2 = iprop(atPos ER (sendC c d 2 b) 0 ∅ 0 ∗ reached ER (sendC c d 2 b) 0)) := ⟨rfl, rfl, rfl⟩

theorem enter_half (b : Fin 2) : iprop(ctx A K κ ∗ opn c d b ∗ cnt c d b)
    ⊢ (|={Set.univ}=> ((rcvAt c d b 0 ∗ rcvAt c d b 1 ∗ rcvAt c d b 2) ∗ sndAt c d b 0 ∗ sndAt c d b 1 ∗ sndAt c d b 2) : sProp 𝕄) := by
  obtain ⟨r0, r1, r2⟩ := rcvAt_first (F := F) c d b
  obtain ⟨s0, s1, s2⟩ := sndAt_first (F := F) c d b
  rw [r0, r1, r2, s0, s1, s2]
  unfold opn cnt
  iintro ⟨#Hc, ⟨⟨R0, R1, R2⟩, S0, S1, S2⟩, ⟨V0, V1, V2⟩, U0, U1, U2⟩
  imod (enter A (recvC c d 0 b) (recvC_mem c d 0 b)) $$ [R0 V0] with R0
  · isplitl []; · iexact Hc
    isplitl [R0]; · iexact R0
    iexact V0
  imod (enter A (recvC c d 1 b) (recvC_mem c d 1 b)) $$ [R1 V1] with R1
  · isplitl []; · iexact Hc
    isplitl [R1]; · iexact R1
    iexact V1
  imod (enter A (recvC c d 2 b) (recvC_mem c d 2 b)) $$ [R2 V2] with R2
  · isplitl []; · iexact Hc
    isplitl [R2]; · iexact R2
    iexact V2
  imod (enter A (sendC c d 0 b) (sendC_mem c d 0 b)) $$ [S0 U0] with S0
  · isplitl []; · iexact Hc
    isplitl [S0]; · iexact S0
    iexact U0
  imod (enter A (sendC c d 1 b) (sendC_mem c d 1 b)) $$ [S1 U1] with S1
  · isplitl []; · iexact Hc
    isplitl [S1]; · iexact S1
    iexact U1
  imod (enter A (sendC c d 2 b) (sendC_mem c d 2 b)) $$ [S2 U2] with S2
  · isplitl []; · iexact Hc
    isplitl [S2]; · iexact S2
    iexact U2
  imodintro
  isplitl [R0 R1 R2]
  · isplitl [R0]; · iexact R0
    isplitl [R1]; · iexact R1
    iexact R2
  isplitl [S0]; · iexact S0
  isplitl [S1]; · iexact S1
  iexact S2

theorem leave (g : GSem nD τ sig) (h : g ∈ ringCells) {R : ℕ} (hR : ∀ r, R ≤ r → (sched A).duties g r = ∅) :
    iprop(ctx A K κ ∗ atPos ER g R ∅ 0) ⊢ (|={Set.univ}=> semVal g 0 : sProp 𝕄) := by
  iintro ⟨#Hc, Hat⟩
  ihave #HI := (ctx_cell A g h) $$ Hc
  iapply (Rounds.cell_close ER (sched A) (g := g) (Set.mem_univ (K g)) id hR)
  isplitl []; · iexact HI
  iexact Hat

theorem rcv_leave (b : Fin 2) (k : ℕ) (h : NT d ≤ k) : iprop(ctx A K κ ∗ rcvAt c d b k) ⊢ (|={Set.univ}=> semVal (recvC c d k b) 0 : sProp 𝕄) := by
  unfold rcvAt
  iintro ⟨#Hc, Hat, -⟩
  iapply (leave A (recvC c d k b) (recvC_mem c d k b) (duties_recv_later A c d k b h))
  isplitl []; · iexact Hc
  iexact Hat
theorem snd_leave (b : Fin 2) (k : ℕ) (h : NT d ≤ k) : iprop(ctx A K κ ∗ sndAt c d b k) ⊢ (|={Set.univ}=> semVal (sendC c d k b) 0 : sProp 𝕄) := by
  unfold sndAt
  iintro ⟨#Hc, Hat, -⟩
  iapply (leave A (sendC c d k b) (sendC_mem c d k b) (duties_send_later A c d k b h))
  isplitl []; · iexact Hc
  iexact Hat
theorem crd_leave : iprop(ctx A K κ ∗ crdSt c d (NT d)) ⊢ (|={Set.univ}=> semVal (credC c d) 0 : sProp 𝕄) := by
  unfold crdSt
  iintro ⟨#Hc, ⟨%T, %hT, Hat, -⟩⟩
  ihave #HI := (ctx_cell A (credC c d) (reg_mem c _)) $$ Hc
  imod (Rounds.fupd_skip ER (sched A) (κ := K (credC c d)) (g := credC c d) (R := 0) (m := NT d) (T := T) (by
      rw [duties_cred]
      exact (Finset.eq_of_subset_of_card_le hT.1 (by rw [Finset.card_range]; exact hT.2)).symm.subset) (expect_cred A c d).symm (Set.mem_univ _)) $$ [Hat] with ⟨Hat, -⟩
  · isplitl []; · iexact HI
    iexact Hat
  iapply (leave A (credC c d) (reg_mem c _) (duties_cred_later A c d))
  isplitl []; · iexact Hc
  iexact Hat
theorem bar_leave : iprop(ctx A K κ ∗ atPos ER (barC c) 1 ∅ 0) ⊢ (|={Set.univ}=> semVal (barC c) 0 : sProp 𝕄) :=
  leave A (barC c) (reg_mem c _) (duties_bar_later A c)

/-- The counters from three successive transfers' cells, whichever is the first. -/
theorem cnt_of (b : Fin 2) : iprop((semVal (recvC c d (NT d) b) 0 ∗ semVal (recvC c d (NT d + 1) b) 0 ∗ semVal (recvC c d (NT d + 2) b) 0)
      ∗ semVal (sendC c d (NT d) b) 0 ∗ semVal (sendC c d (NT d + 1) b) 0 ∗ semVal (sendC c d (NT d + 2) b) 0) ⊢ (cnt c d b : sProp 𝕄) := by
  unfold cnt
  cases d
  · rw [show recvC c false (NT false) b = recvC c false 1 b from rfl, show recvC c false (NT false + 1) b = recvC c false 2 b from rfl,
      show recvC c false (NT false + 2) b = recvC c false 0 b from rfl, show sendC c false (NT false) b = sendC c false 1 b from rfl,
      show sendC c false (NT false + 1) b = sendC c false 2 b from rfl, show sendC c false (NT false + 2) b = sendC c false 0 b from rfl]
    iintro ⟨⟨R1, R2, R0⟩, S1, S2, S0⟩
    isplitl [R0 R1 R2]
    · isplitl [R0]; · iexact R0
      isplitl [R1]; · iexact R1
      iexact R2
    isplitl [S0]; · iexact S0
    isplitl [S1]; · iexact S1
    iexact S2
  · rw [show recvC c true (NT true) b = recvC c true 0 b from rfl, show recvC c true (NT true + 1) b = recvC c true 1 b from rfl,
      show recvC c true (NT true + 2) b = recvC c true 2 b from rfl, show sendC c true (NT true) b = sendC c true 0 b from rfl,
      show sendC c true (NT true + 1) b = sendC c true 1 b from rfl, show sendC c true (NT true + 2) b = sendC c true 2 b from rfl]

theorem leave_half (b : Fin 2) : iprop(ctx A K κ ∗ rcvSt c d b (NT d) ∗ sndSt c d b (NT d)) ⊢ (|={Set.univ}=> cnt c d b : sProp 𝕄) := by
  refine BIBase.Entails.trans ?_ (fupd_mono (cnt_of c d b))
  unfold rcvSt sndSt
  iintro ⟨#Hc, ⟨R0, R1, R2, -⟩, S0, S1, S2⟩
  imod (rcv_leave A c d b (NT d) (by omega)) $$ [R0] with R0
  · isplitl []; · iexact Hc
    iexact R0
  imod (snd_leave A c d b (NT d) (by omega)) $$ [S0] with S0
  · isplitl []; · iexact Hc
    iexact S0
  imod (rcv_leave A c d b (NT d + 1) (by omega)) $$ [R1] with R1
  · isplitl []; · iexact Hc
    iexact R1
  imod (snd_leave A c d b (NT d + 1) (by omega)) $$ [S1] with S1
  · isplitl []; · iexact Hc
    iexact S1
  imod (rcv_leave A c d b (NT d + 2) (by omega)) $$ [R2] with R2
  · isplitl []; · iexact Hc
    iexact R2
  imod (snd_leave A c d b (NT d + 2) (by omega)) $$ [S2] with S2
  · isplitl []; · iexact Hc
    iexact S2
  imodintro
  isplitl [R0 R1 R2]
  · isplitl [R0]; · iexact R0
    isplitl [R1]; · iexact R1
    iexact R2
  isplitl [S0]; · iexact S0
  isplitl [S1]; · iexact S1
  iexact S2

/-- All of a direction's transfers done, its counters come back at zero and its buffer whole. -/
theorem RS_leave : iprop(ctx A K κ ∗ RS c d (NT d)) ⊢ (|={Set.univ}=> (cnts c d ∗ com c d) : sProp 𝕄) := by
  unfold RS P1 P2 P3 cnts
  rw [mn_ge (show NT d ≤ NT d + 1 by omega)]
  iintro ⟨#Hc, ⟨R0, Cr, -, S0, -⟩, ⟨R1, S1, -⟩, -, Hk⟩
  imod (leave_half A c d 0) $$ [R0 S0] with H0
  · isplitl []; · iexact Hc
    isplitl [R0]; · iexact R0
    iexact S0
  imod (leave_half A c d 1) $$ [R1 S1] with H1
  · isplitl []; · iexact Hc
    isplitl [R1]; · iexact R1
    iexact S1
  imod (crd_leave A c d) $$ [Cr] with Cr
  · isplitl []; · iexact Hc
    iexact Cr
  imodintro
  isplitr [Hk]
  · isplitl [H0]; · iexact H0
    isplitl [H1]; · iexact H1
    iexact Cr
  iapply (kept_join c d)
  iexact Hk

/-- What a core holds of a direction before the first transfer, its buffer apart. -/
def Dir : sProp 𝕄 :=
  iprop((rcvSt c d 0 0 ∗ rcvSt c d 1 0) ∗ (sndSt c d 0 0 ∗ sndTk c d 0 0) ∗ (sndSt c d 1 0 ∗ sndTk c d 1 0) ∗ crdSt c d 0 ∗ wrSt c d 0 ∗ grPre c d)
/-- What it holds of it from the launch. -/
def DirG : sProp 𝕄 :=
  iprop(opns c d ∗ (sndTk c d 0 0 ∗ sndTk c d 1 0) ∗ wrSt c d 0 ∗ grPre c d
    ∗ (bigSep (Finset.Ico 0 (NT d)) (fun j => cred (tallyAt (recvC c d j 0) j NH)) ∗ bigSep (Finset.Ico 0 (NT d)) (fun j => cred (tallyAt (recvC c d j 1) j NH))
      ∗ bigSep (Finset.Ico 0 (NT d)) (fun j => cred (tallyAt (credC c d) j 1))))

theorem crd_enter : iprop(ctx A K κ ∗ openTok ER (credC c d) ∗ semVal (credC c d) 0 ∗ bigSep (Finset.Ico 0 (NT d)) (fun j => cred (tallyAt (credC c d) j 1)))
    ⊢ (|={Set.univ}=> (crdSt c d 0 ∗ reached ER (credC c d) 0) : sProp 𝕄) := by
  iintro ⟨#Hc, Ho, Hv, Hb⟩
  imod (enter A (credC c d) (reg_mem c _)) $$ [Ho Hv] with ⟨Hat, Hr⟩
  · isplitl []; · iexact Hc
    isplitl [Ho]; · iexact Ho
    iexact Hv
  imodintro
  isplitr [Hr]
  · unfold crdSt
    iexists (∅ : Finset ℕ)
    isplitl []; · ipureintro; exact ⟨Finset.empty_subset _, Nat.zero_le _⟩
    isplitl [Hat]; · iexact Hat
    rw [bigSep_empty]
    isplitl []; · iempintro
    iexact Hb
  iexact Hr

/-- The kernel's own counters open a direction's cells. -/
theorem Dir_enter : iprop(ctx A K κ ∗ DirG c d ∗ cnts c d) ⊢ (|={Set.univ}=> (Dir c d ∗ reached ER (credC c d) 0) : sProp 𝕄) := by
  unfold DirG opns cnts Dir
  iintro ⟨#Hc, ⟨⟨O0, O1, OC⟩, ⟨T0, T1⟩, Hw, Hg, B0, B1, BC⟩, C0, C1, CC⟩
  imod (enter_half A c d 0) $$ [O0 C0] with ⟨R0, S0⟩
  · isplitl []; · iexact Hc
    isplitl [O0]; · iexact O0
    iexact C0
  imod (enter_half A c d 1) $$ [O1 C1] with ⟨R1, S1⟩
  · isplitl []; · iexact Hc
    isplitl [O1]; · iexact O1
    iexact C1
  imod (crd_enter A c d) $$ [OC CC BC] with ⟨HC, Hr⟩
  · isplitl []; · iexact Hc
    isplitl [OC]; · iexact OC
    isplitl [CC]; · iexact CC
    iexact BC
  imodintro
  isplitr [Hr]
  · unfold rcvSt sndSt
    icases R0 with ⟨R00, R01, R02⟩
    icases R1 with ⟨R10, R11, R12⟩
    isplitl [R00 R01 R02 R10 R11 R12 B0 B1]
    · isplitl [R00 R01 R02 B0]
      · isplitl [R00]; · iexact R00
        isplitl [R01]; · iexact R01
        isplitl [R02]; · iexact R02
        iexact B0
      isplitl [R10]; · iexact R10
      isplitl [R11]; · iexact R11
      isplitl [R12]; · iexact R12
      iexact B1
    isplitl [S0 T0]
    · isplitl [S0]; · iexact S0
      iexact T0
    isplitl [S1 T1]
    · isplitl [S1]; · iexact S1
      iexact T1
    isplitl [HC]; · iexact HC
    isplitl [Hw]; · iexact Hw
    iexact Hg
  iexact Hr
end Cells

/-! ## The result -/

section Result
variable (W : Dev nD → S1536x1536.Idx → Elt F .bf16) (c : Dev nD)

theorem all_mono {I : Type} [DecidableEq I] {s : Finset I} {Φ Ψ : I → sProp 𝕄} (h : ∀ i, Φ i ⊢ Ψ i) : bigSep s Φ ⊢ bigSep s Ψ := bigSep_mono fun i _ => h i

/-- All devices, by the direction and the number of transfers after which their block is at `c`. -/
theorem devs_eq : (Finset.univ : Finset (Dev nD)) = (Finset.Ico 0 17).image (fun k => og false k c) ∪ (Finset.Ico 1 16).image (fun k => og true k c) := by
  ext x
  simp only [Finset.mem_univ, Finset.mem_union, Finset.mem_image, true_iff]
  exact og_cover c x
theorem devs_split (Φ : Dev nD → sProp 𝕄) :
    bigSep Finset.univ Φ = iprop(bigSep (Finset.Ico 0 17) (fun k => Φ (og false k c)) ∗ bigSep (Finset.Ico 1 16) (fun k => Φ (og true k c))) := by
  rw [devs_eq c, BI.bigSep_union, ← Finset.biUnion_singleton, ← Finset.biUnion_singleton, BI.bigSep_biUnion_eq, BI.bigSep_biUnion_eq]
  · simp only [BI.bigSep_singleton]; rfl
  · intro j hj k hk h
    rw [Finset.disjoint_singleton]
    rw [Finset.mem_Ico] at hj hk
    exact fun e => h (og_inj c true j (Finset.mem_Ico.2 (by omega)) k (Finset.mem_Ico.2 (by omega)) e)
  · intro j hj k hk h
    rw [Finset.disjoint_singleton]
    exact fun e => h (og_inj c false j hj k hk e)
  · rw [Finset.disjoint_left]
    intro x h h'
    obtain ⟨j, hj, rfl⟩ := Finset.mem_image.1 h
    obtain ⟨k, hk, e⟩ := Finset.mem_image.1 h'
    exact og_disj c j hj k hk e.symm

theorem out_whole (f : Buf (Elt F) (outL c)) : (outL c ↦[Finset.univ]{fullShare} f : sProp 𝕄) = bigSep Finset.univ (fun x => (outL c ↦[oS c x]{fullShare} f : sProp 𝕄)) := by
  rw [← oS_univ c, pointsTo_biUnion _ _ (fun x _ y _ h => oS_disj c h)]

theorem out_split : iprop(∃ f, outL c ↦[Finset.univ]{fullShare} f)
    ⊢ (iprop(outAny c c ∗ bigSep (Finset.Ico 1 17) (fun j => outAny c (og false j c)) ∗ bigSep (Finset.Ico 1 16) (fun j => outAny c (og true j c))) : sProp 𝕄) := by
  iintro ⟨%f, H⟩
  ihave H := (Entails.of_eq (show (outL c ↦[Finset.univ]{fullShare} f : sProp 𝕄)
      = iprop(((outL c ↦[oS c (og false 0 c)]{fullShare} f) ∗ bigSep (Finset.Ico 1 17) (fun j => (outL c ↦[oS c (og false j c)]{fullShare} f : sProp 𝕄)))
        ∗ bigSep (Finset.Ico 1 16) (fun j => (outL c ↦[oS c (og true j c)]{fullShare} f : sProp 𝕄))) from by
    rw [out_whole, devs_split c, bigSep_Ico_succ_bot (show 0 < 17 by norm_num)])) $$ H
  have e : ∀ x, (outL c ↦[oS c x]{fullShare} f : sProp 𝕄) ⊢ outAny c x := fun x => by
    unfold outAny; iintro H; iexists f; iexact H
  icases H with ⟨⟨H0, H1⟩, H2⟩
  isplitl [H0]; · iapply (e c); iexact H0
  isplitl [H1]; · iapply (all_mono (fun j => e (og false j c))); iexact H1
  iapply (all_mono (fun j => e (og true j c))); iexact H2

theorem out_join : iprop(bigSep (Finset.Ico 0 17) (fun j => outAt W c (og false j c)) ∗ bigSep (Finset.Ico 1 16) (fun j => outAt W c (og true j c)))
    ⊢ (outL c ↦[Finset.univ]{fullShare} Fout W c : sProp 𝕄) :=
  Entails.of_eq ((devs_split c (fun x => (outL c ↦[oS c x]{fullShare} Fout W c : sProp 𝕄))).symm.trans (out_whole c _).symm)
end Result

end Cert.KernelIdeal.RingMM

end
-- ==== Proof.Body.lean ====
/-
  The kernel's body, whole.
-/
module

public import proofs.«01_k».proof.Proof.Finish

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

section Body
variable (A : Dev nD → S1536x768.Idx → Elt F .bf16) (W : Dev nD → S1536x1536.Idx → Elt F .bf16)
variable {defs : Defs nD τ sig (Elt F) Λ₀} (𝒱 : Variants) (c : Dev nD) (bd : Option 𝒱.V)
variable {K : GSem nD τ sig → ℕ} {κ : Key → ℕ}

/-- The loop: sixteen trips. -/
theorem loop_run (hw1 : k0_chk1 (wd (nx true c))) (hw2 : k0_chk2 (wd (nx false c))) (v2 : BitVec 32) (v19 : FVec F S768x1536 .bf16)
    (hW : ∀ x, W x = Gen.k0_pay2 v19 (slotVal (A x))) {Q : PUnit → sProp (MT nD τ sig ℕ (Elt F) ℕ UU ℕ)} :
    Inv A W c K κ 0
      ⊢ iprop((Inv A W c K κ 16 -∗ Q ⟨⟩)
        -∗ wp frame (wpE defs 𝒱 (c : Thread nD τ) bd) Set.univ (Scf.Loop.for k0_t1_loop k0_t1_ok ⟨⟩ (Gen.k0_t1_body (Memref.whole cc0_stg0_0) (Memref.isWhole_whole _) (Memref.whole cc0_stg1_0) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 (wd (nx true c)) hw1 (wd (nx false c)) hw2 v19)) Q) := by
  unfold Scf.Loop.for
  have hbody : ∀ (k : Fin k0_t1_loop.trips) (acc : PUnit), Inv A W c K κ k.val
      ⊢ wp frame (wpE defs 𝒱 (c : Thread nD τ) bd) Set.univ (Gen.k0_t1_body (Memref.whole cc0_stg0_0) (Memref.isWhole_whole _) (Memref.whole cc0_stg1_0) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 (wd (nx true c)) hw1 (wd (nx false c)) hw2 v19 k acc) (fun _ => Inv A W c K κ (k.val + 1)) := fun k acc => by
    have := lt16 k
    rcases Nat.lt_or_ge k.val 15 with h | h
    · exact trip_lt A W 𝒱 c bd _ _ rfl rfl hw1 hw2 k h v2 v19 hW acc
    · exact trip_last A W 𝒱 c bd _ _ rfl rfl hw1 hw2 k (by omega) v2 v19 hW acc
  iintro HI Hk
  iapply (Scf.wp_for frame (wpE defs 𝒱 (c : Thread nD τ) bd) Set.univ _ _ _ k0_t1_ok ⟨⟩ _ (fun t _ => Inv A W c K κ t) hbody)
  isplitl [HI]; · iexact HI
  iintro %acc HI
  iapply Hk
  ihave HI := (Entails.of_eq (show Inv A W c K κ k0_t1_loop.trips = Inv A W c K κ 16 from by rw [trips_eq])) $$ HI
  iexact HI

/-- What a core holds once its prologue is done makes the state before the first trip. -/
theorem Inv_start :
    iprop(ctx A K κ
        ∗ ((rcvSt c false 0 0 ∗ rcvSt c false 1 0) ∗ crdSt c false 1 ∗ wrSt c false 1 ∗ (sndSt c false 0 1 ∗ sndTk c false 0 1) ∗ (sndSt c false 1 1 ∗ sndTk c false 1 1) ∗ grSt c false 3)
        ∗ ((rcvSt c true 0 0 ∗ rcvSt c true 1 0) ∗ crdSt c true 1 ∗ wrSt c true 1 ∗ (sndSt c true 0 1 ∗ sndTk c true 0 1) ∗ (sndSt c true 1 1 ∗ sndTk c true 1 1) ∗ grSt c true 3)
        ∗ (fly W c false c ∗ bigSep (Finset.Ico 1 17) (fun j => outAny c (og false j c)))
        ∗ ((stgAny c true ∗ semVal ((c : Thread nD τ), SemLoc.dma (stgS true)) 0) ∗ bigSep (Finset.Ico 1 16) (fun j => outAny c (og true j c)))
        ∗ tabPt c ∗ owing c (OO c 3 3 1 1 1 1)) ⊢ Inv A W c K κ 0 := by
  have k0 : ∀ d, kept (F := F) c d (0 + 3) = iprop(emp) := fun d => by
    unfold kept; rw [Finset.Ico_eq_empty (by have := NT_ge d; omega), bigSep_empty]; rfl
  have m1 : ∀ d, mn d (0 + 1) = 1 := fun d => mn_le (by have := NT_ge d; omega)
  have m3 : ∀ d, mn d (0 + 3) = 3 := fun d => mn_le (by have := NT_ge d; omega)
  unfold Inv RS P1 P2 P3 LF LT SL
  rw [k0 false, m1 false, m3 false, show min 0 15 = 0 from rfl, k0 true, m1 true, m3 true, if_pos rfl, Finset.range_zero, bigSep_empty, Finset.Ico_eq_empty (by omega : ¬ 1 < 0), bigSep_empty]
  iintro ⟨#Hc, ⟨⟨R0, R1⟩, C, Wr, ⟨S0, T0⟩, ⟨S1, T1⟩, G⟩, ⟨⟨U0, U1⟩, D, Wt, ⟨V0, X0⟩, ⟨V1, X1⟩, J⟩, ⟨Hf, Ho⟩, ⟨Hs, Hp⟩, Ht, HO⟩
  isplitl []; · iexact Hc
  isplitl [R0 C Wr S0 T0 R1 S1 T1 G]
  · isplitl [R0 C Wr S0 T0]
    · isplitl [R0]; · iexact R0
      isplitl [C]; · iexact C
      isplitl [Wr]; · iexact Wr
      isplitl [S0]; · iexact S0
      iexact T0
    isplitl [R1 S1 T1]
    · isplitl [R1]; · iexact R1
      isplitl [S1]; · iexact S1
      iexact T1
    isplitl [G]; · iexact G
    iempintro
  isplitl [U0 D Wt V0 X0 U1 V1 X1 J]
  · isplitl [U0 D Wt V0 X0]
    · isplitl [U0]; · iexact U0
      isplitl [D]; · iexact D
      isplitl [Wt]; · iexact Wt
      isplitl [V0]; · iexact V0
      iexact X0
    isplitl [U1 V1 X1]
    · isplitl [U1]; · iexact U1
      isplitl [V1]; · iexact V1
      iexact X1
    isplitl [J]; · iexact J
    iempintro
  isplitl [Hf Ho]
  · isplitl [Hf]; · iexact Hf
    isplitl []; · iempintro
    iexact Ho
  isplitl [Hs Hp]
  · isplitl [Hs]; · iexact Hs
    isplitl []; · iempintro
    iexact Hp
  isplitl [Ht]; · iexact Ht
  iexact HO

/-- After the last trip nothing is owed. -/
theorem OO_end : OO c (16 + 3) (16 + 3) (16 + 1) (16 + 1) (16 + 1) (16 + 1) = 0 := by
  unfold OO
  rw [OG_done false c (k := 16 + 3) (by decide), OG_done true c (k := 16 + 3) (by decide), OT_done false 0 c (k := 16 + 1) (by decide), OT_done false 1 c (k := 16 + 1) (by decide),
    OT_done true 0 c (k := 16 + 1) (by decide), OT_done true 1 c (k := 16 + 1) (by decide)]
  simp

theorem LF_end : (LF W c 16 : sProp 𝕄) ⊢ iprop(fly W c false (og false 16 c) ∗ bigSep (Finset.range 16) (fun j => outAt W c (og false j c))) := by
  unfold LF
  iintro ⟨H, H', -⟩
  isplitl [H]; · iexact H
  iexact H'
theorem LT_end : (LT W c 15 : sProp 𝕄) ⊢ iprop(fly W c true (og true 15 c) ∗ bigSep (Finset.Ico 1 15) (fun j => outAt W c (og true j c))) := by
  unfold LT SL
  rw [if_neg (by decide)]
  iintro ⟨H, H', -⟩
  isplitl [H]; · iexact H
  iexact H'

theorem out_end : iprop((outAt W c (og false 16 c) ∗ bigSep (Finset.range 16) (fun j => outAt W c (og false j c)))
      ∗ outAt W c (og true 15 c) ∗ bigSep (Finset.Ico 1 15) (fun j => outAt W c (og true j c))) ⊢ (outL c ↦[Finset.univ]{fullShare} Fout W c : sProp 𝕄) := by
  refine BIBase.Entails.trans ?_ (out_join W c)
  rw [bigSep_Ico_succ_top (show 0 ≤ 16 by omega), bigSep_Ico_succ_top (show 1 ≤ 15 by omega), Finset.range_eq_Ico]

/-- What a core holds when the body ends. -/
def After (Bm : S768x1536.Idx → Elt F .bf16) : sProp 𝕄 :=
  iprop(semVal (barC c) 0 ∗ (cnts c false ∗ com c false) ∗ (cnts c true ∗ com c true)
    ∗ (stgAny c false ∗ semVal ((c : Thread nD τ), SemLoc.dma (stgS false)) 0) ∗ (stgAny c true ∗ semVal ((c : Thread nD τ), SemLoc.dma (stgS true)) 0)
    ∗ tabPt c ∗ aPt c (A c) ∗ bPt c Bm ∗ (outL c ↦[Finset.univ]{fullShare} Fout W c) ∗ owing c 0)
/-- What it holds when the body starts. -/
def Before (Bm : S768x1536.Idx → Elt F .bf16) (K : GSem nD τ sig → ℕ) (κ : Key → ℕ) : sProp 𝕄 :=
  iprop(ctx A K κ ∗ barSt c ∗ (Dir c false ∗ com c false) ∗ (Dir c true ∗ com c true)
    ∗ (stgAny c false ∗ semVal ((c : Thread nD τ), SemLoc.dma (stgS false)) 0) ∗ (stgAny c true ∗ semVal ((c : Thread nD τ), SemLoc.dma (stgS true)) 0)
    ∗ tabPt c ∗ aPt c (A c) ∗ bPt c Bm ∗ (∃ f, outL c ↦[Finset.univ]{fullShare} f) ∗ owing c (OI c))

set_option maxHeartbeats 8000000 in
/-- The body of the kernel: every device's block times the second argument ends in the result, and every counter is at zero. -/
theorem body_run (Bm : S768x1536.Idx → Elt F .bf16) (hW : ∀ x, W x = Gen.k0_pay2 (Gen.k0_pay3 Bm) (slotVal (A x))) {Q : PUnit → sProp (MT nD τ sig ℕ (Elt F) ℕ UU ℕ)} :
    Before A c Bm K κ ⊢ iprop((After A W c Bm -∗ Q ⟨⟩) -∗ wp frame (wpE defs 𝒱 (c : Thread nD τ) bd) Set.univ (cc0_body (Memref.whole cc0_stg0_0) (Memref.isWhole_whole _) (Memref.whole cc0_stg1_0) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11) Q) := by
  rw [Gen.cc0_body_eq_skeleton]
  unfold Gen.cc0_body_skel Before Dir
  simp only [wp_bind]
  iintro ⟨#Hc, Hbar, ⟨⟨HRf, Sf0, Sf1, Cf, Wf, Gf⟩, Bf⟩, ⟨⟨HRt, St0, St1, Ct, Wt, Gt⟩, Bt⟩, ⟨Pf, Zf⟩, ⟨Pt, Zt⟩, Htab, Ha, Hb, Hout, HO⟩ Hk
  ihave HRf := (rch_open c false) $$ HRf
  icases HRf with ⟨#Rf, HRf⟩
  ihave HRt := (rch_open c true) $$ HRt
  icases HRt with ⟨#Rt, HRt⟩
  ihave Bf := (com_split c false) $$ Bf
  icases Bf with ⟨Bf0, Bf1, Bf2⟩
  ihave Bt := (com_split c true) $$ Bt
  icases Bt with ⟨Bt0, Bt1, Bt2⟩
  ihave Hout := (out_split c) $$ Hout
  icases Hout with ⟨Ho, Hof, Hot⟩
  iapply (part3_run A 𝒱 c bd Bm) $$ [Hbar Gf Bf1 Bf2 Gt Bt1 Bt2 Htab Ha Hb HO]
  · isplitl []; · iexact Hc
    isplitl [Hbar]; · iexact Hbar
    isplitl [Gf Bf1 Bf2]
    · isplitl [Gf]; · iexact Gf
      isplitl []; · iexact Rf
      isplitl [Bf1]; · iexact Bf1
      iexact Bf2
    isplitl [Gt Bt1 Bt2]
    · isplitl [Gt]; · iexact Gt
      isplitl []; · iexact Rt
      isplitl [Bt1]; · iexact Bt1
      iexact Bt2
    isplitl [Htab]; · iexact Htab
    isplitl [Ha]; · iexact Ha
    isplitl [Hb]; · iexact Hb
    iexact HO
  iintro %v2 %hw1 %hw2 ⟨Hat, Gf, Gt, Htab, Ha, Hb, HO⟩
  dsimp only
  icases Sf0 with ⟨Sf0, Tf0⟩
  icases Sf1 with ⟨Sf1, Tf1⟩
  icases St0 with ⟨St0, Tt0⟩
  icases St1 with ⟨St1, Tt1⟩
  iapply (part4_run A 𝒱 c bd hw2) $$ [Bf0 Cf Wf Sf0 Tf0 Bt0 Ct Wt HO]
  · isplitl []; · iexact Hc
    isplitl [Bf0 Cf Wf Sf0 Tf0]
    · isplitl [Bf0]; · iexact Bf0
      isplitl [Cf]; · iexact Cf
      isplitl [Wf]; · iexact Wf
      isplitl [Sf0]; · iexact Sf0
      iexact Tf0
    isplitl [Bt0 Ct Wt]
    · isplitl [Bt0]; · iexact Bt0
      isplitl [Ct]; · iexact Ct
      iexact Wt
    iexact HO
  iintro ⟨⟨Cf, Wf, Sf0, Tf0, Lf0, Hf1, Df1⟩, ⟨Ct, Wt, Ht0, Ht1, Dt0, Dt1⟩, HO⟩
  iapply (part5_run A 𝒱 c bd hw1 hw2 (Gen.k0_pay3 Bm)) $$ [Sf1 Tf1 Hf1 Df1 St0 Tt0 Ht0 Dt0 St1 Tt1 Ht1 Dt1 Pf HO]
  · isplitl []; · iexact Hc
    isplitl [Sf1 Tf1 Hf1 Df1]
    · isplitl [Sf1]; · iexact Sf1
      isplitl [Tf1]; · iexact Tf1
      isplitl [Hf1]; · iexact Hf1
      iexact Df1
    isplitl [St0 Tt0 Ht0 Dt0]
    · isplitl [St0]; · iexact St0
      isplitl [Tt0]; · iexact Tt0
      isplitl [Ht0]; · iexact Ht0
      iexact Dt0
    isplitl [St1 Tt1 Ht1 Dt1]
    · isplitl [St1]; · iexact St1
      isplitl [Tt1]; · iexact Tt1
      isplitl [Ht1]; · iexact Ht1
      iexact Dt1
    isplitl [Pf]; · iexact Pf
    iexact HO
  iintro ⟨⟨Sf1, Tf1, Lf1⟩, ⟨St0, Tt0, Lt0⟩, ⟨St1, Tt1, Lt1⟩, Pf, HO⟩
  iapply (part6_run A W 𝒱 c bd hw1 v2 _ ((own_val (A c) _).trans (hW c).symm)) $$ [Pf Ho Zf Sf0 Lf0 Sf1 Lf1 Gf HO]
  · isplitl []; · iexact Hc
    isplitl [Pf Ho Zf]
    · isplitl [Pf]; · iexact Pf
      isplitl [Ho]; · iexact Ho
      iexact Zf
    isplitl [Sf0 Lf0]
    · isplitl [Sf0]; · iexact Sf0
      iexact Lf0
    isplitl [Sf1 Lf1]
    · isplitl [Sf1]; · iexact Sf1
      iexact Lf1
    isplitl [Gf]; · iexact Gf
    isplitl []; · iexact Rf
    iexact HO
  iintro ⟨Hfly, Sf0, Sf1, Gf, HO⟩
  iapply (first_back A 𝒱 c bd true 0 (O := OO c (3) (2) (1) (1) (1) (1)) (by apply OO_above <;> intro _ <;> (try unfold lvC) <;> (repeat' split) <;> omega) (sendS_of true 0 0 rfl _) (half_credit' true _ _)) $$ [St0 Lt0 HO]
  · isplitl []; · iexact Hc
    isplitl [St0]; · iexact St0
    isplitl [Lt0]; · iexact Lt0
    iexact HO
  iintro ⟨St0, Ht0, HO⟩
  iapply (first_back A 𝒱 c bd true 1 (O := OO c (3) (2) (1) (1) (1) (1)) (by apply OO_above <;> intro _ <;> (try unfold lvC) <;> (repeat' split) <;> omega) (sendS_of true 0 1 rfl _) (half_credit' true _ _)) $$ [St1 Lt1 HO]
  · isplitl []; · iexact Hc
    isplitl [St1]; · iexact St1
    isplitl [Lt1]; · iexact Lt1
    iexact HO
  iintro ⟨St1, Ht1, HO⟩
  iapply (first_grant A 𝒱 c bd true (O₀ := OO c (3) (2) (1) (1) (1) (1)) (O := OO c (3) (3) (1) (1) (1) (1)) (OO_g₁ c (by norm_num)) (dev_of (nx false c) _) rfl) $$ [Gt Ht0 Ht1 HO]
  · isplitl []; · iexact Hc
    isplitl [Gt]; · iexact Gt
    isplitl [Ht0]; · iexact Ht0
    isplitl [Ht1]; · iexact Ht1
    isplitl []; · iexact Rt
    iexact HO
  iintro ⟨Gt, HO⟩
  ihave HI := (Inv_start A W c (K := K) (κ := κ)) $$ [HRf Cf Wf Sf0 Tf0 Sf1 Tf1 Gf HRt Ct Wt St0 Tt0 St1 Tt1 Gt Hfly Hof Pt Zt Hot Htab HO]
  · isplitl []; · iexact Hc
    isplitl [HRf Cf Wf Sf0 Tf0 Sf1 Tf1 Gf]
    · isplitl [HRf]; · iexact HRf
      isplitl [Cf]; · iexact Cf
      isplitl [Wf]; · iexact Wf
      isplitl [Sf0 Tf0]
      · isplitl [Sf0]; · iexact Sf0
        iexact Tf0
      isplitl [Sf1 Tf1]
      · isplitl [Sf1]; · iexact Sf1
        iexact Tf1
      iexact Gf
    isplitl [HRt Ct Wt St0 Tt0 St1 Tt1 Gt]
    · isplitl [HRt]; · iexact HRt
      isplitl [Ct]; · iexact Ct
      isplitl [Wt]; · iexact Wt
      isplitl [St0 Tt0]
      · isplitl [St0]; · iexact St0
        iexact Tt0
      isplitl [St1 Tt1]
      · isplitl [St1]; · iexact St1
        iexact Tt1
      iexact Gt
    isplitl [Hfly Hof]
    · isplitl [Hfly]; · iexact Hfly
      iexact Hof
    isplitl [Pt Zt Hot]
    · isplitl [Pt Zt]
      · isplitl [Pt]; · iexact Pt
        iexact Zt
      iexact Hot
    isplitl [Htab]; · iexact Htab
    iexact HO
  iapply (loop_run A W 𝒱 c bd hw1 hw2 v2 (Gen.k0_pay3 Bm) hW) $$ HI
  unfold Inv
  rw [OO_end, show min 16 15 = 15 from rfl]
  iintro ⟨-, HRf, HRt, HLf, HLt, Htab, HO⟩
  ihave HLf := (LF_end W c) $$ HLf
  icases HLf with ⟨Hff, Hof⟩
  ihave HLt := (LT_end W c) $$ HLt
  icases HLt with ⟨Hft, Hot⟩
  iapply (tab_step 𝒱 c bd 17 rfl) $$ Htab
  iintro Htab
  rw [show tab c 17 = og false 16 c from tab_r c 16 (by omega) (by omega)]
  iapply (wp_assume 𝒱 (c : Thread nD τ) bd Set.univ (chk7 (og false 16 c)))
  rw [wp_ret]
  imodintro
  iapply (copy_wait W 𝒱 c bd false (og false 16 c) A (Above.zero 0) rfl (out_credit _ _)) $$ [Hff HO]
  · isplitl []; · iexact Hc
    isplitl [Hff]; · iexact Hff
    iexact HO
  iintro ⟨Hoa, Pf, Zf, HO⟩
  iapply (tab_step 𝒱 c bd 32 rfl) $$ Htab
  iintro Htab
  rw [show tab c 32 = og true 15 c from tab_l c 15 (by omega)]
  iapply (wp_assume 𝒱 (c : Thread nD τ) bd Set.univ (chk8 (og true 15 c)))
  rw [wp_ret]
  imodintro
  iapply (copy_wait W 𝒱 c bd true (og true 15 c) A (Above.zero 0) rfl (out_credit _ _)) $$ [Hft HO]
  · isplitl []; · iexact Hc
    isplitl [Hft]; · iexact Hft
    iexact HO
  iintro ⟨Hob, Pt, Zt, HO⟩
  ihave Hout := (out_end W c) $$ [Hoa Hof Hob Hot]
  · isplitl [Hoa Hof]
    · isplitl [Hoa]; · iexact Hoa
      iexact Hof
    isplitl [Hob]; · iexact Hob
    iexact Hot
  rw [show (pure PUnit.unit : Prog (TpuEff nD τ sig (Elt F) Λ₀ (c : Thread nD τ).2) PUnit) = .ret PUnit.unit from rfl, wp_ret]
  imod (bar_leave A c) $$ [Hat] with Hbv
  · isplitl []; · iexact Hc
    iexact Hat
  imod (RS_leave A c false) $$ [HRf] with Hf
  · isplitl []; · iexact Hc
    iexact HRf
  imod (RS_leave A c true) $$ [HRt] with Ht
  · isplitl []; · iexact Hc
    iexact HRt
  imodintro
  iapply Hk
  unfold After
  isplitl [Hbv]; · iexact Hbv
  isplitl [Hf]; · iexact Hf
  isplitl [Ht]; · iexact Ht
  isplitl [Pf Zf]
  · isplitl [Pf]; · iexact Pf
    iexact Zf
  isplitl [Pt Zt]
  · isplitl [Pt]; · iexact Pt
    iexact Zt
  isplitl [Htab]; · iexact Htab
  isplitl [Ha]; · iexact Ha
  isplitl [Hb]; · iexact Hb
  isplitl [Hout]; · iexact Hout
  iexact HO
end Body

end Cert.KernelIdeal.RingMM

end
-- ==== Proof.Credit.lean ====
/-
  The units that the devices owe each other at the launch, counted at the devices that wait for them.
-/
module

public import proofs.«01_k».proof.Proof.Body

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-- A step of direction `d` around the ring, as a bijection. -/
def ringE (d : Bool) : Dev nD ≃ Dev nD where
  toFun := nx d
  invFun := nx (!d)
  left_inv := nx_nx' d
  right_inv := nx_nx d

/-- What the transfers that arrive at device `c` bring it, half `b`, -/
def CT (d : Bool) (b : Fin 2) (c : Dev nD) : CellTallies nD τ sig ℕ := ∑ j ∈ Finset.Ico 0 (NT d), tallyAt (recvC c d j b) j NH
/-- and the units granted to it. -/
def CG (d : Bool) (c : Dev nD) : CellTallies nD τ sig ℕ := ∑ j ∈ Finset.Ico 0 (NT d), tallyAt (credC c d) j 1
/-- All that device `c` is owed. -/
def CC (c : Dev nD) : CellTallies nD τ sig ℕ :=
  CG false c + CG true c + CT false 0 c + CT false 1 c + CT true 0 c + CT true 1 c + tallyAt (barC c) 0 1 + tallyAt (barC c) 0 1

theorem sum_shift {M : Type} [AddCommMonoid M] (d : Bool) (f : Dev nD → M) : ∑ e, f (nx d e) = ∑ e, f e := Equiv.sum_comp (ringE d) f

/-- What is owed is what is waited for. -/
theorem owed_total : ∑ e, OI e = ∑ e, CC e := by
  unfold OI OO CC
  simp only [Finset.sum_add_distrib]
  rw [show (∑ e, OG false e 0) = ∑ e, CG false e from sum_shift (!false) (CG false), show (∑ e, OG true e 0) = ∑ e, CG true e from sum_shift (!true) (CG true),
    show (∑ e, OT false 0 e 0) = ∑ e, CT false 0 e from sum_shift false (CT false 0), show (∑ e, OT false 1 e 0) = ∑ e, CT false 1 e from sum_shift false (CT false 1),
    show (∑ e, OT true 0 e 0) = ∑ e, CT true 0 e from sum_shift true (CT true 0), show (∑ e, OT true 1 e 0) = ∑ e, CT true 1 e from sum_shift true (CT true 1),
    show (∑ e, (tallyAt (barC (nx false e)) 0 1 : CellTallies nD τ sig ℕ)) = ∑ e, tallyAt (barC e) 0 1 from sum_shift false (fun e => (tallyAt (barC e) 0 1 : CellTallies nD τ sig ℕ)),
    show (∑ e, (tallyAt (barC (nx true e)) 0 1 : CellTallies nD τ sig ℕ)) = ∑ e, tallyAt (barC e) 0 1 from sum_shift true (fun e => (tallyAt (barC e) 0 1 : CellTallies nD τ sig ℕ))]

/-- A tally on cells of device `c` alone. -/
def On (c : Dev nD) (O : CellTallies nD τ sig ℕ) : Prop := ∀ g : GSem nD τ sig, g.1 ≠ (c : Thread nD τ) → O g = 0
theorem On.add {c : Dev nD} {O O' : CellTallies nD τ sig ℕ} (h : On c O) (h' : On c O') : On c (O + O') := fun g hg => by
  rw [Pi.add_apply, h g hg, h' g hg, add_zero]
theorem On.tally (c : Dev nD) (sm : SemLoc sig) (i n : ℕ) : On c (tallyAt ((c : Thread nD τ), sm) i n) := fun g hg =>
  tallyAt_ne_cell (fun h => hg (congrArg Prod.fst h)) i n
theorem On.sum {c : Dev nD} (s : Finset ℕ) (f : ℕ → CellTallies nD τ sig ℕ) (h : ∀ j ∈ s, On c (f j)) : On c (∑ j ∈ s, f j) := fun g hg => by
  rw [Finset.sum_apply]; exact Finset.sum_eq_zero fun j hj => h j hj g hg
theorem CC_on (c : Dev nD) : On c (CC c) :=
  have ht (d : Bool) (b : Fin 2) : On c (CT d b c) := On.sum _ _ fun j _ => On.tally c (.dma (recvS d j b)) j NH
  have hg (d : Bool) : On c (CG d c) := On.sum _ _ fun j _ => On.tally c (.reg (credS d)) j 1
  (((((((hg false).add (hg true)).add (ht false 0)).add (ht false 1)).add (ht true 0)).add (ht true 1)).add (On.tally c _ 0 1)).add (On.tally c _ 0 1)

/-- The tokens of a tally at the cells of device `c`. -/
def credOn (c : Dev nD) (O : CellTallies nD τ sig ℕ) : sProp 𝕄 :=
  bigSep Finset.univ fun sm : SemLoc sig => cred (tallyOn ((c : Thread nD τ), sm) (O ((c : Thread nD τ), sm)))

theorem credOn_add (c : Dev nD) (O O' : CellTallies nD τ sig ℕ) : credOn (F := F) c (O + O') ⊢ iprop(credOn c O ∗ credOn c O') := by
  unfold credOn
  refine BIBase.Entails.trans (all_mono (Ψ := fun sm : SemLoc sig => iprop(cred (tallyOn ((c : Thread nD τ), sm) (O ((c : Thread nD τ), sm)))
    ∗ cred (tallyOn ((c : Thread nD τ), sm) (O' ((c : Thread nD τ), sm))))) fun sm => ?_) (Entails.of_eq (bigSep_sep' _ _ _))
  rw [Pi.add_apply, tallyOn_add]
  exact (cred_add _ _).1
theorem credOn_tally (c : Dev nD) (sm : SemLoc sig) (i n : ℕ) :
    credOn (F := F) c (tallyAt ((c : Thread nD τ), sm) i n) ⊢ cred (tallyAt ((c : Thread nD τ), sm) i n) := by
  unfold credOn
  refine BIBase.Entails.trans (bigSep_get (Finset.mem_univ sm) _) (Entails.of_eq ?_)
  unfold tallyAt
  rw [tallyOn_self]
theorem credOn_sum (c : Dev nD) (f : ℕ → CellTallies nD τ sig ℕ) (h : ∀ j, credOn (F := F) c (f j) ⊢ cred (f j)) (s : Finset ℕ) :
    credOn (F := F) c (∑ j ∈ s, f j) ⊢ bigSep s fun j => cred (f j) := by
  induction s using Finset.induction_on with
  | empty => rw [BI.bigSep_empty]; iintro -; iempintro
  | insert a s ha ih =>
    rw [Finset.sum_insert ha, BI.bigSep_insert ha]
    exact (credOn_add c _ _).trans (BIClass.sep_mono (h a) ih)

theorem launch_on (c : Dev nD) : (Pipeline.launchCred OI c : sProp 𝕄) ⊢ credOn c (CC c) := by
  unfold Pipeline.launchCred credOn
  refine all_mono fun sm => Entails.of_eq ?_
  refine congrArg (fun x => (cred (tallyOn ((c : Thread nD τ), sm) x) : sProp 𝕄)) (Finsupp.ext fun i => ?_)
  rw [Pipeline.launchCredit_owing]
  have h : (∑ e, OI e) ((c : Thread nD τ), sm) i = (∑ e, CC e) ((c : Thread nD τ), sm) i := by rw [owed_total]
  rw [Finset.sum_apply, Finsupp.finsetSum_apply, Finset.sum_apply, Finsupp.finsetSum_apply] at h
  rw [h]
  exact Finset.sum_eq_single c (fun e _ he => by
    rw [CC_on e _ (fun h => he (congrArg (fun t : Thread nD τ => t.1) h).symm)]; rfl) (fun h => absurd (Finset.mem_univ c) h)

/-- The units device `c` may wait for in direction `d`. -/
def crd (c : Dev nD) (d : Bool) : sProp 𝕄 :=
  iprop(bigSep (Finset.Ico 0 (NT d)) (fun j => cred (tallyAt (recvC c d j 0) j NH)) ∗ bigSep (Finset.Ico 0 (NT d)) (fun j => cred (tallyAt (recvC c d j 1) j NH))
    ∗ bigSep (Finset.Ico 0 (NT d)) (fun j => cred (tallyAt (credC c d) j 1)))

/-- The launch deals each device what it waits for. -/
theorem launch_creds (c : Dev nD) : (Pipeline.launchCred OI c : sProp 𝕄) ⊢ iprop(cred (tallyAt (barC c) 0 2) ∗ crd c false ∗ crd c true) := by
  refine BIBase.Entails.trans (launch_on c) ?_
  have ht (d : Bool) (b : Fin 2) : credOn (F := F) c (CT d b c) ⊢ bigSep (Finset.Ico 0 (NT d)) fun j => cred (tallyAt (recvC c d j b) j NH) :=
    credOn_sum c _ (fun j => credOn_tally c _ j NH) _
  have hg (d : Bool) : credOn (F := F) c (CG d c) ⊢ bigSep (Finset.Ico 0 (NT d)) fun j => cred (tallyAt (credC c d) j 1) :=
    credOn_sum c _ (fun j => credOn_tally c _ j 1) _
  unfold CC crd
  iintro H
  ihave H := (credOn_add c _ _) $$ H; icases H with ⟨H, B1⟩
  ihave H := (credOn_add c _ _) $$ H; icases H with ⟨H, B0⟩
  ihave H := (credOn_add c _ _) $$ H; icases H with ⟨H, T11⟩
  ihave H := (credOn_add c _ _) $$ H; icases H with ⟨H, T10⟩
  ihave H := (credOn_add c _ _) $$ H; icases H with ⟨H, T01⟩
  ihave H := (credOn_add c _ _) $$ H; icases H with ⟨H, T00⟩
  ihave H := (credOn_add c _ _) $$ H; icases H with ⟨G0, G1⟩
  ihave B0 := (credOn_tally c _ 0 1) $$ B0
  ihave B1 := (credOn_tally c _ 0 1) $$ B1
  isplitl [B0 B1]
  · iapply (Entails.of_eq (show (cred (tallyAt (barC c) 0 1 + tallyAt (barC c) 0 1) : sProp 𝕄) = cred (tallyAt (barC c) 0 2) from by
      unfold tallyAt; rw [← tallyOn_add, ← Finsupp.single_add]))
    iapply (cred_add _ _).2
    isplitl [B0]; · iexact B0
    iexact B1
  isplitl [T00 T01 G0]
  · isplitl [T00]; · iapply (ht false 0) $$ T00
    isplitl [T01]; · iapply (ht false 1) $$ T01
    iapply (hg false) $$ G0
  isplitl [T10]; · iapply (ht true 0) $$ T10
  isplitl [T11]; · iapply (ht true 1) $$ T11
  iapply (hg true) $$ G1

end Cert.KernelIdeal.RingMM

end
-- ==== Proof.Ghost.lean ====
/-
  The protocol's ghost state at the launch: every cell's and every slot's invariant, and what is dealt to each device.
-/
module

public import proofs.«01_k».proof.Proof.Credit

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (A : Dev nD → S1536x768.Idx → Elt F .bf16)

/-! ## The cells -/

/-- The cells of direction `d` but the barrier's: for each half three receive and three send semaphores, then the credit one. -/
def oloc (x : Bool × Fin 13) : SemLoc sig :=
  if x.2.val = 12 then .reg (credS x.1)
  else if x.2.val % 6 < 3 then .dma (recvS x.1 (x.2.val % 6) (if x.2.val < 6 then 0 else 1))
  else .dma (sendS x.1 (x.2.val % 6 - 3) (if x.2.val < 6 then 0 else 1))

theorem oloc_inj : Function.Injective oloc := by decide +kernel
theorem oloc_ne_bar : ∀ x, oloc x ≠ .reg barS := by decide +kernel
theorem cell_cases : ∀ sm : SemLoc sig, isCell sm = true → sm = .reg barS ∨ ∃ x, oloc x = sm := by decide +kernel

def barEmb : Dev nD ↪ GSem nD τ sig := ⟨fun c => barC c, fun _ _ h => congrArg (fun g : GSem nD τ sig => g.1.1) h⟩
def olocEmb : Dev nD × (Bool × Fin 13) ↪ GSem nD τ sig :=
  ⟨fun x => ((x.1 : Thread nD τ), oloc x.2), fun _ _ h =>
    Prod.ext (congrArg (fun g : GSem nD τ sig => g.1.1) h) (oloc_inj (congrArg Prod.snd h))⟩

/-- The barrier cells, live from the launch, -/
@[irreducible] def barCells : Finset (GSem nD τ sig) := Finset.univ.map barEmb
/-- and the kernel's own, opened when it is entered. -/
@[irreducible] def ownCells : Finset (GSem nD τ sig) := Finset.univ.map olocEmb

theorem cells_disjoint : Disjoint barCells ownCells := by
  unfold barCells ownCells
  rw [Finset.disjoint_left]
  rintro g h₁ h₂
  obtain ⟨c, -, rfl⟩ := Finset.mem_map.mp h₁
  obtain ⟨x, -, h⟩ := Finset.mem_map.mp h₂
  exact oloc_ne_bar x.2 (congrArg Prod.snd h)

theorem ringCells_sub : ringCells ⊆ barCells ∪ ownCells := by
  intro g hg
  unfold ringCells at hg
  simp only [Finset.mem_filter, Finset.mem_univ, true_and] at hg
  obtain ⟨h1, h2⟩ := hg
  obtain ⟨⟨c, p⟩, sm⟩ := g
  obtain rfl : p = .tc := h1
  unfold barCells ownCells
  rcases cell_cases sm h2 with rfl | ⟨x, rfl⟩
  · exact Finset.mem_union_left _ (Finset.mem_map.2 ⟨c, Finset.mem_univ c, rfl⟩)
  · exact Finset.mem_union_right _ (Finset.mem_map.2 ⟨(c, x), Finset.mem_univ _, rfl⟩)

theorem two (Φ : Bool → sProp 𝕄) : bigSep Finset.univ Φ = iprop(Φ false ∗ Φ true) := by
  rw [show (Finset.univ : Finset Bool) = {false, true} from by decide, bigSep_insert (by decide), bigSep_singleton]; rfl

theorem thirteen (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := by
  rw [show (Finset.univ : Finset (Fin 13)) = {0, 1, 2, 3, 4, 5, 6, 7, 8, 9, 10, 11, 12} from by decide, bigSep_insert (by decide), bigSep_insert (by decide),
    bigSep_insert (by decide), bigSep_insert (by decide), bigSep_insert (by decide), bigSep_insert (by decide), bigSep_insert (by decide), bigSep_insert (by decide),
    bigSep_insert (by decide), bigSep_insert (by decide), bigSep_insert (by decide), bigSep_insert (by decide), bigSep_singleton]
  rfl

theorem sub_mono {I : Type} [DecidableEq I] {s t : Finset I} (h : t ⊆ s) (Φ : I → sProp 𝕄) : (bigSep s Φ : sProp 𝕄) ⊢ bigSep t Φ := BI.bigSep_subset h
theorem halves {I : Type} [DecidableEq I] {s : Finset I} (Φ Ψ : I → sProp 𝕄) : (bigSep s fun i => iprop(Φ i ∗ Ψ i) : sProp 𝕄) ⊢ iprop(bigSep s Φ ∗ bigSep s Ψ) :=
  Entails.of_eq (bigSep_sep' _ _ _)
theorem paired {I : Type} [DecidableEq I] {s : Finset I} (Φ Ψ : I → sProp 𝕄) : iprop(bigSep s Φ ∗ bigSep s Ψ) ⊢ (bigSep s fun i => iprop(Φ i ∗ Ψ i) : sProp 𝕄) :=
  Entails.of_eq (bigSep_sep' _ _ _).symm

theorem opns_of (c : Dev nD) (d : Bool) : bigSep Finset.univ (fun i : Fin 13 => (openTok ER ((c : Thread nD τ), oloc (d, i)) : sProp 𝕄)) ⊢ opns c d := by
  rw [thirteen, show oloc (d, 0) = .dma (recvS d 0 0) from by cases d <;> decide +kernel, show oloc (d, 1) = .dma (recvS d 1 0) from by cases d <;> decide +kernel, show oloc (d, 2) = .dma (recvS d 2 0) from by cases d <;> decide +kernel,
    show oloc (d, 3) = .dma (sendS d 0 0) from by cases d <;> decide +kernel, show oloc (d, 4) = .dma (sendS d 1 0) from by cases d <;> decide +kernel, show oloc (d, 5) = .dma (sendS d 2 0) from by cases d <;> decide +kernel,
    show oloc (d, 6) = .dma (recvS d 0 1) from by cases d <;> decide +kernel, show oloc (d, 7) = .dma (recvS d 1 1) from by cases d <;> decide +kernel, show oloc (d, 8) = .dma (recvS d 2 1) from by cases d <;> decide +kernel,
    show oloc (d, 9) = .dma (sendS d 0 1) from by cases d <;> decide +kernel, show oloc (d, 10) = .dma (sendS d 1 1) from by cases d <;> decide +kernel, show oloc (d, 11) = .dma (sendS d 2 1) from by cases d <;> decide +kernel]
  unfold opns opn
  iintro ⟨R0, R1, R2, S0, S1, S2, Q0, Q1, Q2, U0, U1, U2, C⟩
  isplitl [R0 R1 R2 S0 S1 S2]
  · isplitl [R0 R1 R2]
    · isplitl [R0]; · iexact R0
      isplitl [R1]; · iexact R1
      iexact R2
    isplitl [S0]; · iexact S0
    isplitl [S1]; · iexact S1
    iexact S2
  isplitl [Q0 Q1 Q2 U0 U1 U2]
  · isplitl [Q0 Q1 Q2]
    · isplitl [Q0]; · iexact Q0
      isplitl [Q1]; · iexact Q1
      iexact Q2
    isplitl [U0]; · iexact U0
    isplitl [U1]; · iexact U1
    iexact U2
  iexact C

/-- Each device's rights to open its own cells. -/
theorem open_deal : bigSep ownCells (fun g => (openTok ER g : sProp 𝕄)) ⊢ bigSep Finset.univ (fun c : Dev nD => (iprop(opns c false ∗ opns c true) : sProp 𝕄)) := by
  unfold ownCells
  rw [BI.bigSep_map, BI.bigSep_univ_prod]
  refine all_mono fun c => ?_
  rw [BI.bigSep_univ_prod, two]
  exact BIClass.sep_mono (opns_of c false) (opns_of c true)

/-! ## The tokens -/

/-- Which duty of direction `d`: transfer `j`'s departure and arrival (two halves each), the `j`-th grant, and the barrier's. -/
abbrev Tok : Type := Bool × (Fin 16 × Fin 6)
def tok (x : Tok) : SemLoc sig × ℕ × ℕ :=
  match x.2.2 with
  | 0 => (.dma (sendS x.1 x.2.1.val 0), x.2.1.val / 3, 0)
  | 1 => (.dma (sendS x.1 x.2.1.val 1), x.2.1.val / 3, 0)
  | 2 => (.dma (recvS x.1 x.2.1.val 0), x.2.1.val / 3, 0)
  | 3 => (.dma (recvS x.1 x.2.1.val 1), x.2.1.val / 3, 0)
  | 4 => (.reg (credS x.1), 0, x.2.1.val)
  | 5 => (.reg barS, 0, 2 * x.2.1.val + x.1.toNat)
/-- A duty as one number. -/
def code (t : SemLoc sig × ℕ × ℕ) : ℕ := (match t.1 with | .reg s => s.val | .dma s => 3 + s.val) * 10000 + t.2.1 * 100 + t.2.2
theorem code_inj : ∀ x y : Tok, code (tok x) = code (tok y) → x = y := by decide +kernel
theorem tok_inj : Function.Injective tok := fun x y h => code_inj x y (congrArg code h)

def tokEmb : Tok × Dev nD ↪ GSem nD τ sig × ℕ × ℕ :=
  ⟨fun x => (((x.2 : Thread nD τ), (tok x.1).1), (tok x.1).2), fun _ _ h =>
    Prod.ext (tok_inj (Prod.ext (congrArg (fun t : GSem nD τ sig × ℕ × ℕ => t.1.2) h) (congrArg (fun t : GSem nD τ sig × ℕ × ℕ => t.2) h)))
      (congrArg (fun t : GSem nD τ sig × ℕ × ℕ => t.1.1.1) h)⟩
@[irreducible] def ringToks : Finset (GSem nD τ sig × ℕ × ℕ) := Finset.univ.map tokEmb

/-- Whose cell the device that has a duty pays to. -/
def payee (x : Tok) : Dev nD ≃ Dev nD :=
  if x.2.2.val < 2 then Equiv.refl _ else if x.2.2.val < 4 then ringE x.1 else ringE (!x.1)

/-- A family over `X` and the devices, each member of `X` dealt round the ring by its own number of steps. -/
theorem deal {X : Type} [Fintype X] (e : X → Dev nD ≃ Dev nD) (Φ : X × Dev nD → sProp 𝕄) :
    bigSep Finset.univ Φ = bigSep Finset.univ fun c : Dev nD => bigSep Finset.univ fun x => Φ (x, e x c) := by
  classical
  rw [BI.bigSep_univ_prod, bigSep_congr fun x _ => BI.bigSep_univ_equiv (e x) (fun c => Φ (x, c)),
    ← BI.bigSep_univ_prod (fun x : X × Dev nD => Φ (x.1, e x.1 x.2)), BI.bigSep_univ_equiv (Equiv.prodComm (Dev nD) X), BI.bigSep_univ_prod]
  rfl

/-- The first `n` of a family of sixteen. -/
theorem first {n : ℕ} (h : n ≤ 16) (Φ : ℕ → sProp 𝕄) : bigSep Finset.univ (fun j : Fin 16 => Φ j.val) ⊢ bigSep (Finset.Ico 0 n) Φ := by
  refine BIBase.Entails.trans (Entails.of_eq (BI.bigSep_map (s := Finset.univ) (Fin.valEmbedding (n := 16)) (Φ := Φ)).symm) ?_
  refine BI.bigSep_subset fun j hj => ?_
  rw [Finset.mem_Ico] at hj
  exact Finset.mem_map.2 ⟨⟨j, by omega⟩, Finset.mem_univ _, rfl⟩

/-- What a device pays in direction `d`, and to whom. -/
def DirT (c : Dev nD) (d : Bool) : sProp 𝕄 :=
  iprop((sndTk c d 0 0 ∗ sndTk c d 1 0) ∗ bigSep (Finset.Ico 0 (NT d)) (fun j => dutyTok ER (credC (nx (!d) c) d) 0 j) ∗ dutyTok ER (barC (nx (!d) c)) 0 d.toNat)

theorem six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, bigSep_insert (by decide), bigSep_insert (by decide),
    bigSep_insert (by decide), bigSep_insert (by decide), bigSep_insert (by decide), bigSep_singleton]
  rfl

theorem DirT_of (c : Dev nD) (d : Bool) :
    bigSep Finset.univ (fun y : Fin 16 × Fin 6 => (dutyTok ER ((payee (d, y) c : Thread nD τ), (tok (d, y)).1) (tok (d, y)).2.1 (tok (d, y)).2.2 : sProp 𝕄)) ⊢ DirT c d := by
  rw [BI.bigSep_univ_prod]
  refine BIBase.Entails.trans (all_mono (Ψ := fun j : Fin 16 => iprop((dutyTok ER (sendC c d j.val 0) (j.val / 3) 0 ∗ dutyTok ER (recvC (nx d c) d j.val 0) (j.val / 3) 0)
    ∗ (dutyTok ER (sendC c d j.val 1) (j.val / 3) 0 ∗ dutyTok ER (recvC (nx d c) d j.val 1) (j.val / 3) 0)
    ∗ dutyTok ER (credC (nx (!d) c) d) 0 j.val ∗ dutyTok ER (barC (nx (!d) c)) 0 (2 * j.val + d.toNat))) fun j => ?_) ?_
  · rw [six]
    iintro ⟨S0, S1, R0, R1, C, B⟩
    isplitl [S0 R0]
    · isplitl [S0]; · iexact S0
      iexact R0
    isplitl [S1 R1]
    · isplitl [S1]; · iexact S1
      iexact R1
    isplitl [C]; · iexact C
    iexact B
  · unfold DirT sndTk
    iintro H
    ihave H := (halves _ _) $$ H; icases H with ⟨H0, H⟩
    ihave H := (halves _ _) $$ H; icases H with ⟨H1, H⟩
    ihave H := (halves _ _) $$ H; icases H with ⟨HC, HB⟩
    isplitl [H0 H1]
    · isplitl [H0]
      · iapply (first (NT_le d) (fun j => iprop(dutyTok ER (sendC c d j 0) (j / 3) 0 ∗ dutyTok ER (recvC (nx d c) d j 0) (j / 3) 0))); iexact H0
      iapply (first (NT_le d) (fun j => iprop(dutyTok ER (sendC c d j 1) (j / 3) 0 ∗ dutyTok ER (recvC (nx d c) d j 1) (j / 3) 0))); iexact H1
    isplitl [HC]
    · iapply (first (NT_le d) (fun j => dutyTok ER (credC (nx (!d) c) d) 0 j)); iexact HC
    ihave HB := (bigSep_get (Finset.mem_univ (0 : Fin 16)) _) $$ HB
    iapply (Entails.of_eq (show (dutyTok ER (barC (nx (!d) c)) 0 (2 * (0 : Fin 16).val + d.toNat) : sProp 𝕄) = dutyTok ER (barC (nx (!d) c)) 0 d.toNat from by simp)) $$ HB

/-- Each device's duties. -/
theorem tok_deal : bigSep ringToks (fun x => (dutyTok ER x.1 x.2.1 x.2.2 : sProp 𝕄)) ⊢ bigSep Finset.univ (fun c : Dev nD => (iprop(DirT c false ∗ DirT c true) : sProp 𝕄)) := by
  unfold ringToks
  rw [BI.bigSep_map, deal payee]
  refine all_mono fun c => ?_
  rw [BI.bigSep_univ_prod, two]
  exact BIClass.sep_mono (DirT_of c false) (DirT_of c true)

/-! ## The slots -/

/-- Transfer `j` of direction `d` writes a slot of the next device. -/
def wrEmb : (Bool × Fin 16) × Dev nD ↪ Key × ℕ :=
  ⟨fun x => ((x.2, x.1.1, sl (x.1.2.val + 1)), x.1.2.val / 3), fun x y h => by
    have h1 : x.2 = y.2 := congrArg (fun k : Key × ℕ => k.1.1) h
    have h2 : x.1.1 = y.1.1 := congrArg (fun k : Key × ℕ => k.1.2.1) h
    have h3 : (x.1.2.val + 1) % 3 = (y.1.2.val + 1) % 3 := congrArg (fun k : Key × ℕ => k.1.2.2.val) h
    have h4 : x.1.2.val / 3 = y.1.2.val / 3 := congrArg (fun k : Key × ℕ => k.2) h
    exact Prod.ext (Prod.ext h2 (Fin.ext (by omega))) h1⟩

theorem wr_deal : bigSep ((Finset.univ : Finset Key) ×ˢ Finset.range 6) (fun x => (writeTok ES x.1 (x.2 + 1) : sProp 𝕄))
    ⊢ bigSep Finset.univ (fun c : Dev nD => (iprop(wrSt c false 0 ∗ wrSt c true 0) : sProp 𝕄)) := by
  refine BIBase.Entails.trans (BI.bigSep_subset (t := Finset.univ.map wrEmb) fun x hx => ?_) ?_
  · obtain ⟨y, -, rfl⟩ := Finset.mem_map.1 hx
    refine Finset.mem_product.2 ⟨Finset.mem_univ _, Finset.mem_range.2 ?_⟩
    show y.1.2.val / 3 < 6
    omega
  rw [BI.bigSep_map, deal fun x => ringE x.1]
  refine all_mono fun c => ?_
  rw [BI.bigSep_univ_prod, two]
  unfold wrSt
  exact BIClass.sep_mono (first (NT_le false) (fun j => writeTok ES (nx false c, false, sl (j + 1)) (j / 3 + 1)))
    (first (NT_le true) (fun j => writeTok ES (nx true c, true, sl (j + 1)) (j / 3 + 1)))

def rds (c : Dev nD) (d : Bool) : sProp 𝕄 := iprop(rdAt c d 0 ∗ rdAt c d 1 ∗ rdAt c d 2)

theorem rd_deal : bigSep (Finset.univ : Finset Key) (fun k => (readerAt ES k 0 : sProp 𝕄))
    ⊢ bigSep Finset.univ (fun c : Dev nD => (iprop(rds c false ∗ rds c true) : sProp 𝕄)) := by
  rw [BI.bigSep_univ_prod]
  refine all_mono fun c => ?_
  have e (d : Bool) : bigSep Finset.univ (fun s : Fin 3 => (readerAt ES (c, d, s) 0 : sProp 𝕄)) ⊢ rds c d := by
    rw [three]
    unfold rds rdAt
    iintro ⟨H0, H1, H2⟩
    isplitl [H1]; · iexact H1
    isplitl [H2]; · iexact H2
    iexact H0
  rw [BI.bigSep_univ_prod, two]
  exact BIClass.sep_mono (e false) (e true)

/-! ## The deal -/

/-- What every device may consult. -/
def recs (K : GSem nD τ sig → ℕ) (κ : Key → ℕ) : sProp 𝕄 :=
  iprop(bigSep ringCells (fun g => cellInv ER (sched A) (K g) g) ∗ bigSep Finset.univ (fun k : Key => slotInv ES (κ k) k (slotA k))
    ∗ bigSep Finset.univ (fun c : Dev nD => reached ER (barC c) 0))
instance recs_persistent (K : GSem nD τ sig → ℕ) (κ : Key → ℕ) : BI.Persistent (recs A K κ) := by unfold recs; infer_instance

/-- What is one device's. -/
def lin (c : Dev nD) : sProp 𝕄 :=
  iprop(atPos ER (barC c) 0 ∅ 0 ∗ (opns c false ∗ opns c true) ∗ (DirT c false ∗ DirT c true) ∗ (wrSt c false 0 ∗ wrSt c true 0) ∗ (rds c false ∗ rds c true))

def uCells : URounds (GSem nD τ sig) ℕ := launchOf barCells ownCells ringToks
def uSlots : USlots Key := initSlots Finset.univ 6

theorem ghost_init :
    iprop(bigSep Finset.univ (fun c : Dev nD => (semVal (barC c) 0 : sProp 𝕄)) ∗ BI.own (ER uCells) ∗ BI.own (ES uSlots))
      ⊢ (|={Set.univ}=> ∃ K κ, recs A K κ ∗ bigSep Finset.univ lin : sProp 𝕄) := by
  have hv : bigSep Finset.univ (fun c : Dev nD => (semVal (barC c) 0 : sProp 𝕄)) ⊢ bigSep barCells (fun g => (semVal g 0 : sProp 𝕄)) := by
    unfold barCells
    exact Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) := by
    unfold barCells
    exact Entails.of_eq (BI.bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barC c) 0 : sProp 𝕄)) := by
    unfold barCells
    exact Entails.of_eq (BI.bigSep_map (s := Finset.univ) barEmb (Φ := fun g : GSem nD τ sig => (reached ER g 0 : sProp 𝕄)))
  unfold uCells uSlots
  iintro ⟨Hv, Hu, Hs⟩
  ihave Hv := hv $$ Hv
  imod (Rounds.fund_launch ER (sched A) cells_disjoint (fun g _ h => h) ringToks) $$ [Hv Hu] with ⟨%K, -, #Hinv, #Hr, Hat, Hopen, Htok⟩
  · isplitl [Hv]; · iexact Hv
    iexact Hu
  imod (Release.slots_init ES (Finset.univ : Finset Key) 6 slotA) $$ [Hs] with ⟨%κ, -, #Hsl, Hrd, Hwr⟩
  · iexact Hs
  imodintro
  iexists K
  iexists κ
  isplitr
  · unfold recs
    isplitr
    · iapply (sub_mono ringCells_sub (fun g => cellInv ER (sched A) (K g) g))
      iexact Hinv
    isplitr; · iexact Hsl
    iapply hre
    iexact Hr
  ihave Hat := hat $$ Hat
  ihave Hopen := (open_deal (F := F)) $$ Hopen
  ihave Htok := (tok_deal (F := F)) $$ Htok
  ihave Hwr := (wr_deal (F := F)) $$ Hwr
  ihave Hrd := (rd_deal (F := F)) $$ Hrd
  unfold lin
  iapply (paired _ _)
  isplitl [Hat]; · iexact Hat
  iapply (paired _ _)
  isplitl [Hopen]; · iexact Hopen
  iapply (paired _ _)
  isplitl [Htok]; · iexact Htok
  iapply (paired _ _)
  isplitl [Hwr]; · iexact Hwr
  iexact Hrd

end Cert.KernelIdeal.RingMM

end
-- ==== Proof.Call.lean ====
/-
  The kernel's call: its windows, its invariant and its body.
-/
module

public import proofs.«01_k».proof.Proof.Ghost
public import proofs.«01_k».proof.Proof.Gen.KernelIdeal.Regions
public import proofs.«01_k».proof.Proof.Gen.KernelIdeal.Points
public import Idealize.ShloMosaic.Lib.Pipeline.RegionTalk

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-! ## The values -/

section Values
variable (m : (ℓ : Loc nD τ sig) → Buf (Elt F) ℓ)

/-- Device `x`'s block of the first argument, when the kernel is entered. -/
def argA (x : Dev nD) : S1536x768.Idx → Elt F .bf16 := fun i => Gen.V9 m x (Proc.devRef .tc main_arg0) i
/-- Device `c`'s copy of the second. -/
def argB (c : Dev nD) : S768x1536.Idx → Elt F .bf16 := fun i => Gen.V9 m c (Proc.devRef .tc main_arg1) i
/-- Device `x`'s block times the second argument, as device `c` computes it. -/
def prodAt (c x : Dev nD) : S1536x1536.Idx → Elt F .bf16 := Gen.k0_pay2 (Gen.k0_pay3 (argB m c)) (slotVal (argA m x))
/-- What the kernel leaves in each buffer. -/
def outs : Gen.Outs (F := F) := fun _ r c =>
  Function.update (Gen.V9 m c) (Proc.devRef .tc main_v53) (show Buf (Elt F) (outL c) from Fout (prodAt m c) c) (Proc.devRef .tc r)

theorem outs_main (c : Dev nD) : Gen.V10 m (outs m) c (Proc.devRef .tc main_v53) = (show Buf (Elt F) (outL c) from Fout (prodAt m c) c) := by
  unfold Gen.V10 outs
  rw [Function.update_self, Function.update_self]

theorem outs_ne (c : Dev nD) (b : DevRef τ sig) (h : b ≠ Proc.devRef .tc main_v53) : Gen.V10 m (outs m) c b = Gen.V9 m c b :=
  Function.update_of_ne h _ _

/-! ## The invariant of the call, before its one point and after -/

/-- What the kernel is entered with. -/
def entered (c : Dev nD) : sProp 𝕄 :=
  iprop((∃ K κ, ctx (argA m) K κ ∗ barSt c ∗ Dir c false ∗ Dir c true)
    ∗ semVal ((c : Thread nD τ), SemLoc.dma (stgS false)) 0 ∗ semVal ((c : Thread nD τ), SemLoc.dma (stgS true)) 0)
/-- Its own buffers, at any contents. -/
def scratch (c : Dev nD) : sProp 𝕄 := iprop(com c false ∗ com c true ∗ stgAny c false ∗ stgAny c true)
/-- Its own counters at zero. -/
def counters (c : Dev nD) : sProp 𝕄 :=
  iprop((cnts c false ∗ cnts c true) ∗ semVal ((c : Thread nD τ), SemLoc.dma (stgS false)) 0 ∗ semVal ((c : Thread nD τ), SemLoc.dma (stgS true)) 0)

def atStart (c : Dev nD) : sProp 𝕄 := iprop(entered m c ∗ scratch c ∗ (∃ f, outL c ↦[Finset.univ]{fullShare} f) ∗ ∃ r, prngReg c r)
def atEnd (c : Dev nD) : sProp 𝕄 :=
  iprop(semVal (barC c) 0 ∗ counters c ∗ scratch c ∗ (outL c ↦[Finset.univ]{fullShare} Fout (prodAt m c) c) ∗ ∃ r, prngReg c r)

/-- What each window's buffer holds, before the body and after: its array. -/
def held0 (c : Dev nD) : (w : Fin cfg0.W) → (cfg0.win w).block.Idx → Elt F (cfg0.win w).elt
  | 0 => fun j => argA m c j
  | 1 => fun j => argB m c j
  | 2 => fun j => Gen.V9 m c (Proc.devRef .tc main_v52) j
  | ⟨_ + 3, h⟩ => absurd h (Nat.not_lt.2 (Nat.le_add_left _ _))

def dat0 (c : Dev nD) : Pipeline.Dat τ (Elt F) ℕ ℕ UU ℕ cfg0 c where
  A w := Gen.V9 m c (Proc.devRef .tc (Pipeline.arrRef spec0 w))
  after w _ := held0 m c w
  Φ t := if t.val = 0 then atStart m c else atEnd m c
  q _ := fullShare
  owed t := if t.val = 0 then OI c else 0

theorem fetched0 (c : Dev nD) (w : Fin cfg0.W) (t : Fin cfg0.N) (d : (cfg0.win w).block.Idx → Elt F (cfg0.win w).elt) :
    (dat0 m c).before w t d = held0 m c w := by
  obtain rfl := Gen.fin_N0 t
  match w with
  | 0 =>
    unfold Pipeline.Dat.before; rw [if_pos (Gen.fetch0_0 _)]
    funext j
    show _ = Gen.V9 m c (Proc.devRef .tc main_arg0) j
    unfold Pipeline.Dat.fetched Pipeline.Window.fill
    rw [dif_pos (show (cfg0.win 0).moved (cfg0.grid.coords Gen.t0_0) j = true from rfl)]
    unfold Pipeline.Dat.blockOf
    rw [View.read_apply]
    show Gen.V9 m c (Proc.devRef .tc main_arg0) _ = _
    congr 1
    funext a; apply Fin.ext
    show 0 * _ + 1 * (j a).val = (j a).val
    rw [Nat.zero_mul, Nat.zero_add, Nat.one_mul]
  | 1 =>
    unfold Pipeline.Dat.before; rw [if_pos (Gen.fetch0_1 _)]
    funext j
    show _ = Gen.V9 m c (Proc.devRef .tc main_arg1) j
    unfold Pipeline.Dat.fetched Pipeline.Window.fill
    rw [dif_pos (show (cfg0.win 1).moved (cfg0.grid.coords Gen.t0_0) j = true from rfl)]
    unfold Pipeline.Dat.blockOf
    rw [View.read_apply]
    show Gen.V9 m c (Proc.devRef .tc main_arg1) _ = _
    congr 1
    funext a; apply Fin.ext
    show 0 * _ + 1 * (j a).val = (j a).val
    rw [Nat.zero_mul, Nat.zero_add, Nat.one_mul]
  | 2 =>
    unfold Pipeline.Dat.before; rw [if_pos (Gen.fetch0_2 _)]
    funext j
    show _ = Gen.V9 m c (Proc.devRef .tc main_v52) j
    unfold Pipeline.Dat.fetched Pipeline.Window.fill
    rw [dif_pos (show (cfg0.win 2).moved (cfg0.grid.coords Gen.t0_0) j = true from rfl)]
    unfold Pipeline.Dat.blockOf
    rw [View.read_apply]
    show Gen.V9 m c (Proc.devRef .tc main_v52) _ = _
    congr 1
    funext a; apply Fin.ext
    show 0 * _ + 1 * (j a).val = (j a).val
    rw [Nat.zero_mul, Nat.zero_add, Nat.one_mul]
  | ⟨_ + 3, h⟩ => exact absurd h (Nat.not_lt.2 (Nat.le_add_left _ _))

/-! ## What is owed -/

theorem OI_above (c : Dev nD) : Above 0 (OI c) := by
  unfold OI
  refine Above.add (Above.add (OO_above c _ _ _ _ _ _ _ ?_ ?_ ?_ ?_ ?_ ?_) (Above.tally ?_ ?_)) (Above.tally ?_ ?_)
  all_goals first
    | (rw [L_tc]; decide)
    | (rw [lv_bar]; decide)
    | (intro _; decide)
    | skip

theorem owed_start (c : Dev nD) : (dat0 m c).owed Gen.t0_0.castSucc = OI c := by
  show (if (Gen.t0_0.castSucc).val = 0 then OI c else 0) = OI c
  exact if_pos rfl
theorem owed_end (c : Dev nD) : (dat0 m c).owed Gen.t0_0.succ = 0 := by
  show (if (Gen.t0_0.succ).val = 0 then OI c else 0) = 0
  exact if_neg (by decide)
theorem Φ_start (c : Dev nD) : (dat0 m c).Φ Gen.t0_0.castSucc = atStart m c := by
  show (if (Gen.t0_0.castSucc).val = 0 then atStart m c else atEnd m c) = _
  exact if_pos rfl
theorem Φ_end (c : Dev nD) : (dat0 m c).Φ Gen.t0_0.succ = atEnd m c := by
  show (if (Gen.t0_0.succ).val = 0 then atStart m c else atEnd m c) = _
  exact if_neg (by decide)

theorem owes_close (c : Dev nD) {t : Fin (cfg0.N + 1)} {O : CellTallies nD τ sig ℕ} (h : (dat0 m c).owed t = O) :
    (owing c O : sProp 𝕄) ⊢ ((dat0 m c).owesAt 0 t : sProp 𝕄) := by
  unfold owing Pipeline.Dat.owesAt Pipeline.owesWithin Pipeline.Dat.bound
  rw [h]
  iintro ⟨%W, H⟩
  iexists W
  isplitr
  · ipureintro; exact fun _ _ => Or.inl trivial
  iexact H
theorem owes_open (c : Dev nD) {t : Fin (cfg0.N + 1)} {O : CellTallies nD τ sig ℕ} (h : (dat0 m c).owed t = O) :
    ((dat0 m c).owesAt 0 t : sProp 𝕄) ⊢ owing c O := by
  unfold owing Pipeline.Dat.owesAt Pipeline.owesWithin
  rw [h]
  iintro ⟨%W, -, H⟩
  iexists W
  iexact H

/-! ## The body at the call's one point -/

variable (𝒱 : Variants)

/-- The table the kernel reads is the one it is proved at. -/
def TabOk : Prop := ∀ (c : Dev nD) (j : S33.Idx), Gen.V9 m c (Proc.devRef .tc main_v52) j = wd (tab c (j 0).val)

theorem own_a (c : Dev nD) : (owns (c : Thread nD τ) (stage0_0 0) fullShare (held0 m c 0) : sProp 𝕄) = aPt c (argA m c) := owns_whole _ _ _ _
theorem own_b (c : Dev nD) : (owns (c : Thread nD τ) (stage0_1 0) fullShare (held0 m c 1) : sProp 𝕄) = bPt c (argB m c) := owns_whole _ _ _ _
theorem own_t (hT : TabOk m) (c : Dev nD) : (owns (c : Thread nD τ) (stage0_2 0) fullShare (held0 m c 2) : sProp 𝕄) = tabPt c := by
  have e : held0 m c 2 = tabB c := funext fun j => hT c j
  rw [e]
  exact owns_whole _ _ _ _

theorem call_body (hT : TabOk m) (c : Dev nD) : Pipeline.BodyObligation (dat0 m c) defs₀ 𝒱 0 Set.univ := fun t => by
  obtain rfl := Gen.fin_N0 t
  rw [Gen.bigSep_W0, Gen.bigSep_W0]
  simp only [fetched0]
  rw [Φ_start, Φ_end]
  unfold atStart entered scratch
  iintro ⟨⟨⟨⟨%K, %κ, Hc, Hbar, HDf, HDt⟩, Zf, Zt⟩, ⟨Cf, Ct, Pf, Pt⟩, Hout, Hp⟩, HO, ⟨%d0, Ha⟩, ⟨%d1, Hb⟩, ⟨%d2, Htab⟩⟩
  ihave HO := (owes_open m c (owed_start m c)) $$ HO
  ihave Ha := (Entails.of_eq (own_a m c)) $$ Ha
  ihave Hb := (Entails.of_eq (own_b m c)) $$ Hb
  ihave Htab := (Entails.of_eq (own_t m hT c)) $$ Htab
  iapply (body_run (argA m) (prodAt m c) 𝒱 c none (argB m c) (fun _ => rfl)) $$ [Hc Hbar HDf HDt Zf Zt Cf Ct Pf Pt Hout HO Ha Hb Htab]
  · unfold Before
    isplitl [Hc]; · iexact Hc
    isplitl [Hbar]; · iexact Hbar
    isplitl [HDf Cf]
    · isplitl [HDf]; · iexact HDf
      iexact Cf
    isplitl [HDt Ct]
    · isplitl [HDt]; · iexact HDt
      iexact Ct
    isplitl [Pf Zf]
    · isplitl [Pf]; · iexact Pf
      iexact Zf
    isplitl [Pt Zt]
    · isplitl [Pt]; · iexact Pt
      iexact Zt
    isplitl [Htab]; · iexact Htab
    isplitl [Ha]; · iexact Ha
    isplitl [Hb]; · iexact Hb
    isplitl [Hout]; · iexact Hout
    iexact HO
  unfold After atEnd counters scratch
  iintro ⟨Hbar, ⟨Nf, Cf⟩, ⟨Nt, Ct⟩, ⟨Pf, Zf⟩, ⟨Pt, Zt⟩, Htab, Ha, Hb, Hout, HO⟩
  isplitl [Hbar Nf Cf Nt Ct Pf Zf Pt Zt Hout Hp]
  · isplitl [Hbar]; · iexact Hbar
    isplitl [Nf Nt Zf Zt]
    · isplitl [Nf Nt]
      · isplitl [Nf]; · iexact Nf
        iexact Nt
      isplitl [Zf]; · iexact Zf
      iexact Zt
    isplitl [Cf Ct Pf Pt]
    · isplitl [Cf]; · iexact Cf
      isplitl [Ct]; · iexact Ct
      isplitl [Pf]; · iexact Pf
      iexact Pt
    isplitl [Hout]; · iexact Hout
    iexact Hp
  isplitl [HO]; · iapply (owes_close m c (owed_end m c)); iexact HO
  isplitl [Ha]; · iapply (Entails.of_eq (own_a m c).symm) $$ Ha
  isplitl [Hb]; · iapply (Entails.of_eq (own_b m c).symm) $$ Hb
  iapply (Entails.of_eq (own_t m hT c).symm) $$ Htab
end Values

end Cert.KernelIdeal.RingMM

end
-- ==== Proof.Meta.lean ====
/-
  The host's computation of the table of devices: the buffer the kernel reads holds the ring's table.
-/
module

public import proofs.«01_k».proof.Proof.Table
public import proofs.«01_k».proof.Proof.Call
public import Idealize.ShloMosaic.Lib.StableHlo.RunRead

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (V : Valuation τ sig (Elt F))

/-! ## The host's stretches, one by one -/

theorem ops0_ring (c : Dev nD) : StableHlo.after (Gen.hostOps0 c) V (Proc.devRef .tc main_c) = ringAt := by
  after_reads_simp; rfl
theorem ops0_div (c : Dev nD) : StableHlo.after (Gen.hostOps0 c) V (Proc.devRef .tc main_c_7) = constantI S_ 32 32#32 := by
  after_reads_simp
theorem ops0_start (c : Dev nD) : StableHlo.upto (Gen.hostOps0 c) V 13 (Proc.devRef .tc main_v7)
    = wrap (Host.remui (Host.divui (constantI S_ 32 (Dev.word c)) (constantI S_ 32 1#32)) (constantI S_ 32 32#32)) := by
  after_reads_simp; rfl
theorem ops0_place (c : Dev nD) : StableHlo.after (Gen.hostOps0 c) V (Proc.devRef .tc main_v9) = place c := by
  after_reads_simp
  refine congrArg (fun st => shapeCast S_ (Host.dynamicSlice S1 placeOf st Gen.sliceFits_S32_S1) Gen.shapeCasts_S1_S_) (funext fun a => ?_)
  obtain rfl : a = (0 : Fin 1) := Subsingleton.elim (α := Fin 1) _ _
  exact congrArg (fun x : IVec S_ 32 => (x (Shape.Idx.first Gen.h_S_)).toInt) (ops0_start V c)
theorem ops0_before (c : Dev nD) : StableHlo.after (Gen.hostOps0 c) V (Proc.devRef .tc main_v11) = before (place c) := by
  after_reads_simp
  refine congrArg (fun st => before (shapeCast S_ (Host.dynamicSlice S1 placeOf st Gen.sliceFits_S32_S1) Gen.shapeCasts_S1_S_)) (funext fun a => ?_)
  obtain rfl : a = (0 : Fin 1) := Subsingleton.elim (α := Fin 1) _ _
  exact congrArg (fun x : IVec S_ 32 => (x (Shape.Idx.first Gen.h_S_)).toInt) (ops0_start V c)

theorem ops1_mod (h : V (Proc.devRef .tc main_c_7) = constantI S_ 32 32#32) :
    StableHlo.after Gen.hostOps0_1 V (Proc.devRef .tc main_v12) = mod32 (s := S_) (V (Proc.devRef .tc main_v11)) := by
  after_reads_simp
  simp only [StableHlo.TRef.toBuf, StableHlo.TRef.ofBuf, cast_cast, cast_eq, h]
  rfl

theorem ops2_start : StableHlo.upto Gen.hostOps0_2 V 5 (Proc.devRef .tc main_v15) = wrap (s := S_) (V (Proc.devRef .tc main_v12)) := by
  after_reads_simp; rfl
theorem ops2_entry (h : V (Proc.devRef .tc main_c) = ringAt) :
    StableHlo.after Gen.hostOps0_2 V (Proc.devRef .tc main_v17) = entry ringAt (wrap (s := S_) (V (Proc.devRef .tc main_v12))) := by
  after_reads_simp
  rw [h]
  refine congrArg (fun st => shapeCast S_ (Host.dynamicSlice S1 ringAt st Gen.sliceFits_S32_S1) Gen.shapeCasts_S1_S_) (funext fun a => ?_)
  obtain rfl : a = (0 : Fin 1) := Subsingleton.elim (α := Fin 1) _ _
  exact congrArg (fun x : IVec S_ 32 => (x (Shape.Idx.first Gen.h_S_)).toInt) (ops2_start V)
theorem ops2_behind : StableHlo.after Gen.hostOps0_2 V (Proc.devRef .tc main_v18) = behind (V (Proc.devRef .tc main_v9)) := by
  after_reads_simp; rfl
theorem ops2_div : StableHlo.after Gen.hostOps0_2 V (Proc.devRef .tc main_c_11) = constantI S_ 32 32#32 := by
  after_reads_simp

theorem ops3_mod (h : V (Proc.devRef .tc main_c_11) = constantI S_ 32 32#32) :
    StableHlo.after Gen.hostOps0_3 V (Proc.devRef .tc main_v19) = mod32 (s := S_) (V (Proc.devRef .tc main_v18)) := by
  after_reads_simp
  simp only [StableHlo.TRef.toBuf, StableHlo.TRef.ofBuf, cast_cast, cast_eq, h]
  rfl

theorem ops4_start : StableHlo.upto Gen.hostOps0_4 V 5 (Proc.devRef .tc main_v22) = wrap (s := S_) (V (Proc.devRef .tc main_v19)) := by
  after_reads_simp; rfl
theorem ops4_entry (h : V (Proc.devRef .tc main_c) = ringAt) :
    StableHlo.after Gen.hostOps0_4 V (Proc.devRef .tc main_v24) = entry ringAt (wrap (s := S_) (V (Proc.devRef .tc main_v19))) := by
  after_reads_simp
  rw [h]
  refine congrArg (fun st => shapeCast S_ (Host.dynamicSlice S1 ringAt st Gen.sliceFits_S32_S1) Gen.shapeCasts_S1_S_) (funext fun a => ?_)
  obtain rfl : a = (0 : Fin 1) := Subsingleton.elim (α := Fin 1) _ _
  exact congrArg (fun x : IVec S_ 32 => (x (Shape.Idx.first Gen.h_S_)).toInt) (ops4_start V)
theorem ops4_down : StableHlo.after Gen.hostOps0_4 V (Proc.devRef .tc main_v29) = down (V (Proc.devRef .tc main_v9)) := by
  after_reads_simp; rfl
theorem ops4_div : StableHlo.after Gen.hostOps0_4 V (Proc.devRef .tc main_c_16) = constantI S_ 32 32#32 := by
  after_reads_simp

theorem ops5_mod (h : V (Proc.devRef .tc main_c_16) = constantI S_ 32 32#32) :
    StableHlo.after Gen.hostOps0_5 V (Proc.devRef .tc main_v30) = mod32 (s := S16) (V (Proc.devRef .tc main_v29)) := by
  after_reads_simp
  simp only [StableHlo.TRef.toBuf, StableHlo.TRef.ofBuf, cast_cast, cast_eq, h]
  rfl

theorem ops6_devs (h : V (Proc.devRef .tc main_c) = ringAt) (p : IVec S16 32) (hp : V (Proc.devRef .tc main_v30) = mod32 p) :
    StableHlo.after Gen.hostOps0_6 V (Proc.devRef .tc main_v37) = devs16 p := by
  after_reads_simp
  rw [h, hp]; rfl
theorem ops6_up : StableHlo.after Gen.hostOps0_6 V (Proc.devRef .tc main_v41) = up (V (Proc.devRef .tc main_v9)) := by
  after_reads_simp; rfl
theorem ops6_div : StableHlo.after Gen.hostOps0_6 V (Proc.devRef .tc main_c_20) = constantI S_ 32 32#32 := by
  after_reads_simp

theorem ops7_mod (h : V (Proc.devRef .tc main_c_20) = constantI S_ 32 32#32) :
    StableHlo.after Gen.hostOps0_7 V (Proc.devRef .tc main_v42) = mod32 (s := S15) (V (Proc.devRef .tc main_v41)) := by
  after_reads_simp
  simp only [StableHlo.TRef.toBuf, StableHlo.TRef.ofBuf, cast_cast, cast_eq, h]
  rfl

theorem ops8_left : StableHlo.upto Gen.hostOps0_8 V 11 (Proc.devRef .tc main_v50) = broadcastInDim S1 ![] Gen.bcast_S_S1 (V (Proc.devRef .tc main_v17)) := by
  after_reads_simp
theorem ops8_right : StableHlo.upto Gen.hostOps0_8 V 11 (Proc.devRef .tc main_v51) = broadcastInDim S1 ![] Gen.bcast_S_S1 (V (Proc.devRef .tc main_v24)) := by
  after_reads_simp
theorem ops8_down : StableHlo.upto Gen.hostOps0_8 V 11 (Proc.devRef .tc main_v37) = V (Proc.devRef .tc main_v37) := by
  after_reads_simp
theorem ops8_up (h : V (Proc.devRef .tc main_c) = ringAt) (p : IVec S15 32) (hp : V (Proc.devRef .tc main_v42) = mod32 p) :
    StableHlo.upto Gen.hostOps0_8 V 11 (Proc.devRef .tc main_v49) = devs15 p := by
  after_reads_simp
  rw [h, hp]; rfl
theorem ops8_words (h : V (Proc.devRef .tc main_c) = ringAt) (p : IVec S15 32) (hp : V (Proc.devRef .tc main_v42) = mod32 p) :
    StableHlo.after Gen.hostOps0_8 V (Proc.devRef .tc main_v52)
      = words (V (Proc.devRef .tc main_v17)) (V (Proc.devRef .tc main_v24)) (V (Proc.devRef .tc main_v37)) (devs15 p) := by
  after_reads_simp
  have cong : ∀ (l l' r r' : IVec S1 32) (a a' : IVec S16 32) (b b' : IVec S15 32), l = l' → r = r' → a = a' → b = b' →
      concatenate S33 0 [⟨S1, l⟩, ⟨S1, r⟩, ⟨S16, a⟩, ⟨S15, b⟩] Gen.concatenates_S1_S1_S16_S15_S33_d0
        = concatenate S33 0 [⟨S1, l'⟩, ⟨S1, r'⟩, ⟨S16, a'⟩, ⟨S15, b'⟩] Gen.concatenates_S1_S1_S16_S15_S33_d0 := by
    rintro _ _ _ _ _ _ _ _ rfl rfl rfl rfl; rfl
  exact cong _ _ _ _ _ _ _ _ (ops8_left V) (ops8_right V) (ops8_down V) (ops8_up V h p hp)

/-! ## The table -/

variable (m : (ℓ : Loc nD τ sig) → Buf (Elt F) ℓ) (c : Dev nD)

theorem ring_at0 : Gen.V1 m c (Proc.devRef .tc main_c) = ringAt := ops0_ring _ c
theorem place_at0 : Gen.V1 m c (Proc.devRef .tc main_v9) = place c := ops0_place _ c
theorem v12_at : Gen.V2 m c (Proc.devRef .tc main_v12) = mod32 (before (place c)) := by
  rw [show Gen.V2 m c (Proc.devRef .tc main_v12) = _ from ops1_mod _ (ops0_div _ c)]
  exact congrArg (mod32 (s := S_)) (ops0_before _ c)
theorem ring_at1 : Gen.V2 m c (Proc.devRef .tc main_c) = ringAt := (Gen.V2_of m c _ (by decide)).trans (ring_at0 m c)
theorem place_at1 : Gen.V2 m c (Proc.devRef .tc main_v9) = place c := (Gen.V2_of m c _ (by decide)).trans (place_at0 m c)
theorem v17_at2 : Gen.V3 m c (Proc.devRef .tc main_v17) = devAt (before (place c)) := by
  rw [show Gen.V3 m c (Proc.devRef .tc main_v17) = _ from ops2_entry _ (ring_at1 m c), v12_at]; rfl
theorem v18_at : Gen.V3 m c (Proc.devRef .tc main_v18) = behind (place c) := by
  rw [show Gen.V3 m c (Proc.devRef .tc main_v18) = _ from ops2_behind _, place_at1]
theorem ring_at2 : Gen.V3 m c (Proc.devRef .tc main_c) = ringAt := (Gen.V3_of m c _ (by decide)).trans (ring_at1 m c)
theorem place_at2 : Gen.V3 m c (Proc.devRef .tc main_v9) = place c := (Gen.V3_of m c _ (by decide)).trans (place_at1 m c)
theorem v19_at : Gen.V4 m c (Proc.devRef .tc main_v19) = mod32 (behind (place c)) := by
  rw [show Gen.V4 m c (Proc.devRef .tc main_v19) = _ from ops3_mod _ (ops2_div _), v18_at]
theorem ring_at3 : Gen.V4 m c (Proc.devRef .tc main_c) = ringAt := (Gen.V4_of m c _ (by decide)).trans (ring_at2 m c)
theorem place_at3 : Gen.V4 m c (Proc.devRef .tc main_v9) = place c := (Gen.V4_of m c _ (by decide)).trans (place_at2 m c)
theorem v17_at3 : Gen.V4 m c (Proc.devRef .tc main_v17) = devAt (before (place c)) := (Gen.V4_of m c _ (by decide)).trans (v17_at2 m c)
theorem v24_at4 : Gen.V5 m c (Proc.devRef .tc main_v24) = devAt (behind (place c)) := by
  rw [show Gen.V5 m c (Proc.devRef .tc main_v24) = _ from ops4_entry _ (ring_at3 m c), v19_at]; rfl
theorem v29_at : Gen.V5 m c (Proc.devRef .tc main_v29) = down (place c) := by
  rw [show Gen.V5 m c (Proc.devRef .tc main_v29) = _ from ops4_down _, place_at3]
theorem ring_at4 : Gen.V5 m c (Proc.devRef .tc main_c) = ringAt := (Gen.V5_of m c _ (by decide)).trans (ring_at3 m c)
theorem place_at4 : Gen.V5 m c (Proc.devRef .tc main_v9) = place c := (Gen.V5_of m c _ (by decide)).trans (place_at3 m c)
theorem v17_at4 : Gen.V5 m c (Proc.devRef .tc main_v17) = devAt (before (place c)) := (Gen.V5_of m c _ (by decide)).trans (v17_at3 m c)
theorem v30_at : Gen.V6 m c (Proc.devRef .tc main_v30) = mod32 (down (place c)) := by
  rw [show Gen.V6 m c (Proc.devRef .tc main_v30) = _ from ops5_mod _ (ops4_div _), v29_at]
theorem ring_at5 : Gen.V6 m c (Proc.devRef .tc main_c) = ringAt := (Gen.V6_of m c _ (by decide)).trans (ring_at4 m c)
theorem place_at5 : Gen.V6 m c (Proc.devRef .tc main_v9) = place c := (Gen.V6_of m c _ (by decide)).trans (place_at4 m c)
theorem v37_at6 : Gen.V7 m c (Proc.devRef .tc main_v37) = devs16 (down (place c)) := ops6_devs _ (ring_at5 m c) _ (v30_at m c)
theorem v41_at : Gen.V7 m c (Proc.devRef .tc main_v41) = up (place c) := by
  rw [show Gen.V7 m c (Proc.devRef .tc main_v41) = _ from ops6_up _, place_at5]
theorem v42_at : Gen.V8 m c (Proc.devRef .tc main_v42) = mod32 (up (place c)) := by
  rw [show Gen.V8 m c (Proc.devRef .tc main_v42) = _ from ops7_mod _ (ops6_div _), v41_at]
theorem ring_at7 : Gen.V8 m c (Proc.devRef .tc main_c) = ringAt :=
  (Gen.V8_of m c _ (by decide)).trans ((Gen.V7_of m c _ (by decide)).trans (ring_at5 m c))
theorem v17_at7 : Gen.V8 m c (Proc.devRef .tc main_v17) = devAt (before (place c)) :=
  (Gen.V8_of m c _ (by decide)).trans ((Gen.V7_of m c _ (by decide)).trans ((Gen.V6_of m c _ (by decide)).trans (v17_at4 m c)))
theorem v24_at7 : Gen.V8 m c (Proc.devRef .tc main_v24) = devAt (behind (place c)) :=
  (Gen.V8_of m c _ (by decide)).trans ((Gen.V7_of m c _ (by decide)).trans ((Gen.V6_of m c _ (by decide)).trans (v24_at4 m c)))
theorem v37_at7 : Gen.V8 m c (Proc.devRef .tc main_v37) = devs16 (down (place c)) := (Gen.V8_of m c _ (by decide)).trans (v37_at6 m c)

/-- The buffer the kernel reads its devices from holds the table computed from the device's place. -/
theorem v52_at : Gen.V9 m c (Proc.devRef .tc main_v52) = tabFrom (place c) := by
  rw [show Gen.V9 m c (Proc.devRef .tc main_v52) = _ from ops8_words _ (ring_at7 m c) _ (v42_at m c), v17_at7, v24_at7, v37_at7]; rfl

/-- The host computes the table the kernel's ring is proved at. -/
theorem tab_ok : TabOk m := fun c j => by
  rw [v52_at m c, place_eq c, ← tabFrom_eq c (j 0)]
  exact congrArg _ (funext fun a => by fin_cases a; rfl)

end Cert.KernelIdeal.RingMM

end
-- ==== Proof.Region.lean ====
/-
  The kernel's call as a region of the program: what is opened when it is entered and closed when it is left.
-/
module

public import proofs.«01_k».proof.Proof.Call

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-! ## The kernel's own semaphores -/

/-- For each direction its cells, then the result copy's. -/
def osem (x : Bool × Fin 14) : SemLoc sig := if h : x.2.val < 13 then oloc (x.1, ⟨x.2.val, h⟩) else .dma (stgS x.1)

theorem osem_facts : Pipeline.OwnSemFacts spec0 osem := by decide +kernel

theorem fourteen (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

theorem osem_at (d : Bool) : osem (d, 0) = .dma (recvS d 0 0) ∧ osem (d, 1) = .dma (recvS d 1 0) ∧ osem (d, 2) = .dma (recvS d 2 0)
    ∧ osem (d, 3) = .dma (sendS d 0 0) ∧ osem (d, 4) = .dma (sendS d 1 0) ∧ osem (d, 5) = .dma (sendS d 2 0)
    ∧ osem (d, 6) = .dma (recvS d 0 1) ∧ osem (d, 7) = .dma (recvS d 1 1) ∧ osem (d, 8) = .dma (recvS d 2 1)
    ∧ osem (d, 9) = .dma (sendS d 0 1) ∧ osem (d, 10) = .dma (sendS d 1 1) ∧ osem (d, 11) = .dma (sendS d 2 1)
    ∧ osem (d, 12) = .reg (credS d) ∧ osem (d, 13) = .dma (stgS d) := by
  cases d <;> decide +kernel

theorem own_dir (c : Dev nD) (d : Bool) : bigSep Finset.univ (fun i : Fin 14 => (semVal ((c : Thread nD τ), osem (d, i)) 0 : sProp 𝕄))
    ⊣⊢ iprop(cnts c d ∗ semVal ((c : Thread nD τ), SemLoc.dma (stgS d)) 0) := by
  obtain ⟨h0, h1, h2, h3, h4, h5, h6, h7, h8, h9, h10, h11, h12, h13⟩ := osem_at d
  rw [fourteen, h0, h1, h2, h3, h4, h5, h6, h7, h8, h9, h10, h11, h12, h13]
  unfold cnts cnt
  refine ⟨?_, ?_⟩
  · iintro ⟨R0, R1, R2, S0, S1, S2, Q0, Q1, Q2, U0, U1, U2, C, Z⟩
    isplitr [Z]
    · isplitl [R0 R1 R2 S0 S1 S2]
      · isplitl [R0 R1 R2]
        · isplitl [R0]; · iexact R0
          isplitl [R1]; · iexact R1
          iexact R2
        isplitl [S0]; · iexact S0
        isplitl [S1]; · iexact S1
        iexact S2
      isplitl [Q0 Q1 Q2 U0 U1 U2]
      · isplitl [Q0 Q1 Q2]
        · isplitl [Q0]; · iexact Q0
          isplitl [Q1]; · iexact Q1
          iexact Q2
        isplitl [U0]; · iexact U0
        isplitl [U1]; · iexact U1
        iexact U2
      iexact C
    iexact Z
  · iintro ⟨⟨⟨⟨R0, R1, R2⟩, S0, S1, S2⟩, ⟨⟨Q0, Q1, Q2⟩, U0, U1, U2⟩, C⟩, Z⟩
    isplitl [R0]; · iexact R0
    isplitl [R1]; · iexact R1
    isplitl [R2]; · iexact R2
    isplitl [S0]; · iexact S0
    isplitl [S1]; · iexact S1
    isplitl [S2]; · iexact S2
    isplitl [Q0]; · iexact Q0
    isplitl [Q1]; · iexact Q1
    isplitl [Q2]; · iexact Q2
    isplitl [U0]; · iexact U0
    isplitl [U1]; · iexact U1
    isplitl [U2]; · iexact U2
    isplitl [C]; · iexact C
    iexact Z

theorem own_prod (c : Dev nD) : (Pipeline.ownSems0 osem c : sProp 𝕄)
    = iprop(bigSep Finset.univ (fun i : Fin 14 => semVal ((c : Thread nD τ), osem (false, i)) 0) ∗ bigSep Finset.univ (fun i : Fin 14 => semVal ((c : Thread nD τ), osem (true, i)) 0)) := by
  unfold Pipeline.ownSems0
  rw [BI.bigSep_univ_prod, two]

theorem own_open (c : Dev nD) : (Pipeline.ownSems0 osem c : sProp 𝕄) ⊢ counters c := by
  rw [own_prod]
  unfold counters
  iintro ⟨Hf, Ht⟩
  ihave Hf := (own_dir c false).1 $$ Hf
  ihave Ht := (own_dir c true).1 $$ Ht
  icases Hf with ⟨Nf, Zf⟩
  icases Ht with ⟨Nt, Zt⟩
  isplitl [Nf Nt]
  · isplitl [Nf]; · iexact Nf
    iexact Nt
  isplitl [Zf]; · iexact Zf
  iexact Zt
theorem own_close (c : Dev nD) : (counters c : sProp 𝕄) ⊢ Pipeline.ownSems0 osem c := by
  rw [own_prod]
  unfold counters
  iintro ⟨⟨Nf, Nt⟩, Zf, Zt⟩
  isplitl [Nf Zf]
  · iapply (own_dir c false).2
    isplitl [Nf]; · iexact Nf
    iexact Zf
  iapply (own_dir c true).2
  isplitl [Nt]; · iexact Nt
  iexact Zt

/-! ## The call as a region of the program -/

section Region
variable (m : (ℓ : Loc nD τ sig) → Buf (Elt F) ℓ)

/-- What the launch deals to the barrier's part of a device. -/
def barG (c : Dev nD) : sProp 𝕄 :=
  iprop((dutyTok ER (barC (nx true c)) 0 0 ∗ reached ER (barC (nx true c)) 0) ∗ (dutyTok ER (barC (nx false c)) 0 1 ∗ reached ER (barC (nx false c)) 0)
    ∗ atPos ER (barC c) 0 ∅ 0 ∗ cred (tallyAt (barC c) 0 2))

/-- What a device keeps for the call. -/
def dealt (c : Dev nD) : sProp 𝕄 :=
  iprop(∃ (K : GSem nD τ sig → ℕ) (κ : Key → ℕ), (bigSep ringCells (fun g => cellInv ER (sched (argA m)) (K g) g) ∗ bigSep Finset.univ (fun k : Key => slotInv ES (κ k) k (slotA k)))
    ∗ barG c ∗ DirG c false ∗ DirG c true)

theorem region_open (c : Dev nD) : iprop(dealt m c ∗ Pipeline.ownSems0 osem c ∗ levAts L lv) ⊢ (|={Set.univ}=> entered m c : sProp 𝕄) := by
  unfold dealt entered
  iintro ⟨⟨%K, %κ, ⟨#HI, #HJ⟩, Hb, Df, Dt⟩, Hs, #HL⟩
  ihave Hs := (own_open c) $$ Hs
  unfold counters
  icases Hs with ⟨⟨Nf, Nt⟩, Zf, Zt⟩
  ihave #Hc := (show iprop(bigSep ringCells (fun g => cellInv ER (sched (argA m)) (K g) g) ∗ bigSep Finset.univ (fun k : Key => slotInv ES (κ k) k (slotA k)) ∗ levAts L lv)
    ⊢ (ctx (argA m) K κ : sProp 𝕄) from Entails.of_eq (by unfold ctx; rw [Lev_eq])) $$ []
  · isplitl []; · iexact HI
    isplitl []; · iexact HJ
    iexact HL
  imod (Dir_enter (argA m) c false) $$ [Df Nf] with ⟨Df, Rf⟩
  · isplitl []; · iexact Hc
    isplitl [Df]; · iexact Df
    iexact Nf
  imod (Dir_enter (argA m) c true) $$ [Dt Nt] with ⟨Dt, Rt⟩
  · isplitl []; · iexact Hc
    isplitl [Dt]; · iexact Dt
    iexact Nt
  imodintro
  isplitr [Zf Zt]
  · iexists K; iexists κ
    isplitl []; · iexact Hc
    isplitl [Hb Rf Rt]
    · unfold barG barSt
      icases Hb with ⟨⟨T0, P0⟩, ⟨T1, P1⟩, Ha, Hcr⟩
      isplitl [T0 P0 Rt]
      · isplitl [T0]; · iexact T0
        isplitl [P0]; · iexact P0
        iexact Rt
      isplitl [T1 P1 Rf]
      · isplitl [T1]; · iexact T1
        isplitl [P1]; · iexact P1
        iexact Rf
      isplitl [Ha]; · iexact Ha
      iexact Hcr
    isplitl [Df]; · iexact Df
    iexact Dt
  isplitl [Zf]; · iexact Zf
  iexact Zt

/-- The proof data of the program's one call. -/
def pdats : (p : Fin 1) → (c : Dev nD) → Pipeline.Dat τ (Elt F) ℕ ℕ UU ℕ (cfgs p) c := fun _ c => dat0 m c

/-- The result's buffer. -/
def outRef : DevRef τ sig := Proc.devRef .tc main_v53
/-- The unscoped buffers the windows do not read. -/
def restRefs : Finset (DevRef τ sig) := Pipeline.ucRefs τ sig \ Pipeline.arrRefs (τ := τ) spec0

theorem out_mem : ({outRef} : Finset (DevRef τ sig)) ⊆ restRefs := by
  intro b hb
  rw [Finset.mem_singleton] at hb
  subst hb
  unfold restRefs
  refine Finset.mem_sdiff.2 ⟨Finset.mem_filter.mpr ⟨StableHlo.devRef_mem_tcRefs main_v53, by decide⟩, ?_⟩
  decide

theorem held_out (c : Dev nD) (W : Valuation τ sig (Elt F)) :
    (StableHlo.held (c.tc : Thread nD τ) {outRef} W : sProp 𝕄) = iprop(outL c ↦[Finset.univ]{fullShare} (show Buf (Elt F) (outL c) from W outRef)) := by
  unfold StableHlo.held
  rw [bigSep_singleton]
  rfl

theorem scratch_eq (c : Dev nD) : (Pipeline.scopedRest (Ix := ℕ) (Name := ℕ) (U := UU) (Lvl := ℕ) (Val := Elt F) spec0 c : sProp 𝕄) = scratch c := by
  rw [Gen.scopedRest0_eq]
  rfl

theorem region_in (c : Dev nD) : iprop(Pipeline.scopedRest spec0 c ∗ (∃ r, prngReg c r) ∗ StableHlo.held (c.tc : Thread nD τ) {outRef} (Gen.V9 m c) ∗ entered m c)
    ⊢ ((dat0 m c).Φ 0 : sProp 𝕄) := by
  rw [show (dat0 m c).Φ 0 = atStart m c from Φ_start m c, scratch_eq, held_out]
  unfold atStart
  iintro ⟨Hs, Hp, Ho, He⟩
  isplitl [He]; · iexact He
  isplitl [Hs]; · iexact Hs
  isplitl [Ho]; · iexists _; iexact Ho
  iexact Hp

theorem region_out (c : Dev nD) : ((dat0 m c).Φ (Fin.last cfg0.N) : sProp 𝕄)
    ⊢ iprop(Pipeline.scopedRest spec0 c ∗ (∃ r, prngReg c r) ∗ StableHlo.held (c.tc : Thread nD τ) {outRef} (Gen.V10 m (outs m) c) ∗ Pipeline.ownSems0 osem c ∗ semVal (barC c) 0) := by
  rw [show (dat0 m c).Φ (Fin.last cfg0.N) = atEnd m c from Φ_end m c, scratch_eq, held_out,
    show Gen.V10 m (outs m) c outRef = _ from outs_main m c]
  unfold atEnd
  iintro ⟨Hb, Hc, Hs, Ho, Hp⟩
  isplitl [Hs]; · iexact Hs
  isplitl [Hp]; · iexact Hp
  isplitl [Ho]; · iexact Ho
  isplitl [Hc]; · iapply (own_close c); iexact Hc
  iexact Hb

theorem kit : Pipeline.PLaunchFacts (nD := nD) (τ := τ) (pcfgs (F := F)) 0 where
  cellOf_inj a := by rw [Subsingleton.elim a Gen.adm]; exact Gen.cellOf_inj
  win := Gen.winFacts0
  pre := Pipeline.PreFacts.none _
  block_pos := Gen.block_pos0
  arr_whole := Gen.arr_whole0
  stage_whole := Gen.stage_whole0

theorem arr_ne (w : Fin 3) : (Proc.devRef .tc (Pipeline.arrRef spec0 w) : DevRef τ sig) ≠ Proc.devRef .tc main_v53 := by
  revert w; decide

theorem arr_last (c : Dev nD) (w : Fin 3) : (dat0 m c).arrAt w cfg0.N = Gen.V9 m c (Proc.devRef .tc (Pipeline.arrRef spec0 w)) := by
  rw [show cfg0.N = 0 + 1 from Gen.N_0]
  unfold Pipeline.Dat.arrAt
  rw [dif_pos (show 0 < cfg0.N by rw [show cfg0.N = 1 from Gen.N_0]; decide), if_neg]
  · rfl
  · match w with
    | 0 => decide
    | 1 => decide
    | 2 => decide

theorem lv_win (c : Dev nD) (w : Fin 3) (s : Fin (spec0 w).nbuf) : lv ((c : Thread nD τ), SemLoc.dma ((spec0 w).sem s)) 0 ≤ 0 := by
  match w with
  | 0 => exact le_of_eq rfl
  | 1 => exact le_of_eq rfl
  | 2 => exact le_of_eq rfl

theorem owed_above (c : Dev nD) (t : Fin (cfg0.N + 1)) (g : GSem nD τ sig) (i : ℕ) (h : 0 < (dat0 m c).owed t g i) : i ∈ L g ∧ 0 < lv g i := by
  have e : (dat0 m c).owed t = if t.val = 0 then OI c else 0 := rfl
  rw [e] at h
  split at h
  · exact OI_above c g i h
  · exact absurd h (Nat.lt_irrefl 0)

variable (𝒱 : Variants)

local notation "ℝ𝕊" => Pipeline.RegionSeg (pcfgs (F := F)) Gen.adm (pdats m) 0 defs₀ 𝒱 L lv

set_option backward.isDefEq.respectTransparency.types false in
/-- The call, from the contents the host operations leave to those it leaves. -/
def region (hT : TabOk m) : ℝ𝕊 0 :=
  Pipeline.RegionSeg.ofTalk (pcfgs (F := F)) Gen.adm (pdats m) 0 defs₀ 𝒱 L lv 0 osem osem_facts
    {outRef} restRefs out_mem kit rfl (fun c => (call_body m 𝒱 hT c).loose)
    (fun _ => 0) OI (fun c => (owed_start m c).trans (zero_add _).symm) (owed_end m) (fun _ => rfl)
    (fun _ w => by unfold Pipeline.Dat.share; split <;> rfl)
    (Gen.V9 m) (Gen.V10 m (outs m))
    (fun c b hb => outs_ne m c b fun h => (Finset.mem_sdiff.1 hb).2 (Finset.mem_singleton.2 h))
    (dealt m) (fun c => semVal (barC c) 0) (entered m) (fun c => semVal (barC c) 0) (region_open m) (region_in m) (region_out m)
    (fun c => by iintro H; imodintro; iexact H)
    (fun _ => 0)
    ⟨fun c w s => by rw [L_tc]; decide, fun c w s => lv_win c w s, fun c t g i h => owed_above m c t g i h⟩
    (fun _ => iprop(emp))
    (fun _ _ => rfl) (fun c w => (arr_last m c w).trans (outs_ne m c _ (arr_ne w)).symm)

end Region

end Cert.KernelIdeal.RingMM

end
-- ==== Proof.Run.lean ====
/-
  The program's run: the launch, the host operations, the call, the end.
-/
module

public import proofs.«01_k».proof.Proof.Region

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-! ## The launch -/

theorem bar_sems (c : Dev nD) : (unscopedSems0 c : sProp 𝕄) = semVal (barC c) 0 := by
  unfold unscopedSems0
  rw [show (Finset.univ.filter fun sm : SemLoc sig => ¬ sm.isScoped .tc) = {SemLoc.reg barS} from by decide +kernel, bigSep_singleton]

theorem unscoped_bar : ∀ sm : SemLoc sig, sm.isScoped .tc = false → sm = .reg barS := by decide +kernel

/-- A resource dealt to device 0 alone. -/
def at0 (X : sProp 𝕄) (c : Dev nD) : sProp 𝕄 := if c = 0 then X else iprop(emp)

theorem at0_all (X : sProp 𝕄) : bigSep Finset.univ (at0 X) = X := by
  have hr : bigSep (Finset.univ.erase (0 : Dev nD)) (at0 X) = (BI.emp : sProp 𝕄) := by
    rw [bigSep_congr (s := Finset.univ.erase (0 : Dev nD)) (Ψ := fun _ => (BI.emp : sProp 𝕄))
      fun c hc => by unfold at0; rw [if_neg (Finset.ne_of_mem_erase hc)]; rfl]
    exact BI.bigSep_emp_const _
  rw [bigSep_univ_at _ (0 : Dev nD), hr]
  unfold at0
  rw [if_pos rfl]
  exact BI.equiv_iff.mp sep_emp

/-- The rings' ghost state, whole. -/
def seed : Dev nD → sProp 𝕄 := at0 iprop(BI.own (ER uCells) ∗ BI.own (ES uSlots))
/-- The launch's user element. -/
def u₀ : UU := (initOf (Pipeline.cells cfgs Gen.cellOf_inj) (Pipeline.launchToks cfgs Gen.cellOf_inj), (uCells, (uSlots, 1)))

theorem seed_of : (ownU u₀ : sProp 𝕄)
    ⊢ |={Set.univ}=> iprop(BI.own (EP (initOf (Pipeline.cells cfgs Gen.cellOf_inj) (Pipeline.launchToks cfgs Gen.cellOf_inj))) ∗ bigSep Finset.univ seed) := by
  unfold u₀ seed
  rw [at0_all]
  iintro H
  ihave H := (ownU_pair _ _) $$ H
  icases H with ⟨HP, HX⟩
  ihave HX := (own_pair_emb _ _ _) $$ HX
  icases HX with ⟨HR, HX⟩
  ihave HX := (own_pair_emb _ _ _) $$ HX
  icases HX with ⟨HS, -⟩
  imodintro
  isplitl [HP]; · iexact HP
  isplitl [HR]; · iexact HR
  iexact HS

section Launch
variable (m : (ℓ : Loc nD τ sig) → Buf (Elt F) ℓ)

/-- What rides beside the buffers: before the call, then after. -/
def aside : Fin 2 → Dev nD → sProp 𝕄
  | 0 => fun c => iprop((∃ r, prngReg c r) ∗ dealt m c ∗ owing c (OI c))
  | 1 => fun c => iprop(semVal (barC c) 0 ∗ owing c 0)

/-- A device's part of the launch that is its own from the start. -/
def mine (c : Dev nD) : sProp 𝕄 :=
  iprop(StableHlo.held (c : Thread nD τ) (Pipeline.ucRefs τ sig) (Gen.V0 m c) ∗ (∃ r, prngReg c r) ∗ owing c (OI c)
    ∗ (cred (tallyAt (barC c) 0 2) ∗ crd c false ∗ crd c true))

theorem deal_one (K : GSem nD τ sig → ℕ) (κ : Key → ℕ) (c : Dev nD) :
    iprop(recs (argA m) K κ ∗ (mine m c ∗ lin c)) ⊢ iprop(StableHlo.held (c : Thread nD τ) (Pipeline.ucRefs τ sig) (Gen.V0 m c) ∗ aside m 0 c) := by
  unfold recs mine lin aside
  iintro ⟨⟨#HI, #HJ, #HR⟩, ⟨Hh, Hp, HO, Hb, Bf, Bt⟩, Ha, ⟨Of, Ot⟩, ⟨Tf, Tt⟩, ⟨Wf, Wt⟩, Rf, Rt⟩
  isplitl [Hh]; · iexact Hh
  isplitl [Hp]; · iexact Hp
  isplitr [HO]
  · unfold dealt
    iexists K; iexists κ
    isplitl []
    · isplitl []; · iexact HI
      iexact HJ
    unfold DirT
    icases Tf with ⟨Sf, Gf, Xf⟩
    icases Tt with ⟨St, Gt, Xt⟩
    isplitl [Hb Ha Xf Xt]
    · unfold barG
      isplitl [Xf]
      · isplitl [Xf]; · iexact Xf
        iapply (bigSep_get (Finset.mem_univ (nx true c)) (fun e : Dev nD => (reached ER (barC e) 0 : sProp 𝕄))); iexact HR
      isplitl [Xt]
      · isplitl [Xt]; · iexact Xt
        iapply (bigSep_get (Finset.mem_univ (nx false c)) (fun e : Dev nD => (reached ER (barC e) 0 : sProp 𝕄))); iexact HR
      isplitl [Ha]; · iexact Ha
      iexact Hb
    unfold rds
    icases Rf with ⟨Rf0, Rf1, Rf2⟩
    icases Rt with ⟨Rt0, Rt1, Rt2⟩
    isplitl [Of Sf Wf Rf0 Rf1 Rf2 Gf Bf]
    · unfold DirG grPre
      isplitl [Of]; · iexact Of
      isplitl [Sf]; · iexact Sf
      isplitl [Wf]; · iexact Wf
      isplitl [Rf0 Rf1 Rf2 Gf]
      · isplitl [Rf0]; · iexact Rf0
        isplitl [Rf1]; · iexact Rf1
        isplitl [Rf2]; · iexact Rf2
        iexact Gf
      unfold crd
      iexact Bf
    unfold DirG grPre
    isplitl [Ot]; · iexact Ot
    isplitl [St]; · iexact St
    isplitl [Wt]; · iexact Wt
    isplitl [Rt0 Rt1 Rt2 Gt]
    · isplitl [Rt0]; · iexact Rt0
      isplitl [Rt1]; · iexact Rt1
      isplitl [Rt2]; · iexact Rt2
      iexact Gt
    unfold crd
    iexact Bt
  iexact HO

theorem launch (ρ : Dev nD → PrngReg) :
    iprop((bigSep Finset.univ fun c : Dev nD => iprop(unscopedBufs c (fun b => m ((c.tc : Thread nD τ).loc b)) ∗ unscopedSems0 c
        ∗ owes (c.tc : Thread nD τ) (OI c) ∅ ∗ Pipeline.launchCred OI c ∗ prngReg c (ρ c) ∗ seed c)) ∗ levAts L lv)
      ⊢ (|={Set.univ}=> bigSep Finset.univ fun c : Dev nD => iprop(StableHlo.held (c : Thread nD τ) (Pipeline.ucRefs τ sig) (Gen.V0 m c) ∗ aside m 0 c) : sProp 𝕄) := by
  have h1 (c : Dev nD) : iprop(unscopedBufs c (fun b => m ((c.tc : Thread nD τ).loc b)) ∗ unscopedSems0 c
        ∗ owes (c.tc : Thread nD τ) (OI c) ∅ ∗ Pipeline.launchCred OI c ∗ prngReg c (ρ c) ∗ seed c)
      ⊢ (iprop(mine m c ∗ (semVal (barC c) 0 ∗ seed c)) : sProp 𝕄) := by
    rw [bar_sems]
    unfold mine
    rw [← Pipeline.unscopedBufs_held (Ix := ℕ) (Name := ℕ) (U := UU) (Lvl := ℕ) c (Gen.V0 m c)]
    iintro ⟨Hh, Hb, HO, Hc, Hp, Hs⟩
    isplitr [Hb Hs]
    · isplitl [Hh]; · iexact Hh
      isplitl [Hp]; · iexists (ρ c); iexact Hp
      isplitl [HO]; · unfold owing; iexists ∅; iexact HO
      iapply (launch_creds c); iexact Hc
    isplitl [Hb]; · iexact Hb
    iexact Hs
  iintro ⟨H, -⟩
  ihave H := (all_mono h1) $$ H
  ihave H := (halves _ _) $$ H
  icases H with ⟨Hm, H⟩
  ihave H := (halves _ _) $$ H
  icases H with ⟨Hb, Hs⟩
  ihave Hs := (Entails.of_eq (show bigSep Finset.univ seed = (iprop(BI.own (ER uCells) ∗ BI.own (ES uSlots)) : sProp 𝕄) from at0_all _)) $$ Hs
  icases Hs with ⟨HR, HS⟩
  imod (ghost_init (argA m)) $$ [Hb HR HS] with ⟨%K, %κ, Hrec, Hlin⟩
  · isplitl [Hb]; · iexact Hb
    isplitl [HR]; · iexact HR
    iexact HS
  imodintro
  ihave H := (paired (s := Finset.univ) (mine m) (lin (F := F))) $$ [Hm Hlin]
  · isplitl [Hm]; · iexact Hm
    iexact Hlin
  iapply (bigSep_with_persistent (R := recs (argA m) K κ) (fun c _ => deal_one m K κ c))
  isplitl [Hrec]; · iexact Hrec
  iexact H

/-! ## The call's ends -/

variable (𝒱 : Variants)
/-- The kernel calls no label of its own. -/
abbrev noVar : Variants := Variants.none

theorem held_split (c : Dev nD) (V : Valuation τ sig (Elt F)) : (StableHlo.held (c : Thread nD τ) (Pipeline.ucRefs τ sig) V : sProp 𝕄)
    = iprop(StableHlo.held (c : Thread nD τ) (Pipeline.arrRefs (τ := τ) spec0) V ∗ StableHlo.held (c : Thread nD τ) restRefs V) :=
  StableHlo.held_sub_split (c : Thread nD τ) (Pipeline.arrRefs_sub_ucRefs spec0 (by decide)) V

theorem region_pre (hT : TabOk m) (c : Dev nD) :
    iprop(StableHlo.held (c : Thread nD τ) (Pipeline.ucRefs τ sig) (Gen.V9 m c) ∗ aside m 0 c) ⊢ (region m 𝒱 hT).pre c := by
  show _ ⊢ iprop(StableHlo.held (c.tc : Thread nD τ) (Pipeline.arrRefs (τ := τ) spec0) (Gen.V9 m c) ∗ (∃ r, prngReg c r)
    ∗ (StableHlo.held (c.tc : Thread nD τ) restRefs (Gen.V9 m c) ∗ emp) ∗ dealt m c ∗ ∃ Wd, owes (c : Thread nD τ) (0 + OI c) Wd)
  rw [zero_add, held_split]
  unfold aside owing
  iintro ⟨⟨Ha, Hr⟩, Hp, Hd, HO⟩
  isplitl [Ha]; · iexact Ha
  isplitl [Hp]; · iexact Hp
  isplitl [Hr]
  · isplitl [Hr]; · iexact Hr
    iempintro
  isplitl [Hd]; · iexact Hd
  iexact HO

theorem region_post (hT : TabOk m) (c : Dev nD) : (region m 𝒱 hT).post c
    ⊢ iprop(StableHlo.held (c : Thread nD τ) (Pipeline.ucRefs τ sig) (Gen.V10 m (outs m) c) ∗ aside m 1 c) := by
  show iprop(StableHlo.held (c.tc : Thread nD τ) (Pipeline.arrRefs (τ := τ) spec0) (Gen.V10 m (outs m) c) ∗ (∃ r, prngReg c r)
    ∗ (StableHlo.held (c.tc : Thread nD τ) restRefs (Gen.V10 m (outs m) c) ∗ emp) ∗ semVal (barC c) 0 ∗ ∃ Wd, owes (c : Thread nD τ) (0 : CellTallies nD τ sig ℕ) Wd) ⊢ _
  rw [held_split]
  unfold aside owing
  iintro ⟨Ha, -, ⟨Hr, -⟩, Hb, HO⟩
  isplitl [Ha Hr]
  · isplitl [Ha]; · iexact Ha
    iexact Hr
  isplitl [Hb]; · iexact Hb
  iexact HO

theorem read_arg (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

set_option backward.isDefEq.respectTransparency.types false in
/-- From any memory with zero counters, every weakly fair execution of the program terminates, and in every final state the arguments are as they were, the
    result holds on every device every device's block times the second argument, and every counter of the machine is at zero. -/
theorem run_main (hT : TabOk m) (ρ : Dev nD → PrngReg) : θ_run Cert.KernelIdeal.defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v53) = (show Buf (Elt F) (outL c) from Fout (prodAt m c) c)) ∧ r.2.sem = fun _ => 0) :=
  Pipeline.θ_run_regions_kit_dev_sems (pcfgs (F := F)) Gen.adm (pdats m) 0 Gen.cellOf_inj EP defs₀ noVar L lv m ρ main
    (Gen.segs m noVar L lv (aside m) 0 (pdats m) (region m noVar hT))
    (fun c Q => by
      rewrite [Gen.main_chain c, Pipeline.Seg.run_eq_chain,
        show (Gen.segs m noVar L lv (aside m) 0 (pdats m) (region m noVar hT) c).map Pipeline.Seg.prog = [
          StableHlo.seq (Gen.hostOps0 c),
          StableHlo.seq Gen.hostOps0_1,
          StableHlo.seq Gen.hostOps0_2,
          StableHlo.seq Gen.hostOps0_3,
          StableHlo.seq Gen.hostOps0_4,
          StableHlo.seq Gen.hostOps0_5,
          StableHlo.seq Gen.hostOps0_6,
          StableHlo.seq Gen.hostOps0_7,
          StableHlo.seq Gen.hostOps0_8,
          Prog.lift (.customCall (Pipeline.entry 0) ()) ] from rfl]
      dsimp (config := { failIfUnchanged := false }) only
      exact .rfl)
    (fun c => by simp only [Gen.segs, Pipeline.Seg.pipes_host, Pipeline.Seg.pipes_region, Pipeline.Seg.pipes_nil]; decide)
    (O₀ := OI) (hL := L_of_ne) (G := seed) (u₀ := u₀) (hu₀ := seed_of)
    (T₀ := fun c => iprop(StableHlo.held (c : Thread nD τ) (Pipeline.ucRefs τ sig) (Gen.V0 m c) ∗ aside m 0 c))
    (Tₙ := fun c => iprop(StableHlo.held (c : Thread nD τ) (Pipeline.ucRefs τ sig) (Gen.V10 m (outs m) c) ∗ semVal (barC c) 0))
    (hch := fun c => ⟨.rfl, .rfl, .rfl, .rfl, .rfl, .rfl, .rfl, .rfl, .rfl, region_pre m noVar hT c, (region_post m noVar hT c).trans (by
      unfold aside owing
      iintro ⟨Hh, Hb, HO⟩
      isplitl [Hh Hb]
      · isplitl [Hh]; · iexact Hh
        iexact Hb
      iexact HO)⟩)
    (hinit := launch m ρ)
    (QY := fun c s => (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_v53) = (show Buf (Elt F) (outL c) from Fout (prodAt m c) c)) ∧ s.sem (barC c) = 0)
    (hfin := fun c s' => by
      dsimp only
      unfold StableHlo.held
      iintro ⟨⟨Hh, Hb⟩, HSI⟩
      icombine HSI Hb gives %hb
      ihave Hr := (pointsTo_read_all (Pipeline.ucRefs τ sig) (fun b => ((c : Thread nD τ).1, b)) (Gen.V10 m (outs m) c) s') $$ [Hh HSI]
      · isplitl [Hh]; · iexact Hh
        iexact HSI
      icases Hr with ⟨%h, HSI⟩
      imodintro
      isplitr
      · ipureintro
        exact ⟨⟨(h (Proc.devRef .tc main_arg0) (read_arg main_arg0 (by decide))).trans (Gen.V10_main_arg0 m (outs m) c),
          (h (Proc.devRef .tc main_arg1) (read_arg main_arg1 (by decide))).trans (Gen.V10_main_arg1 m (outs m) c),
          (h (Proc.devRef .tc main_v53) (read_arg main_v53 (by decide))).trans (outs_main m c)⟩, by simpa using hb⟩
      iexact HSI)
    (hQ := fun s h hs => ⟨fun c => (h c).1, sem_eq_zero hs fun c sm hsm => by
      obtain rfl := unscoped_bar sm hsm
      exact (h c).2⟩)

end Launch

end Cert.KernelIdeal.RingMM

end
-- ==== Proof.Product.lean ====
/-
  The result over the extended reals: blocks times the second argument, laid one below the other, are the whole product.
-/
module

public import proofs.«01_k».proof.Proof.Call
public import proofs.«01_k».proof.Proof.Gen.ReferenceIdeal
public import Idealize.ShloMosaic.Lib.StackMember
public import Idealize.ShloMosaic.Lib.KernelVsHost

@[expose] public section

noncomputable section

set_option maxRecDepth 8192

namespace Cert.KernelIdeal.RingMM

open Idealize.ShloMosaic Idealize.ShloMosaic.TcCoe Idealize.ShloMosaic.Tactic Idealize.ShloMosaic.ValueIdx
open Facts₀ Facts
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (m : (ℓ : Loc nD τ sig) → Buf (Elt F) ℓ)

/-- The kernel multiplies the block each device was given. -/
theorem argA_eq (x : Dev nD) (i : S1536x768.Idx) : argA m x i = m ((x : Thread nD τ).loc main_arg0) i :=
  congrFun ((outs_ne m x _ (by decide)).symm.trans (Gen.V10_main_arg0 m (outs m) x)) i

/-- The kernel multiplies by the second argument each device was given. -/
theorem argB_eq (c : Dev nD) (i : S768x1536.Idx) : argB m c i = m ((c : Thread nD τ).loc main_arg1) i :=
  congrFun ((outs_ne m c _ (by decide)).symm.trans (Gen.V10_main_arg1 m (outs m) c)) i

/-! ## At the extended reals -/

/-- The product of a block and the second argument, entry by entry: the sum over the 768 contracted positions. -/
theorem prod_entry (a : S1536x768.Idx → Elt Ideal .bf16) (b : S768x1536.Idx → Elt Ideal .bf16) (r q : Fin 1536) :
    (Gen.k0_pay2 (F := Ideal) (Gen.k0_pay3 b) (slotVal a)) (ValueIdx.ix2 (n0 := 1536) (n1 := 1536) r q)
      = ∑ k : Fin 768, (show EReal from a (ValueIdx.ix2 (n0 := 1536) (n1 := 768) r k)) * (show EReal from b (ValueIdx.ix2 (n0 := 768) (n1 := 1536) k q)) := by
  rw [← own_val]
  unfold Gen.k0_pay7 Gen.k0_pay3 Gen.k0_pay4
  dsimp only
  rw [shapeCast_id, shapeCast_id, shapeCast_id, matmul_zero_eq_dotGeneral]
  exact StackMember.dotGeneral_plain_apply (φ₁ := .bf16) (φ₂ := .bf16) (m := 1536) (n := 1536) (k := 768) none a b r q

/-- The reference's product of the whole first array and the second, entry by entry. -/
theorem whole_entry (a : Cert.ReferenceIdeal.S49152x768.Idx → Elt Ideal .bf16) (b : Cert.ReferenceIdeal.S768x1536.Idx → Elt Ideal .bf16)
    (r : Fin 49152) (q : Fin 1536) :
    (truncf .bf16 (Host.dotGeneral (F := Ideal) (φ₁ := .bf16) (φ₂ := .bf16) Cert.ReferenceIdeal.dot_S49152x768_S768x1536_S49152x1536_1_0_0_1_n_n none a b)
        Cert.ReferenceIdeal.Facts₀.bitsLt_bf16_f32) (ValueIdx.ix2 (n0 := 49152) (n1 := 1536) r q)
      = ∑ k : Fin 768, (show EReal from a (ValueIdx.ix2 (n0 := 49152) (n1 := 768) r k)) * (show EReal from b (ValueIdx.ix2 (n0 := 768) (n1 := 1536) k q)) :=
  StackMember.dotGeneral_plain_apply (φ₁ := .bf16) (φ₂ := .bf16) (m := 49152) (n := 1536) (k := 768) none a b r q

/-- Where every device was given its block of rows of `a`, and `b`: the result every device ends with is the product of `a` and `b`. -/
theorem result_eq (m : (ℓ : Loc nD τ sig) → Buf (Elt Ideal) ℓ) (a : Cert.ReferenceIdeal.S49152x768.Idx → Elt Ideal .bf16)
    (b : Cert.ReferenceIdeal.S768x1536.Idx → Elt Ideal .bf16)
    (hA : ∀ c : Dev nD, m ((c : Thread nD τ).loc main_arg0) = Layout.block ⟨2, ![1536, 768]⟩ ⟨2, ![49152, 768]⟩ 0 32 c a)
    (hB : ∀ c : Dev nD, m ((c : Thread nD τ).loc main_arg1) = b) (c : Dev nD) (j : S49152x1536.Idx) :
    Fout (prodAt m c) c j
      = (truncf .bf16 (Host.dotGeneral (F := Ideal) (φ₁ := .bf16) (φ₂ := .bf16) Cert.ReferenceIdeal.dot_S49152x768_S768x1536_S49152x1536_1_0_0_1_n_n none a b)
        Cert.ReferenceIdeal.Facts₀.bitsLt_bf16_f32) j := by
  have ej : j = ValueIdx.ix2 (n0 := 49152) (n1 := 1536) (j 0) (j 1) := by funext x; fin_cases x <;> rfl
  have e := whole_entry a b (j 0) (j 1)
  rw [← ej] at e
  rw [e]
  unfold Fout prodAt
  refine (prod_entry _ _ _ _).trans (Finset.sum_congr rfl fun k _ => ?_)
  rw [argA_eq, argB_eq, hA, hB]
  refine congrArg₂ (fun x y : EReal => x * y) ?_ rfl
  refine congrArg a (funext fun x => Fin.ext ?_)
  have h0 : (j 0).val / 1536 * 1536 + (j 0).val % 1536 = (j 0).val := Nat.div_add_mod' _ _
  fin_cases x
  · exact h0
  · rfl

end Cert.KernelIdeal.RingMM

end
-- ==== Proof.Same.lean ====
/-
  The kernel's program and its idealization have the same text: read at the same floats they are the same program.
-/
module

public import proofs.«01_k».proof.Proof.Gen.Kernel
public import proofs.«01_k».proof.Proof.Gen.Kernel.Launch
public import proofs.«01_k».proof.Proof.Gen.KernelIdeal
public import proofs.«01_k».proof.Proof.Gen.KernelIdeal.Launch

@[expose] public section

noncomputable section

namespace Cert.Same

open Idealize.ShloMosaic Idealize.SL.Sem

variable {F : FTy → Type} [FloatOps F]

/-- The two tables of bodies are one. -/
theorem bodies_eq : Cert.Kernel.defs₀ (F := F) = Cert.KernelIdeal.defs₀ (F := F) := by
  funext p ℓ a
  have h : ℓ = (0 : Fin 1) := Subsingleton.elim (α := Fin 1) _ _
  subst h
  cases p
  · obtain ⟨t, s⟩ := a
    exact rfl
  all_goals rfl

/-- The two tables of labels are one. -/
theorem defs_eq : Cert.Kernel.defs (F := F) = Cert.KernelIdeal.defs (F := F) :=
  congrArg (Pipeline.defs Cert.KernelIdeal.pcfgs) bodies_eq

/-- The two host programs are one. -/
theorem main_eq : Cert.Kernel.main (F := F) = Cert.KernelIdeal.main (F := F) := by
  funext c
  exact (Cert.Kernel.Gen.main_chain c).trans (Eq.trans (by rfl) (Cert.KernelIdeal.Gen.main_chain c).symm)

end Cert.Same

end
-- ==== Proof.lean ====
/-
  The certificate's claims, from the program's run (Proof/Run.lean), the table the host computes (Proof/Meta.lean), the
  equation between the blocks' products and the whole product (Proof/Product.lean), and the kernel's program being its
  idealization's (Proof/Same.lean).
-/
module

public import proofs.«01_k».proof.Defs
public import proofs.«01_k».proof.Proof.Meta
public import proofs.«01_k».proof.Proof.Run
public import proofs.«01_k».proof.Proof.Product
public import proofs.«01_k».proof.Proof.Same
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem Cert.KernelIdeal.RingMM

/-- The kernel at machine floats terminates without fault, leaves its arguments as they were and every counter at zero. -/
theorem frame_kernel : Cert.quiescent_Kernel := fun m ρ _ => by
  rw [Cert.Same.defs_eq, Cert.Same.main_eq]
  exact (θ_run Cert.KernelIdeal.defs _ _).mono (fun _ h => ⟨fun c => ⟨(h.1 c).1, (h.1 c).2.1⟩, h.2⟩) (run_main (F := Bits) m (tab_ok m) ρ)

/-- The kernel at the extended reals terminates without fault, leaves its arguments as they were and every counter at zero. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m (tab_ok m) ρ)

/-- The reference terminates without fault and leaves its arguments as they were; it has no counter. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩) (Cert.ReferenceIdeal.Value.run (F := Ideal) m ρ)

/-- Over the extended reals every device of the kernel ends with the reference's whole product. -/
theorem value : Cert.algebraic_KernelIdeal_ReferenceIdeal := fun m ρ m' ρ' _ hargs =>
  ⟨_, (θ_run Cert.KernelIdeal.defs _ _).mono
      (fun _ h c => ⟨(h.1 c).2.2.trans (funext (result_eq m _ _ (fun c => (hargs c).1) (fun c => (hargs c).2) c)), (h.1 c).1, (h.1 c).2.1⟩)
      (run_main (F := Ideal) m (tab_ok m) ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
